-- ==== Defs.lean ====
def Pre_Kernel [hPre_bands_as_built : Cert.Pre_bands_as_built.Facts] (m : (ℓ : Loc Cert.Kernel.nD Cert.Kernel.τ Cert.Kernel.sig) → Buf (Elt Bits) ℓ) : Prop :=
  ∀ c : Dev Cert.Kernel.nD,
    (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.2.2.2.2.1 = (fun _ => 1#1)
    ∧ (Cert.Pre_bands_as_built.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))).2.2.2.2.2.2.2.2.2.2.2.2.2.2.2 = (fun _ => 1#1)

def Pre_KernelIdeal [hPre_bands_as_built : Cert.Pre_bands_as_built.Facts] (m : (ℓ : Loc Cert.KernelIdeal.nD Cert.KernelIdeal.τ Cert.KernelIdeal.sig) → Buf (Elt Ideal) ℓ) : Prop :=
  ∀ c : Dev Cert.KernelIdeal.nD,
    (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.1 = (fun _ => 1#1)
    ∧ (Cert.Pre_bands_as_built.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))).2.2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bands_as_built [hPre_bands_as_built : Cert.Pre_bands_as_built.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.1 = (fun _ => 1#1)
    ∧ (Cert.Pre_bands_as_built.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))).2.2.2.2.2.2.2.2.2.2.2.2.2.2.2 = (fun _ => 1#1)

def quiescent_Kernel [hKernel : Cert.Kernel.Facts] [hPre_bands_as_built : Cert.Pre_bands_as_built.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_bands_as_built : Cert.Pre_bands_as_built.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_ReferenceIdeal_pre_bands_as_built [hReferenceIdeal : Cert.ReferenceIdeal.Facts] [hPre_bands_as_built : Cert.Pre_bands_as_built.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bands_as_built m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_bands_as_built : Cert.Pre_bands_as_built.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_bands_as_built : Cert.Pre_bands_as_built.Facts),
    quiescent_Kernel (hKernel := hKernel) (hPre_bands_as_built := hPre_bands_as_built)
    ∧ quiescent_KernelIdeal (hKernelIdeal := hKernelIdeal) (hPre_bands_as_built := hPre_bands_as_built)
    ∧ quiescent_ReferenceIdeal (hReferenceIdeal := hReferenceIdeal)
    ∧ quiescent_ReferenceIdeal_pre_bands_as_built (hReferenceIdeal := hReferenceIdeal) (hPre_bands_as_built := hPre_bands_as_built)
    ∧ preserves_Kernel_KernelIdeal
    ∧ algebraic_KernelIdeal_ReferenceIdeal (hKernelIdeal := hKernelIdeal) (hReferenceIdeal := hReferenceIdeal) (hPre_bands_as_built := hPre_bands_as_built)
-- ==== Pre_bands_as_built.lean ====
abbrev S8x4x256x1025 : Shape := ⟨4, ![8, 4, 256, 1025]⟩
abbrev S4x125x128 : Shape := ⟨3, ![4, 125, 128]⟩
abbrev S128 : Shape := ⟨1, ![128]⟩
abbrev S1025 : Shape := ⟨1, ![1025]⟩
abbrev S42x31 : Shape := ⟨2, ![42, 31]⟩
abbrev S42 : Shape := ⟨1, ![42]⟩
abbrev S10x61 : Shape := ⟨2, ![10, 61]⟩
abbrev S10 : Shape := ⟨1, ![10]⟩
abbrev S7x97 : Shape := ⟨2, ![7, 97]⟩
abbrev S7 : Shape := ⟨1, ![7]⟩
abbrev S5x125 : Shape := ⟨2, ![5, 125]⟩
abbrev S5 : Shape := ⟨1, ![5]⟩
abbrev S42x1 : Shape := ⟨2, ![42, 1]⟩
abbrev S_ : Shape := ⟨0, ![]⟩
abbrev S10x1 : Shape := ⟨2, ![10, 1]⟩
abbrev S7x1 : Shape := ⟨2, ![7, 1]⟩
abbrev S5x1 : Shape := ⟨2, ![5, 1]⟩

class Facts : Prop where
  slices_S42x31_S42x1_0_0 : S42x31.Slices ![0, 0] S42x1
  bcast_S_S42x31 : S_.BroadcastsInDim S42x31 (![] : Fin 0 → Fin S42x31.rank)
  bcast_S_S42x1 : S_.BroadcastsInDim S42x1 (![] : Fin 0 → Fin S42x1.rank)
  bcast_S42x1_S42x31_0_1 : S42x1.BroadcastsInDim S42x31 (![0, 1] : Fin 2 → Fin S42x31.rank)
  bcast_S_S42 : S_.BroadcastsInDim S42 (![] : Fin 0 → Fin S42.rank)
  slices_S10x61_S10x1_0_0 : S10x61.Slices ![0, 0] S10x1
  bcast_S_S10x61 : S_.BroadcastsInDim S10x61 (![] : Fin 0 → Fin S10x61.rank)
  bcast_S_S10x1 : S_.BroadcastsInDim S10x1 (![] : Fin 0 → Fin S10x1.rank)
  bcast_S10x1_S10x61_0_1 : S10x1.BroadcastsInDim S10x61 (![0, 1] : Fin 2 → Fin S10x61.rank)
  bcast_S_S10 : S_.BroadcastsInDim S10 (![] : Fin 0 → Fin S10.rank)
  slices_S7x97_S7x1_0_0 : S7x97.Slices ![0, 0] S7x1
  bcast_S_S7x97 : S_.BroadcastsInDim S7x97 (![] : Fin 0 → Fin S7x97.rank)
  bcast_S_S7x1 : S_.BroadcastsInDim S7x1 (![] : Fin 0 → Fin S7x1.rank)
  bcast_S7x1_S7x97_0_1 : S7x1.BroadcastsInDim S7x97 (![0, 1] : Fin 2 → Fin S7x97.rank)
  bcast_S_S7 : S_.BroadcastsInDim S7 (![] : Fin 0 → Fin S7.rank)
  slices_S5x125_S5x1_0_0 : S5x125.Slices ![0, 0] S5x1
  bcast_S_S5x125 : S_.BroadcastsInDim S5x125 (![] : Fin 0 → Fin S5x125.rank)
  bcast_S_S5x1 : S_.BroadcastsInDim S5x1 (![] : Fin 0 → Fin S5x1.rank)
  bcast_S5x1_S5x125_0_1 : S5x1.BroadcastsInDim S5x125 (![0, 1] : Fin 2 → Fin S5x125.rank)
  bcast_S_S5 : S_.BroadcastsInDim S5 (![] : Fin 0 → Fin S5.rank)

variable [Facts]

def fn_part4 {F : FTy → Type} [FloatOps F] (main_arg16 : IVec S5x125 32) (main_arg18 : FVec F S5x125 .f32) (main_arg19 : IVec S5 32) (main_v7 : IVec S42x31 1) (main_v9 : IVec S42x1 1) (main_v18 : IVec S42x31 1) (main_v21 : IVec S42 1) (main_v29 : IVec S10x61 1) (main_v31 : IVec S10x1 1) (main_v40 : IVec S10x61 1) (main_v43 : IVec S10 1) (main_v51 : IVec S7x97 1) (main_v53 : IVec S7x1 1) (main_v62 : IVec S7x97 1) (main_v65 : IVec S7 1) (main_v66 : IVec S5x125 32) (main_v67 : IVec S5 32) (main_v68 : IVec S5x1 32) (main_v73 : IVec S5x125 1) (main_v74 : IVec S5x1 32) : IVec S42x31 1 × IVec S42x1 1 × IVec S42x31 1 × IVec S42 1 × IVec S10x61 1 × IVec S10x1 1 × IVec S10x61 1 × IVec S10 1 × IVec S7x97 1 × IVec S7x1 1 × IVec S7x97 1 × IVec S7 1 × IVec S5x125 1 × IVec S5x1 1 × IVec S5x125 1 × IVec S5 1 :=
  let main_v75 : IVec S5x1 1 := cmpi .slt main_v68 main_v74
  let main_cst_19 : FVec F S_ .f32 := constant S_ .f32 0x00000000#32
  let main_v76 : FVec F S5x125 .f32 := broadcastInDim S5x125 ![] bcast_S_S5x125 main_cst_19
  let main_v77 : IVec S5x125 1 := cmpf .oeq main_arg18 main_v76
  let main_cst_20 : FVec F S_ .f32 := constant S_ .f32 0x3F800000#32
  let main_v78 : FVec F S5x125 .f32 := broadcastInDim S5x125 ![] bcast_S_S5x125 main_cst_20
  let main_v79 : IVec S5x125 1 := cmpf .oeq main_arg18 main_v78
  let main_v80 : IVec S5x125 32 := broadcastInDim S5x125 ![0, 1] bcast_S5x1_S5x125_0_1 main_v68
  let main_v81 : IVec S5x125 32 := addi main_v80 main_v66
  let main_v82 : IVec S5x125 1 := cmpi .eq main_arg16 main_v81
  let main_v83 : IVec S5x125 1 := andi main_v79 main_v82
  let main_v84 : IVec S5x125 1 := ori main_v77 main_v83
  let main_c_21 : IVec S_ 32 := constantI S_ 32 59#32
  let main_v85 : IVec S5 32 := broadcastInDim S5 ![] bcast_S_S5 main_c_21
  let main_v86 : IVec S5 32 := addi main_v67 main_v85
  let main_v87 : IVec S5 1 := cmpi .eq main_arg19 main_v86
  (main_v7, main_v9, main_v18, main_v21, main_v29, main_v31, main_v40, main_v43, main_v51, main_v53, main_v62, main_v65, main_v73, main_v75, main_v84, main_v87)

def fn_part3 {F : FTy → Type} [FloatOps F] (main_arg12 : IVec S7x97 32) (main_arg14 : FVec F S7x97 .f32) (main_arg15 : IVec S7 32) (main_arg16 : IVec S5x125 32) (main_arg18 : FVec F S5x125 .f32) (main_arg19 : IVec S5 32) (main_v7 : IVec S42x31 1) (main_v9 : IVec S42x1 1) (main_v18 : IVec S42x31 1) (main_v21 : IVec S42 1) (main_v29 : IVec S10x61 1) (main_v31 : IVec S10x1 1) (main_v40 : IVec S10x61 1) (main_v43 : IVec S10 1) (main_v44 : IVec S7x97 32) (main_v45 : IVec S7 32) (main_v46 : IVec S7x1 32) (main_v51 : IVec S7x97 1) (main_v53 : IVec S7x1 1) (main_v55 : IVec S7x97 1) : IVec S42x31 1 × IVec S42x1 1 × IVec S42x31 1 × IVec S42 1 × IVec S10x61 1 × IVec S10x1 1 × IVec S10x61 1 × IVec S10 1 × IVec S7x97 1 × IVec S7x1 1 × IVec S7x97 1 × IVec S7 1 × IVec S5x125 1 × IVec S5x1 1 × IVec S5x125 1 × IVec S5 1 :=
  let main_cst_14 : FVec F S_ .f32 := constant S_ .f32 0x3F800000#32
  let main_v56 : FVec F S7x97 .f32 := broadcastInDim S7x97 ![] bcast_S_S7x97 main_cst_14
  let main_v57 : IVec S7x97 1 := cmpf .oeq main_arg14 main_v56
  let main_v58 : IVec S7x97 32 := broadcastInDim S7x97 ![0, 1] bcast_S7x1_S7x97_0_1 main_v46
  let main_v59 : IVec S7x97 32 := addi main_v58 main_v44
  let main_v60 : IVec S7x97 1 := cmpi .eq main_arg12 main_v59
  let main_v61 : IVec S7x97 1 := andi main_v57 main_v60
  let main_v62 : IVec S7x97 1 := ori main_v55 main_v61
  let main_c_15 : IVec S_ 32 := constantI S_ 32 52#32
  let main_v63 : IVec S7 32 := broadcastInDim S7 ![] bcast_S_S7 main_c_15
  let main_v64 : IVec S7 32 := addi main_v45 main_v63
  let main_v65 : IVec S7 1 := cmpi .eq main_arg15 main_v64
  let main_v66 : IVec S5x125 32 := iotaInDim S5x125 32 1
  let main_v67 : IVec S5 32 := iotaInDim S5 32 0
  let main_v68 : IVec S5x1 32 := (extractStridedSlice S5x1 ![0, 0] · slices_S5x125_S5x1_0_0) main_arg16
  let main_c_16 : IVec S_ 32 := constantI S_ 32 0#32
  let main_v69 : IVec S5x125 32 := broadcastInDim S5x125 ![] bcast_S_S5x125 main_c_16
  let main_v70 : IVec S5x125 1 := cmpi .sge main_arg16 main_v69
  let main_c_17 : IVec S_ 32 := constantI S_ 32 1025#32
  let main_v71 : IVec S5x125 32 := broadcastInDim S5x125 ![] bcast_S_S5x125 main_c_17
  let main_v72 : IVec S5x125 1 := cmpi .slt main_arg16 main_v71
  let main_v73 : IVec S5x125 1 := andi main_v70 main_v72
  let main_c_18 : IVec S_ 32 := constantI S_ 32 1024#32
  let main_v74 : IVec S5x1 32 := broadcastInDim S5x1 ![] bcast_S_S5x1 main_c_18
  fn_part4 (F := F) main_arg16 main_arg18 main_arg19 main_v7 main_v9 main_v18 main_v21 main_v29 main_v31 main_v40 main_v43 main_v51 main_v53 main_v62 main_v65 main_v66 main_v67 main_v68 main_v73 main_v74

def fn_part2 {F : FTy → Type} [FloatOps F] (main_arg8 : IVec S10x61 32) (main_arg11 : IVec S10 32) (main_arg12 : IVec S7x97 32) (main_arg14 : FVec F S7x97 .f32) (main_arg15 : IVec S7 32) (main_arg16 : IVec S5x125 32) (main_arg18 : FVec F S5x125 .f32) (main_arg19 : IVec S5 32) (main_v7 : IVec S42x31 1) (main_v9 : IVec S42x1 1) (main_v18 : IVec S42x31 1) (main_v21 : IVec S42 1) (main_v22 : IVec S10x61 32) (main_v23 : IVec S10 32) (main_v29 : IVec S10x61 1) (main_v31 : IVec S10x1 1) (main_v33 : IVec S10x61 1) (main_v35 : IVec S10x61 1) (main_v36 : IVec S10x61 32) : IVec S42x31 1 × IVec S42x1 1 × IVec S42x31 1 × IVec S42 1 × IVec S10x61 1 × IVec S10x1 1 × IVec S10x61 1 × IVec S10 1 × IVec S7x97 1 × IVec S7x1 1 × IVec S7x97 1 × IVec S7 1 × IVec S5x125 1 × IVec S5x1 1 × IVec S5x125 1 × IVec S5 1 :=
  let main_v37 : IVec S10x61 32 := addi main_v36 main_v22
  let main_v38 : IVec S10x61 1 := cmpi .eq main_arg8 main_v37
  let main_v39 : IVec S10x61 1 := andi main_v35 main_v38
  let main_v40 : IVec S10x61 1 := ori main_v33 main_v39
  let main_c_9 : IVec S_ 32 := constantI S_ 32 42#32
  let main_v41 : IVec S10 32 := broadcastInDim S10 ![] bcast_S_S10 main_c_9
  let main_v42 : IVec S10 32 := addi main_v23 main_v41
  let main_v43 : IVec S10 1 := cmpi .eq main_arg11 main_v42
  let main_v44 : IVec S7x97 32 := iotaInDim S7x97 32 1
  let main_v45 : IVec S7 32 := iotaInDim S7 32 0
  let main_v46 : IVec S7x1 32 := (extractStridedSlice S7x1 ![0, 0] · slices_S7x97_S7x1_0_0) main_arg12
  let main_c_10 : IVec S_ 32 := constantI S_ 32 0#32
  let main_v47 : IVec S7x97 32 := broadcastInDim S7x97 ![] bcast_S_S7x97 main_c_10
  let main_v48 : IVec S7x97 1 := cmpi .sge main_arg12 main_v47
  let main_c_11 : IVec S_ 32 := constantI S_ 32 1025#32
  let main_v49 : IVec S7x97 32 := broadcastInDim S7x97 ![] bcast_S_S7x97 main_c_11
  let main_v50 : IVec S7x97 1 := cmpi .slt main_arg12 main_v49
  let main_v51 : IVec S7x97 1 := andi main_v48 main_v50
  let main_c_12 : IVec S_ 32 := constantI S_ 32 1024#32
  let main_v52 : IVec S7x1 32 := broadcastInDim S7x1 ![] bcast_S_S7x1 main_c_12
  let main_v53 : IVec S7x1 1 := cmpi .slt main_v46 main_v52
  let main_cst_13 : FVec F S_ .f32 := constant S_ .f32 0x00000000#32
  let main_v54 : FVec F S7x97 .f32 := broadcastInDim S7x97 ![] bcast_S_S7x97 main_cst_13
  let main_v55 : IVec S7x97 1 := cmpf .oeq main_arg14 main_v54
  fn_part3 (F := F) main_arg12 main_arg14 main_arg15 main_arg16 main_arg18 main_arg19 main_v7 main_v9 main_v18 main_v21 main_v29 main_v31 main_v40 main_v43 main_v44 main_v45 main_v46 main_v51 main_v53 main_v55

def fn_part1 {F : FTy → Type} [FloatOps F] (main_arg7 : IVec S42 32) (main_arg8 : IVec S10x61 32) (main_arg10 : FVec F S10x61 .f32) (main_arg11 : IVec S10 32) (main_arg12 : IVec S7x97 32) (main_arg14 : FVec F S7x97 .f32) (main_arg15 : IVec S7 32) (main_arg16 : IVec S5x125 32) (main_arg18 : FVec F S5x125 .f32) (main_arg19 : IVec S5 32) (main_v1 : IVec S42 32) (main_v7 : IVec S42x31 1) (main_v9 : IVec S42x1 1) (main_v18 : IVec S42x31 1) : IVec S42x31 1 × IVec S42x1 1 × IVec S42x31 1 × IVec S42 1 × IVec S10x61 1 × IVec S10x1 1 × IVec S10x61 1 × IVec S10 1 × IVec S7x97 1 × IVec S7x1 1 × IVec S7x97 1 × IVec S7 1 × IVec S5x125 1 × IVec S5x1 1 × IVec S5x125 1 × IVec S5 1 :=
  let main_c_3 : IVec S_ 32 := constantI S_ 32 0#32
  let main_v19 : IVec S42 32 := broadcastInDim S42 ![] bcast_S_S42 main_c_3
  let main_v20 : IVec S42 32 := addi main_v1 main_v19
  let main_v21 : IVec S42 1 := cmpi .eq main_arg7 main_v20
  let main_v22 : IVec S10x61 32 := iotaInDim S10x61 32 1
  let main_v23 : IVec S10 32 := iotaInDim S10 32 0
  let main_v24 : IVec S10x1 32 := (extractStridedSlice S10x1 ![0, 0] · slices_S10x61_S10x1_0_0) main_arg8
  let main_c_4 : IVec S_ 32 := constantI S_ 32 0#32
  let main_v25 : IVec S10x61 32 := broadcastInDim S10x61 ![] bcast_S_S10x61 main_c_4
  let main_v26 : IVec S10x61 1 := cmpi .sge main_arg8 main_v25
  let main_c_5 : IVec S_ 32 := constantI S_ 32 1025#32
  let main_v27 : IVec S10x61 32 := broadcastInDim S10x61 ![] bcast_S_S10x61 main_c_5
  let main_v28 : IVec S10x61 1 := cmpi .slt main_arg8 main_v27
  let main_v29 : IVec S10x61 1 := andi main_v26 main_v28
  let main_c_6 : IVec S_ 32 := constantI S_ 32 1024#32
  let main_v30 : IVec S10x1 32 := broadcastInDim S10x1 ![] bcast_S_S10x1 main_c_6
  let main_v31 : IVec S10x1 1 := cmpi .slt main_v24 main_v30
  let main_cst_7 : FVec F S_ .f32 := constant S_ .f32 0x00000000#32
  let main_v32 : FVec F S10x61 .f32 := broadcastInDim S10x61 ![] bcast_S_S10x61 main_cst_7
  let main_v33 : IVec S10x61 1 := cmpf .oeq main_arg10 main_v32
  let main_cst_8 : FVec F S_ .f32 := constant S_ .f32 0x3F800000#32
  let main_v34 : FVec F S10x61 .f32 := broadcastInDim S10x61 ![] bcast_S_S10x61 main_cst_8
  let main_v35 : IVec S10x61 1 := cmpf .oeq main_arg10 main_v34
  let main_v36 : IVec S10x61 32 := broadcastInDim S10x61 ![0, 1] bcast_S10x1_S10x61_0_1 main_v24
  fn_part2 (F := F) main_arg8 main_arg11 main_arg12 main_arg14 main_arg15 main_arg16 main_arg18 main_arg19 main_v7 main_v9 main_v18 main_v21 main_v22 main_v23 main_v29 main_v31 main_v33 main_v35 main_v36

def fn {F : FTy → Type} [FloatOps F] (main_arg0 : FVec F S8x4x256x1025 .f32) (main_arg1 : FVec F S4x125x128 .f32) (main_arg2 : FVec F S128 .f32) (main_arg3 : FVec F S1025 .f32) (main_arg4 : IVec S42x31 32) (main_arg5 : FVec F S42x31 .f32) (main_arg6 : FVec F S42x31 .f32) (main_arg7 : IVec S42 32) (main_arg8 : IVec S10x61 32) (main_arg9 : FVec F S10x61 .f32) (main_arg10 : FVec F S10x61 .f32) (main_arg11 : IVec S10 32) (main_arg12 : IVec S7x97 32) (main_arg13 : FVec F S7x97 .f32) (main_arg14 : FVec F S7x97 .f32) (main_arg15 : IVec S7 32) (main_arg16 : IVec S5x125 32) (main_arg17 : FVec F S5x125 .f32) (main_arg18 : FVec F S5x125 .f32) (main_arg19 : IVec S5 32) : IVec S42x31 1 × IVec S42x1 1 × IVec S42x31 1 × IVec S42 1 × IVec S10x61 1 × IVec S10x1 1 × IVec S10x61 1 × IVec S10 1 × IVec S7x97 1 × IVec S7x1 1 × IVec S7x97 1 × IVec S7 1 × IVec S5x125 1 × IVec S5x1 1 × IVec S5x125 1 × IVec S5 1 :=
  let main_v0 : IVec S42x31 32 := iotaInDim S42x31 32 1
  let main_v1 : IVec S42 32 := iotaInDim S42 32 0
  let main_v2 : IVec S42x1 32 := (extractStridedSlice S42x1 ![0, 0] · slices_S42x31_S42x1_0_0) main_arg4
  let main_c : IVec S_ 32 := constantI S_ 32 0#32
  let main_v3 : IVec S42x31 32 := broadcastInDim S42x31 ![] bcast_S_S42x31 main_c
  let main_v4 : IVec S42x31 1 := cmpi .sge main_arg4 main_v3
  let main_c_0 : IVec S_ 32 := constantI S_ 32 1025#32
  let main_v5 : IVec S42x31 32 := broadcastInDim S42x31 ![] bcast_S_S42x31 main_c_0
  let main_v6 : IVec S42x31 1 := cmpi .slt main_arg4 main_v5
  let main_v7 : IVec S42x31 1 := andi main_v4 main_v6
  let main_c_1 : IVec S_ 32 := constantI S_ 32 1024#32
  let main_v8 : IVec S42x1 32 := broadcastInDim S42x1 ![] bcast_S_S42x1 main_c_1
  let main_v9 : IVec S42x1 1 := cmpi .slt main_v2 main_v8
  let main_cst : FVec F S_ .f32 := constant S_ .f32 0x00000000#32
  let main_v10 : FVec F S42x31 .f32 := broadcastInDim S42x31 ![] bcast_S_S42x31 main_cst
  let main_v11 : IVec S42x31 1 := cmpf .oeq main_arg6 main_v10
  let main_cst_2 : FVec F S_ .f32 := constant S_ .f32 0x3F800000#32
  let main_v12 : FVec F S42x31 .f32 := broadcastInDim S42x31 ![] bcast_S_S42x31 main_cst_2
  let main_v13 : IVec S42x31 1 := cmpf .oeq main_arg6 main_v12
  let main_v14 : IVec S42x31 32 := broadcastInDim S42x31 ![0, 1] bcast_S42x1_S42x31_0_1 main_v2
  let main_v15 : IVec S42x31 32 := addi main_v14 main_v0
  let main_v16 : IVec S42x31 1 := cmpi .eq main_arg4 main_v15
  let main_v17 : IVec S42x31 1 := andi main_v13 main_v16
  let main_v18 : IVec S42x31 1 := ori main_v11 main_v17
  fn_part1 (F := F) main_arg7 main_arg8 main_arg10 main_arg11 main_arg12 main_arg14 main_arg15 main_arg16 main_arg18 main_arg19 main_v1 main_v7 main_v9 main_v18
-- ==== Kernel.lean ====
abbrev S8x4x256x1025 : Shape := ⟨4, ![8, 4, 256, 1025]⟩
abbrev S4x125x128 : Shape := ⟨3, ![4, 125, 128]⟩
abbrev S128 : Shape := ⟨1, ![128]⟩
abbrev S1025 : Shape := ⟨1, ![1025]⟩
abbrev S42x31 : Shape := ⟨2, ![42, 31]⟩
abbrev S42 : Shape := ⟨1, ![42]⟩
abbrev S10x61 : Shape := ⟨2, ![10, 61]⟩
abbrev S10 : Shape := ⟨1, ![10]⟩
abbrev S7x97 : Shape := ⟨2, ![7, 97]⟩
abbrev S7 : Shape := ⟨1, ![7]⟩
abbrev S5x125 : Shape := ⟨2, ![5, 125]⟩
abbrev S5 : Shape := ⟨1, ![5]⟩
abbrev S_ : Shape := ⟨0, ![]⟩
abbrev S8x4x256x1152 : Shape := ⟨4, ![8, 4, 256, 1152]⟩
abbrev S4x8x256x1152 : Shape := ⟨4, ![4, 8, 256, 1152]⟩
abbrev S4x2048x1152 : Shape := ⟨3, ![4, 2048, 1152]⟩
abbrev S1x128 : Shape := ⟨2, ![1, 128]⟩
abbrev S42x1 : Shape := ⟨2, ![42, 1]⟩
abbrev S192 : Shape := ⟨1, ![192]⟩
abbrev S1x192x1 : Shape := ⟨3, ![1, 192, 1]⟩
abbrev S42x1x1 : Shape := ⟨3, ![42, 1, 1]⟩
abbrev S31 : Shape := ⟨1, ![31]⟩
abbrev S1x1x31 : Shape := ⟨3, ![1, 1, 31]⟩
abbrev S42x1x31 : Shape := ⟨3, ![42, 1, 31]⟩
abbrev S42x192x31 : Shape := ⟨3, ![42, 192, 31]⟩
abbrev S4x31x128 : Shape := ⟨3, ![4, 31, 128]⟩
abbrev S4x128x42x192 : Shape := ⟨4, ![4, 128, 42, 192]⟩
abbrev S42x4x192x128 : Shape := ⟨4, ![42, 4, 192, 128]⟩
abbrev S10x1 : Shape := ⟨2, ![10, 1]⟩
abbrev S10x1x1 : Shape := ⟨3, ![10, 1, 1]⟩
abbrev S61 : Shape := ⟨1, ![61]⟩
abbrev S1x1x61 : Shape := ⟨3, ![1, 1, 61]⟩
abbrev S10x1x61 : Shape := ⟨3, ![10, 1, 61]⟩
abbrev S10x192x61 : Shape := ⟨3, ![10, 192, 61]⟩
abbrev S4x61x128 : Shape := ⟨3, ![4, 61, 128]⟩
abbrev S4x128x10x192 : Shape := ⟨4, ![4, 128, 10, 192]⟩
abbrev S10x4x192x128 : Shape := ⟨4, ![10, 4, 192, 128]⟩
abbrev S52x4x192x128 : Shape := ⟨4, ![52, 4, 192, 128]⟩
abbrev S52 : Shape := ⟨1, ![52]⟩
abbrev S52x2048x128 : Shape := ⟨3, ![52, 2048, 128]⟩
abbrev S4x4x192x128 : Shape := ⟨4, ![4, 4, 192, 128]⟩
abbrev S4x2048x128 : Shape := ⟨3, ![4, 2048, 128]⟩
abbrev S1 : Shape := ⟨1, ![1]⟩
abbrev S2048x128 : Shape := ⟨2, ![2048, 128]⟩
abbrev S1x2048x192 : Shape := ⟨3, ![1, 2048, 192]⟩
abbrev S2048x192 : Shape := ⟨2, ![2048, 192]⟩
abbrev S1x1x192x128 : Shape := ⟨4, ![1, 1, 192, 128]⟩
abbrev S192x128 : Shape := ⟨2, ![192, 128]⟩
abbrev S1x2048x128 : Shape := ⟨3, ![1, 2048, 128]⟩
abbrev S52x8x256x128 : Shape := ⟨4, ![52, 8, 256, 128]⟩
abbrev S8x128x256x52 : Shape := ⟨4, ![8, 128, 256, 52]⟩
abbrev S7x1 : Shape := ⟨2, ![7, 1]⟩
abbrev S256 : Shape := ⟨1, ![256]⟩
abbrev S1x256x1 : Shape := ⟨3, ![1, 256, 1]⟩
abbrev S7x1x1 : Shape := ⟨3, ![7, 1, 1]⟩
abbrev S97 : Shape := ⟨1, ![97]⟩
abbrev S1x1x97 : Shape := ⟨3, ![1, 1, 97]⟩
abbrev S7x1x97 : Shape := ⟨3, ![7, 1, 97]⟩
abbrev S7x256x97 : Shape := ⟨3, ![7, 256, 97]⟩
abbrev S4x97x128 : Shape := ⟨3, ![4, 97, 128]⟩
abbrev S4x128x7x256 : Shape := ⟨4, ![4, 128, 7, 256]⟩
abbrev S7x4x256x128 : Shape := ⟨4, ![7, 4, 256, 128]⟩
abbrev S5x1 : Shape := ⟨2, ![5, 1]⟩
abbrev S5x1x1 : Shape := ⟨3, ![5, 1, 1]⟩
abbrev S125 : Shape := ⟨1, ![125]⟩
abbrev S1x1x125 : Shape := ⟨3, ![1, 1, 125]⟩
abbrev S5x1x125 : Shape := ⟨3, ![5, 1, 125]⟩
abbrev S5x256x125 : Shape := ⟨3, ![5, 256, 125]⟩
abbrev S4x128x5x256 : Shape := ⟨4, ![4, 128, 5, 256]⟩
abbrev S5x4x256x128 : Shape := ⟨4, ![5, 4, 256, 128]⟩
abbrev S12x4x256x128 : Shape := ⟨4, ![12, 4, 256, 128]⟩
abbrev S12 : Shape := ⟨1, ![12]⟩
abbrev S12x2048x128 : Shape := ⟨3, ![12, 2048, 128]⟩
abbrev S4x4x256x128 : Shape := ⟨4, ![4, 4, 256, 128]⟩
abbrev S1x2048x256 : Shape := ⟨3, ![1, 2048, 256]⟩
abbrev S2048x256 : Shape := ⟨2, ![2048, 256]⟩
abbrev S1x1x256x128 : Shape := ⟨4, ![1, 1, 256, 128]⟩
abbrev S256x128 : Shape := ⟨2, ![256, 128]⟩
abbrev S12x8x256x128 : Shape := ⟨4, ![12, 8, 256, 128]⟩
abbrev S8x128x256x12 : Shape := ⟨4, ![8, 128, 256, 12]⟩
abbrev S8x128x256x64 : Shape := ⟨4, ![8, 128, 256, 64]⟩

abbrev nBuf : Space → Nat
  | .hbm => 321
  | .vmem => 12
  | .smem => 2
  | _ => 0

abbrev hbmTy0_0 (i : Nat) : BufTy := match i % 128 with
  | 0 => ⟨S8x4x256x1025, .f32⟩
  | 1 => ⟨S4x125x128, .f32⟩
  | 2 => ⟨S128, .f32⟩
  | 3 => ⟨S1025, .f32⟩
  | 4 => ⟨S42x31, .i32⟩
  | 5 => ⟨S42x31, .f32⟩
  | 6 => ⟨S42x31, .f32⟩
  | 7 => ⟨S42, .i32⟩
  | 8 => ⟨S10x61, .i32⟩
  | 9 => ⟨S10x61, .f32⟩
  | 10 => ⟨S10x61, .f32⟩
  | 11 => ⟨S10, .i32⟩
  | 12 => ⟨S7x97, .i32⟩
  | 13 => ⟨S7x97, .f32⟩
  | 14 => ⟨S7x97, .f32⟩
  | 15 => ⟨S7, .i32⟩
  | 16 => ⟨S5x125, .i32⟩
  | 17 => ⟨S5x125, .f32⟩
  | 18 => ⟨S5x125, .f32⟩
  | 19 => ⟨S5, .i32⟩
  | 20 => ⟨S_, .i32⟩
  | 21 => ⟨S_, .f32⟩
  | 22 => ⟨S8x4x256x1152, .f32⟩
  | 23 => ⟨S4x8x256x1152, .f32⟩
  | 24 => ⟨S4x2048x1152, .f32⟩
  | 25 => ⟨S4x2048x1152, .bf16⟩
  | 26 => ⟨S1x128, .f32⟩
  | 27 => ⟨S_, .i32⟩
  | 28 => ⟨S42, .i32⟩
  | 29 => ⟨S42, .i1⟩
  | 30 => ⟨S_, .i32⟩
  | 31 => ⟨S42, .i32⟩
  | 32 => ⟨S42, .i32⟩
  | 33 => ⟨S42, .i32⟩
  | 34 => ⟨S42x1, .i32⟩
  | 35 => ⟨S42, .f32⟩
  | 36 => ⟨S42x1, .i32⟩
  | 37 => ⟨S42, .i32⟩
  | 38 => ⟨S42x31, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S42, .i32⟩
  | 46 => ⟨S42, .i32⟩
  | 47 => ⟨S_, .i32⟩
  | 48 => ⟨S42, .i32⟩
  | 49 => ⟨S42, .i1⟩
  | 50 => ⟨S_, .i32⟩
  | 51 => ⟨S42, .i32⟩
  | 52 => ⟨S42, .i1⟩
  | 53 => ⟨S_, .i32⟩
  | 54 => ⟨S_, .i1⟩
  | 55 => ⟨S42, .i1⟩
  | 56 => ⟨S42, .i1⟩
  | 57 => ⟨S42, .i1⟩
  | 58 => ⟨S42, .i32⟩
  | 59 => ⟨S42, .i32⟩
  | 60 => ⟨S42, .i32⟩
  | 61 => ⟨S192, .i32⟩
  | 62 => ⟨S1x192x1, .i32⟩
  | 63 => ⟨S42x1x1, .i32⟩
  | 64 => ⟨S31, .i32⟩
  | 65 => ⟨S1x1x31, .i32⟩
  | 66 => ⟨S42x1x31, .i32⟩
  | 67 => ⟨S42x1x31, .i32⟩
  | 68 => ⟨S42x1x31, .i32⟩
  | 69 => ⟨S42x192x31, .i32⟩
  | 70 => ⟨S42x192x31, .i32⟩
  | 71 => ⟨S42x192x31, .i1⟩
  | 72 => ⟨S42x1, .f32⟩
  | 73 => ⟨S42x31, .f32⟩
  | 74 => ⟨S42x31, .f32⟩
  | 75 => ⟨S42x1x31, .f32⟩
  | 76 => ⟨S_, .f32⟩
  | 77 => ⟨S_, .f32⟩
  | 78 => ⟨S42x192x31, .f32⟩
  | 79 => ⟨S42x192x31, .f32⟩
  | 80 => ⟨S42x192x31, .f32⟩
  | 81 => ⟨S42x192x31, .bf16⟩
  | 82 => ⟨S4x31x128, .f32⟩
  | 83 => ⟨S4x31x128, .bf16⟩
  | 84 => ⟨S4x128x42x192, .f32⟩
  | 85 => ⟨S42x4x192x128, .f32⟩
  | 86 => ⟨S42x4x192x128, .bf16⟩
  | 87 => ⟨S_, .i32⟩
  | 88 => ⟨S10, .i32⟩
  | 89 => ⟨S10, .i1⟩
  | 90 => ⟨S_, .i32⟩
  | 91 => ⟨S10, .i32⟩
  | 92 => ⟨S10, .i32⟩
  | 93 => ⟨S10, .i32⟩
  | 94 => ⟨S10x1, .i32⟩
  | 95 => ⟨S10, .f32⟩
  | 96 => ⟨S10x1, .i32⟩
  | 97 => ⟨S10, .i32⟩
  | 98 => ⟨S10x61, .f32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S10, .i32⟩
  | 106 => ⟨S10, .i32⟩
  | 107 => ⟨S_, .i32⟩
  | 108 => ⟨S10, .i32⟩
  | 109 => ⟨S10, .i1⟩
  | 110 => ⟨S_, .i32⟩
  | 111 => ⟨S10, .i32⟩
  | 112 => ⟨S10, .i1⟩
  | 113 => ⟨S_, .i32⟩
  | 114 => ⟨S_, .i1⟩
  | 115 => ⟨S10, .i1⟩
  | 116 => ⟨S10, .i1⟩
  | 117 => ⟨S10, .i1⟩
  | 118 => ⟨S10, .i32⟩
  | 119 => ⟨S10, .i32⟩
  | 120 => ⟨S10, .i32⟩
  | 121 => ⟨S192, .i32⟩
  | 122 => ⟨S1x192x1, .i32⟩
  | 123 => ⟨S10x1x1, .i32⟩
  | 124 => ⟨S61, .i32⟩
  | 125 => ⟨S1x1x61, .i32⟩
  | 126 => ⟨S10x1x61, .i32⟩
  | 127 => ⟨S10x1x61, .i32⟩
  | _ => ⟨S8x4x256x1025, .f32⟩

abbrev hbmTy0_1 (i : Nat) : BufTy := match i % 128 with
  | 0 => ⟨S10x1x61, .i32⟩
  | 1 => ⟨S10x192x61, .i32⟩
  | 2 => ⟨S10x192x61, .i32⟩
  | 3 => ⟨S10x192x61, .i1⟩
  | 4 => ⟨S10x1, .f32⟩
  | 5 => ⟨S10x61, .f32⟩
  | 6 => ⟨S10x61, .f32⟩
  | 7 => ⟨S10x1x61, .f32⟩
  | 8 => ⟨S_, .f32⟩
  | 9 => ⟨S_, .f32⟩
  | 10 => ⟨S10x192x61, .f32⟩
  | 11 => ⟨S10x192x61, .f32⟩
  | 12 => ⟨S10x192x61, .f32⟩
  | 13 => ⟨S10x192x61, .bf16⟩
  | 14 => ⟨S4x61x128, .f32⟩
  | 15 => ⟨S4x61x128, .bf16⟩
  | 16 => ⟨S4x128x10x192, .f32⟩
  | 17 => ⟨S10x4x192x128, .f32⟩
  | 18 => ⟨S10x4x192x128, .bf16⟩
  | 19 => ⟨S52x4x192x128, .bf16⟩
  | 20 => ⟨S42x1, .i32⟩
  | 21 => ⟨S42, .i32⟩
  | 22 => ⟨S10x1, .i32⟩
  | 23 => ⟨S10, .i32⟩
  | 24 => ⟨S52, .i32⟩
  | 25 => ⟨S_, .i32⟩
  | 26 => ⟨S_, .i32⟩
  | 27 => ⟨S52, .i32⟩
  | 28 => ⟨S52, .i32⟩
  | 29 => ⟨S52, .i32⟩
  | 30 => ⟨S_, .i32⟩
  | 31 => ⟨S52, .i32⟩
  | 32 => ⟨S52, .i1⟩
  | 33 => ⟨S52, .i32⟩
  | 34 => ⟨S52, .i32⟩
  | 35 => ⟨S_, .i32⟩
  | 36 => ⟨S52, .i32⟩
  | 37 => ⟨S52, .i1⟩
  | 38 => ⟨S52, .i1⟩
  | 39 => ⟨S_, .i32⟩
  | 40 => ⟨S52, .i32⟩
  | 41 => ⟨S52, .i32⟩
  | 42 => ⟨S52x2048x128, .bf16⟩
  | 43 => ⟨S52x8x256x128, .bf16⟩
  | 44 => ⟨S8x128x256x52, .bf16⟩
  | 45 => ⟨S8x128x256x52, .f32⟩
  | 46 => ⟨S_, .i32⟩
  | 47 => ⟨S7, .i32⟩
  | 48 => ⟨S7, .i1⟩
  | 49 => ⟨S_, .i32⟩
  | 50 => ⟨S7, .i32⟩
  | 51 => ⟨S7, .i32⟩
  | 52 => ⟨S7, .i32⟩
  | 53 => ⟨S7x1, .i32⟩
  | 54 => ⟨S7, .f32⟩
  | 55 => ⟨S7x1, .i32⟩
  | 56 => ⟨S7, .i32⟩
  | 57 => ⟨S7x97, .f32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S7, .i32⟩
  | 65 => ⟨S7, .i32⟩
  | 66 => ⟨S_, .i32⟩
  | 67 => ⟨S7, .i32⟩
  | 68 => ⟨S7, .i1⟩
  | 69 => ⟨S_, .i32⟩
  | 70 => ⟨S7, .i32⟩
  | 71 => ⟨S7, .i1⟩
  | 72 => ⟨S_, .i32⟩
  | 73 => ⟨S_, .i1⟩
  | 74 => ⟨S7, .i1⟩
  | 75 => ⟨S7, .i1⟩
  | 76 => ⟨S7, .i1⟩
  | 77 => ⟨S7, .i32⟩
  | 78 => ⟨S7, .i32⟩
  | 79 => ⟨S7, .i32⟩
  | 80 => ⟨S256, .i32⟩
  | 81 => ⟨S1x256x1, .i32⟩
  | 82 => ⟨S7x1x1, .i32⟩
  | 83 => ⟨S97, .i32⟩
  | 84 => ⟨S1x1x97, .i32⟩
  | 85 => ⟨S7x1x97, .i32⟩
  | 86 => ⟨S7x1x97, .i32⟩
  | 87 => ⟨S7x1x97, .i32⟩
  | 88 => ⟨S7x256x97, .i32⟩
  | 89 => ⟨S7x256x97, .i32⟩
  | 90 => ⟨S7x256x97, .i1⟩
  | 91 => ⟨S7x1, .f32⟩
  | 92 => ⟨S7x97, .f32⟩
  | 93 => ⟨S7x97, .f32⟩
  | 94 => ⟨S7x1x97, .f32⟩
  | 95 => ⟨S_, .f32⟩
  | 96 => ⟨S_, .f32⟩
  | 97 => ⟨S7x256x97, .f32⟩
  | 98 => ⟨S7x256x97, .f32⟩
  | 99 => ⟨S7x256x97, .f32⟩
  | 100 => ⟨S7x256x97, .bf16⟩
  | 101 => ⟨S4x97x128, .f32⟩
  | 102 => ⟨S4x97x128, .bf16⟩
  | 103 => ⟨S4x128x7x256, .f32⟩
  | 104 => ⟨S7x4x256x128, .f32⟩
  | 105 => ⟨S7x4x256x128, .bf16⟩
  | 106 => ⟨S_, .i32⟩
  | 107 => ⟨S5, .i32⟩
  | 108 => ⟨S5, .i1⟩
  | 109 => ⟨S_, .i32⟩
  | 110 => ⟨S5, .i32⟩
  | 111 => ⟨S5, .i32⟩
  | 112 => ⟨S5, .i32⟩
  | 113 => ⟨S5x1, .i32⟩
  | 114 => ⟨S5, .f32⟩
  | 115 => ⟨S5x1, .i32⟩
  | 116 => ⟨S5, .i32⟩
  | 117 => ⟨S5x125, .f32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S5, .i32⟩
  | 125 => ⟨S5, .i32⟩
  | 126 => ⟨S_, .i32⟩
  | 127 => ⟨S5, .i32⟩
  | _ => ⟨S8x4x256x1025, .f32⟩

abbrev hbmTy0_2 (i : Nat) : BufTy := match i % 128 with
  | 0 => ⟨S5, .i1⟩
  | 1 => ⟨S_, .i32⟩
  | 2 => ⟨S5, .i32⟩
  | 3 => ⟨S5, .i1⟩
  | 4 => ⟨S_, .i32⟩
  | 5 => ⟨S_, .i1⟩
  | 6 => ⟨S5, .i1⟩
  | 7 => ⟨S5, .i1⟩
  | 8 => ⟨S5, .i1⟩
  | 9 => ⟨S5, .i32⟩
  | 10 => ⟨S5, .i32⟩
  | 11 => ⟨S5, .i32⟩
  | 12 => ⟨S256, .i32⟩
  | 13 => ⟨S1x256x1, .i32⟩
  | 14 => ⟨S5x1x1, .i32⟩
  | 15 => ⟨S125, .i32⟩
  | 16 => ⟨S1x1x125, .i32⟩
  | 17 => ⟨S5x1x125, .i32⟩
  | 18 => ⟨S5x1x125, .i32⟩
  | 19 => ⟨S5x1x125, .i32⟩
  | 20 => ⟨S5x256x125, .i32⟩
  | 21 => ⟨S5x256x125, .i32⟩
  | 22 => ⟨S5x256x125, .i1⟩
  | 23 => ⟨S5x1, .f32⟩
  | 24 => ⟨S5x125, .f32⟩
  | 25 => ⟨S5x125, .f32⟩
  | 26 => ⟨S5x1x125, .f32⟩
  | 27 => ⟨S_, .f32⟩
  | 28 => ⟨S_, .f32⟩
  | 29 => ⟨S5x256x125, .f32⟩
  | 30 => ⟨S5x256x125, .f32⟩
  | 31 => ⟨S5x256x125, .f32⟩
  | 32 => ⟨S5x256x125, .bf16⟩
  | 33 => ⟨S4x125x128, .bf16⟩
  | 34 => ⟨S4x128x5x256, .f32⟩
  | 35 => ⟨S5x4x256x128, .f32⟩
  | 36 => ⟨S5x4x256x128, .bf16⟩
  | 37 => ⟨S12x4x256x128, .bf16⟩
  | 38 => ⟨S7x1, .i32⟩
  | 39 => ⟨S7, .i32⟩
  | 40 => ⟨S5x1, .i32⟩
  | 41 => ⟨S5, .i32⟩
  | 42 => ⟨S12, .i32⟩
  | 43 => ⟨S_, .i32⟩
  | 44 => ⟨S_, .i32⟩
  | 45 => ⟨S12, .i32⟩
  | 46 => ⟨S12, .i32⟩
  | 47 => ⟨S12, .i32⟩
  | 48 => ⟨S_, .i32⟩
  | 49 => ⟨S12, .i32⟩
  | 50 => ⟨S12, .i1⟩
  | 51 => ⟨S12, .i32⟩
  | 52 => ⟨S12, .i32⟩
  | 53 => ⟨S_, .i32⟩
  | 54 => ⟨S12, .i32⟩
  | 55 => ⟨S12, .i1⟩
  | 56 => ⟨S12, .i1⟩
  | 57 => ⟨S_, .i32⟩
  | 58 => ⟨S12, .i32⟩
  | 59 => ⟨S12, .i32⟩
  | 60 => ⟨S12x2048x128, .bf16⟩
  | 61 => ⟨S12x8x256x128, .bf16⟩
  | 62 => ⟨S8x128x256x12, .bf16⟩
  | 63 => ⟨S8x128x256x12, .f32⟩
  | 64 => ⟨S8x128x256x64, .f32⟩
  | _ => ⟨S8x4x256x1025, .f32⟩

abbrev hbmTy (i : Nat) : BufTy := match i / 128 with
  | 0 => hbmTy0_0 i
  | 1 => hbmTy0_1 i
  | 2 => hbmTy0_2 i
  | _ => ⟨S8x4x256x1025, .f32⟩

abbrev bufTy : (tb : Table) → Fin (tcTables nBuf tb) → BufTy
  | .hbm, ⟨i, _⟩ => hbmTy i
  | .local _ .vmem, ⟨0, _⟩ => ⟨S4x2048x1152, .bf16⟩
  | .local _ .vmem, ⟨1, _⟩ => ⟨S4x4x192x128, .bf16⟩
  | .local _ .vmem, ⟨2, _⟩ => ⟨S4x4x192x128, .bf16⟩
  | .local _ .vmem, ⟨3, _⟩ => ⟨S1x128, .f32⟩
  | .local _ .vmem, ⟨4, _⟩ => ⟨S4x2048x128, .bf16⟩
  | .local _ .vmem, ⟨5, _⟩ => ⟨S4x2048x128, .bf16⟩
  | .local _ .vmem, ⟨6, _⟩ => ⟨S4x2048x1152, .bf16⟩
  | .local _ .vmem, ⟨7, _⟩ => ⟨S4x4x256x128, .bf16⟩
  | .local _ .vmem, ⟨8, _⟩ => ⟨S4x4x256x128, .bf16⟩
  | .local _ .vmem, ⟨9, _⟩ => ⟨S1x128, .f32⟩
  | .local _ .vmem, ⟨10, _⟩ => ⟨S4x2048x128, .bf16⟩
  | .local _ .vmem, ⟨11, _⟩ => ⟨S4x2048x128, .bf16⟩
  | .local _ .smem, ⟨0, _⟩ => ⟨S52, .i32⟩
  | .local _ .smem, ⟨1, _⟩ => ⟨S12, .i32⟩
  | _, _ => ⟨S8x4x256x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_c : Ref sig .tc := ⟨.hbm, 20, rfl⟩
abbrev main_call0_v0 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_c_2 : Ref sig .tc := ⟨.hbm, 39, rfl⟩
abbrev main_call1_v0 : Ref sig .tc := ⟨.hbm, 40, rfl⟩
abbrev main_call1_c : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_c_1 : Ref sig .tc := ⟨.hbm, 47, rfl⟩
abbrev main_call1_v5 : Ref sig .tc := ⟨.hbm, 48, rfl⟩
abbrev main_call1_v6 : Ref sig .tc := ⟨.hbm, 49, rfl⟩
abbrev main_call1_c_2 : Ref sig .tc := ⟨.hbm, 50, rfl⟩
abbrev main_call1_v7 : Ref sig .tc := ⟨.hbm, 51, rfl⟩
abbrev main_call1_v8 : Ref sig .tc := ⟨.hbm, 52, rfl⟩
abbrev main_call1_c_3 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_c_3 : Ref sig .tc := ⟨.hbm, 87, rfl⟩
abbrev main_v38 : Ref sig .tc := ⟨.hbm, 88, rfl⟩
abbrev main_v39 : Ref sig .tc := ⟨.hbm, 89, rfl⟩
abbrev main_c_4 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_c_5 : Ref sig .tc := ⟨.hbm, 99, rfl⟩
abbrev main_call3_v0 : Ref sig .tc := ⟨.hbm, 100, rfl⟩
abbrev main_call3_c : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_c_1 : Ref sig .tc := ⟨.hbm, 107, rfl⟩
abbrev main_call3_v5 : Ref sig .tc := ⟨.hbm, 108, rfl⟩
abbrev main_call3_v6 : Ref sig .tc := ⟨.hbm, 109, rfl⟩
abbrev main_call3_c_2 : Ref sig .tc := ⟨.hbm, 110, rfl⟩
abbrev main_call3_v7 : Ref sig .tc := ⟨.hbm, 111, rfl⟩
abbrev main_call3_v8 : Ref sig .tc := ⟨.hbm, 112, rfl⟩
abbrev main_call3_c_3 : Ref sig .tc := ⟨.hbm, 113, rfl⟩
abbrev main_call3_v9 : Ref sig .tc := ⟨.hbm, 114, rfl⟩
abbrev main_call3_v10 : Ref sig .tc := ⟨.hbm, 115, rfl⟩
abbrev main_call3_v11 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_v58 : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_cst_6 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_c_7 : Ref sig .tc := ⟨.hbm, 153, rfl⟩
abbrev main_call5_v0 : Ref sig .tc := ⟨.hbm, 154, rfl⟩
abbrev main_call5_v1 : Ref sig .tc := ⟨.hbm, 155, rfl⟩
abbrev main_call5_v2 : Ref sig .tc := ⟨.hbm, 156, rfl⟩
abbrev main_call5_v3 : Ref sig .tc := ⟨.hbm, 157, rfl⟩
abbrev main_call5_v4 : Ref sig .tc := ⟨.hbm, 158, rfl⟩
abbrev main_call5_v5 : Ref sig .tc := ⟨.hbm, 159, rfl⟩
abbrev main_call5_v6 : Ref sig .tc := ⟨.hbm, 160, rfl⟩
abbrev main_call5_v7 : Ref sig .tc := ⟨.hbm, 161, rfl⟩
abbrev main_call5_v8 : Ref sig .tc := ⟨.hbm, 162, rfl⟩
abbrev main_call5_c : Ref sig .tc := ⟨.hbm, 163, rfl⟩
abbrev main_call5_v9 : Ref sig .tc := ⟨.hbm, 164, rfl⟩
abbrev main_call5_v10 : Ref sig .tc := ⟨.hbm, 165, rfl⟩
abbrev main_call5_v11 : Ref sig .tc := ⟨.hbm, 166, rfl⟩
abbrev main_call5_c_0 : Ref sig .tc := ⟨.hbm, 167, rfl⟩
abbrev main_call5_v12 : Ref sig .tc := ⟨.hbm, 168, rfl⟩
abbrev main_call5_v13 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_c_8 : Ref sig .tc := ⟨.hbm, 174, rfl⟩
abbrev main_v82 : Ref sig .tc := ⟨.hbm, 175, rfl⟩
abbrev main_v83 : Ref sig .tc := ⟨.hbm, 176, rfl⟩
abbrev main_c_9 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_v89 : Ref sig .tc := ⟨.hbm, 183, rfl⟩
abbrev main_v90 : Ref sig .tc := ⟨.hbm, 184, rfl⟩
abbrev main_v91 : Ref sig .tc := ⟨.hbm, 185, rfl⟩
abbrev main_c_10 : Ref sig .tc := ⟨.hbm, 186, rfl⟩
abbrev main_call6_v0 : Ref sig .tc := ⟨.hbm, 187, rfl⟩
abbrev main_call6_c : Ref sig .tc := ⟨.hbm, 188, rfl⟩
abbrev main_call6_v1 : Ref sig .tc := ⟨.hbm, 189, rfl⟩
abbrev main_call6_c_0 : Ref sig .tc := ⟨.hbm, 190, rfl⟩
abbrev main_call6_v2 : Ref sig .tc := ⟨.hbm, 191, rfl⟩
abbrev main_call6_v3 : Ref sig .tc := ⟨.hbm, 192, rfl⟩
abbrev main_call6_v4 : Ref sig .tc := ⟨.hbm, 193, rfl⟩
abbrev main_call6_c_1 : Ref sig .tc := ⟨.hbm, 194, rfl⟩
abbrev main_call6_v5 : Ref sig .tc := ⟨.hbm, 195, rfl⟩
abbrev main_call6_v6 : Ref sig .tc := ⟨.hbm, 196, rfl⟩
abbrev main_call6_c_2 : Ref sig .tc := ⟨.hbm, 197, rfl⟩
abbrev main_call6_v7 : Ref sig .tc := ⟨.hbm, 198, rfl⟩
abbrev main_call6_v8 : Ref sig .tc := ⟨.hbm, 199, rfl⟩
abbrev main_call6_c_3 : Ref sig .tc := ⟨.hbm, 200, rfl⟩
abbrev main_call6_v9 : Ref sig .tc := ⟨.hbm, 201, rfl⟩
abbrev main_call6_v10 : Ref sig .tc := ⟨.hbm, 202, rfl⟩
abbrev main_call6_v11 : Ref sig .tc := ⟨.hbm, 203, rfl⟩
abbrev main_call6_v12 : Ref sig .tc := ⟨.hbm, 204, rfl⟩
abbrev main_call6_v13 : Ref sig .tc := ⟨.hbm, 205, rfl⟩
abbrev main_call6_v14 : Ref sig .tc := ⟨.hbm, 206, rfl⟩
abbrev main_v92 : Ref sig .tc := ⟨.hbm, 207, rfl⟩
abbrev main_v93 : Ref sig .tc := ⟨.hbm, 208, rfl⟩
abbrev main_v94 : Ref sig .tc := ⟨.hbm, 209, rfl⟩
abbrev main_v95 : Ref sig .tc := ⟨.hbm, 210, rfl⟩
abbrev main_v96 : Ref sig .tc := ⟨.hbm, 211, rfl⟩
abbrev main_v97 : Ref sig .tc := ⟨.hbm, 212, rfl⟩
abbrev main_v98 : Ref sig .tc := ⟨.hbm, 213, rfl⟩
abbrev main_v99 : Ref sig .tc := ⟨.hbm, 214, rfl⟩
abbrev main_v100 : Ref sig .tc := ⟨.hbm, 215, rfl⟩
abbrev main_v101 : Ref sig .tc := ⟨.hbm, 216, rfl⟩
abbrev main_v102 : Ref sig .tc := ⟨.hbm, 217, rfl⟩
abbrev main_v103 : Ref sig .tc := ⟨.hbm, 218, rfl⟩
abbrev main_v104 : Ref sig .tc := ⟨.hbm, 219, rfl⟩
abbrev main_v105 : Ref sig .tc := ⟨.hbm, 220, rfl⟩
abbrev main_v106 : Ref sig .tc := ⟨.hbm, 221, rfl⟩
abbrev main_v107 : Ref sig .tc := ⟨.hbm, 222, rfl⟩
abbrev main_cst_11 : Ref sig .tc := ⟨.hbm, 223, rfl⟩
abbrev main_call7_v0 : Ref sig .tc := ⟨.hbm, 224, rfl⟩
abbrev main_call7_v1 : Ref sig .tc := ⟨.hbm, 225, rfl⟩
abbrev main_call7_v2 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_c_12 : Ref sig .tc := ⟨.hbm, 234, rfl⟩
abbrev main_v115 : Ref sig .tc := ⟨.hbm, 235, rfl⟩
abbrev main_v116 : Ref sig .tc := ⟨.hbm, 236, rfl⟩
abbrev main_c_13 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_v120 : Ref sig .tc := ⟨.hbm, 241, rfl⟩
abbrev main_v121 : Ref sig .tc := ⟨.hbm, 242, rfl⟩
abbrev main_v122 : Ref sig .tc := ⟨.hbm, 243, rfl⟩
abbrev main_v123 : Ref sig .tc := ⟨.hbm, 244, rfl⟩
abbrev main_v124 : Ref sig .tc := ⟨.hbm, 245, rfl⟩
abbrev main_c_14 : Ref sig .tc := ⟨.hbm, 246, rfl⟩
abbrev main_call8_v0 : Ref sig .tc := ⟨.hbm, 247, rfl⟩
abbrev main_call8_c : Ref sig .tc := ⟨.hbm, 248, rfl⟩
abbrev main_call8_v1 : Ref sig .tc := ⟨.hbm, 249, rfl⟩
abbrev main_call8_c_0 : Ref sig .tc := ⟨.hbm, 250, rfl⟩
abbrev main_call8_v2 : Ref sig .tc := ⟨.hbm, 251, rfl⟩
abbrev main_call8_v3 : Ref sig .tc := ⟨.hbm, 252, rfl⟩
abbrev main_call8_v4 : Ref sig .tc := ⟨.hbm, 253, rfl⟩
abbrev main_call8_c_1 : Ref sig .tc := ⟨.hbm, 254, rfl⟩
abbrev main_call8_v5 : Ref sig .tc := ⟨.hbm, 255, rfl⟩
abbrev main_call8_v6 : Ref sig .tc := ⟨.hbm, 256, rfl⟩
abbrev main_call8_c_2 : Ref sig .tc := ⟨.hbm, 257, rfl⟩
abbrev main_call8_v7 : Ref sig .tc := ⟨.hbm, 258, rfl⟩
abbrev main_call8_v8 : Ref sig .tc := ⟨.hbm, 259, rfl⟩
abbrev main_call8_c_3 : Ref sig .tc := ⟨.hbm, 260, rfl⟩
abbrev main_call8_v9 : Ref sig .tc := ⟨.hbm, 261, rfl⟩
abbrev main_call8_v10 : Ref sig .tc := ⟨.hbm, 262, rfl⟩
abbrev main_call8_v11 : Ref sig .tc := ⟨.hbm, 263, rfl⟩
abbrev main_call8_v12 : Ref sig .tc := ⟨.hbm, 264, rfl⟩
abbrev main_call8_v13 : Ref sig .tc := ⟨.hbm, 265, rfl⟩
abbrev main_call8_v14 : Ref sig .tc := ⟨.hbm, 266, rfl⟩
abbrev main_v125 : Ref sig .tc := ⟨.hbm, 267, rfl⟩
abbrev main_v126 : Ref sig .tc := ⟨.hbm, 268, rfl⟩
abbrev main_v127 : Ref sig .tc := ⟨.hbm, 269, rfl⟩
abbrev main_v128 : Ref sig .tc := ⟨.hbm, 270, rfl⟩
abbrev main_v129 : Ref sig .tc := ⟨.hbm, 271, rfl⟩
abbrev main_v130 : Ref sig .tc := ⟨.hbm, 272, rfl⟩
abbrev main_v131 : Ref sig .tc := ⟨.hbm, 273, rfl⟩
abbrev main_v132 : Ref sig .tc := ⟨.hbm, 274, rfl⟩
abbrev main_v133 : Ref sig .tc := ⟨.hbm, 275, rfl⟩
abbrev main_v134 : Ref sig .tc := ⟨.hbm, 276, rfl⟩
abbrev main_v135 : Ref sig .tc := ⟨.hbm, 277, rfl⟩
abbrev main_v136 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_cst_15 : Ref sig .tc := ⟨.hbm, 283, rfl⟩
abbrev main_call9_v0 : Ref sig .tc := ⟨.hbm, 284, rfl⟩
abbrev main_call9_v1 : Ref sig .tc := ⟨.hbm, 285, rfl⟩
abbrev main_call9_v2 : Ref sig .tc := ⟨.hbm, 286, rfl⟩
abbrev main_v141 : Ref sig .tc := ⟨.hbm, 287, rfl⟩
abbrev main_v142 : Ref sig .tc := ⟨.hbm, 288, rfl⟩
abbrev main_v143 : Ref sig .tc := ⟨.hbm, 289, rfl⟩
abbrev main_v144 : Ref sig .tc := ⟨.hbm, 290, rfl⟩
abbrev main_v145 : Ref sig .tc := ⟨.hbm, 291, rfl⟩
abbrev main_v146 : Ref sig .tc := ⟨.hbm, 292, rfl⟩
abbrev main_v147 : Ref sig .tc := ⟨.hbm, 293, rfl⟩
abbrev main_v148 : Ref sig .tc := ⟨.hbm, 294, rfl⟩
abbrev main_v149 : Ref sig .tc := ⟨.hbm, 295, rfl⟩
abbrev main_v150 : Ref sig .tc := ⟨.hbm, 296, rfl⟩
abbrev main_v151 : Ref sig .tc := ⟨.hbm, 297, rfl⟩
abbrev main_v152 : Ref sig .tc := ⟨.hbm, 298, rfl⟩
abbrev main_c_16 : Ref sig .tc := ⟨.hbm, 299, rfl⟩
abbrev main_call10_v0 : Ref sig .tc := ⟨.hbm, 300, rfl⟩
abbrev main_call10_v1 : Ref sig .tc := ⟨.hbm, 301, rfl⟩
abbrev main_call10_v2 : Ref sig .tc := ⟨.hbm, 302, rfl⟩
abbrev main_call10_v3 : Ref sig .tc := ⟨.hbm, 303, rfl⟩
abbrev main_call10_v4 : Ref sig .tc := ⟨.hbm, 304, rfl⟩
abbrev main_call10_v5 : Ref sig .tc := ⟨.hbm, 305, rfl⟩
abbrev main_call10_v6 : Ref sig .tc := ⟨.hbm, 306, rfl⟩
abbrev main_call10_v7 : Ref sig .tc := ⟨.hbm, 307, rfl⟩
abbrev main_call10_v8 : Ref sig .tc := ⟨.hbm, 308, rfl⟩
abbrev main_call10_c : Ref sig .tc := ⟨.hbm, 309, rfl⟩
abbrev main_call10_v9 : Ref sig .tc := ⟨.hbm, 310, rfl⟩
abbrev main_call10_v10 : Ref sig .tc := ⟨.hbm, 311, rfl⟩
abbrev main_call10_v11 : Ref sig .tc := ⟨.hbm, 312, rfl⟩
abbrev main_call10_c_0 : Ref sig .tc := ⟨.hbm, 313, rfl⟩
abbrev main_call10_v12 : Ref sig .tc := ⟨.hbm, 314, rfl⟩
abbrev main_call10_v13 : Ref sig .tc := ⟨.hbm, 315, rfl⟩
abbrev main_v154 : Ref sig .tc := ⟨.hbm, 316, rfl⟩
abbrev main_v155 : Ref sig .tc := ⟨.hbm, 317, rfl⟩
abbrev main_v156 : Ref sig .tc := ⟨.hbm, 318, rfl⟩
abbrev main_v157 : Ref sig .tc := ⟨.hbm, 319, rfl⟩
abbrev main_v158 : Ref sig .tc := ⟨.hbm, 320, rfl⟩
abbrev main_v77 : Ref sig .tc := ⟨.smem, 0, rfl⟩
abbrev main_v153 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![13], ![false]⟩

abbrev pre0 : Pipeline.Prefetch sig := ⟨1, ![main_v77.idx], fun | 0 => main_v77.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k0_off2 (v3 : BitVec 32) : Fin 3 → Nat :=
  let c0 : Index := 0#32
  let c0_0 : Index := 0#32
  let c128_i32 : BitVec 32 := 128#32
  let v4 : BitVec 32 := Scalar.muli v3 c128_i32
  let v6 : Index := Scalar.indexCast v4
  ![0, 0, v6.toNat]

def k0_off3 (v3 : BitVec 32) : Fin 3 → Nat :=
  let c1 : Index := 1#32
  let c0_6 : Index := 0#32
  let c128_i32 : BitVec 32 := 128#32
  let v4 : BitVec 32 := Scalar.muli v3 c128_i32
  let v13 : Index := Scalar.indexCast v4
  ![1, 0, v13.toNat]
def k0_off4 (v3 : BitVec 32) : Fin 3 → Nat :=
  let c2 : Index := 2#32
  let c0_12 : Index := 0#32
  let c128_i32 : BitVec 32 := 128#32
  let v4 : BitVec 32 := Scalar.muli v3 c128_i32
  let v20 : Index := Scalar.indexCast v4
  ![2, 0, v20.toNat]
def k0_off5 (v3 : BitVec 32) : Fin 3 → Nat :=
  let c3 : Index := 3#32
  let c0_18 : Index := 0#32
  let c128_i32 : BitVec 32 := 128#32
  let v4 : BitVec 32 := Scalar.muli v3 c128_i32
  let v27 : Index := Scalar.indexCast v4
  ![3, 0, v27.toNat]

def k0_chk1 (v3 : BitVec 32) : Prop :=
  (∀ a, (k0_off2 v3) a + S1x2048x192.size a ≤ S4x2048x1152.size a) ∧
  (∀ a, (k0_off3 v3) a + S1x2048x192.size a ≤ S4x2048x1152.size a) ∧
  (∀ a, (k0_off4 v3) a + S1x2048x192.size a ≤ S4x2048x1152.size a) ∧
  (∀ a, (k0_off5 v3) a + S1x2048x192.size a ≤ S4x2048x1152.size a)
theorem k0_off2_inb : ∀ (v3 : BitVec 32) (k0_hw1 : k0_chk1 v3), ∀ a, (k0_off2 v3) a + S1x2048x192.size a ≤ S4x2048x1152.size a := fun v3 k0_hw1 => k0_hw1.1
theorem k0_off3_inb : ∀ (v3 : BitVec 32) (k0_hw1 : k0_chk1 v3), ∀ a, (k0_off3 v3) a + S1x2048x192.size a ≤ S4x2048x1152.size a := fun v3 k0_hw1 => k0_hw1.2.1
theorem k0_off4_inb : ∀ (v3 : BitVec 32) (k0_hw1 : k0_chk1 v3), ∀ a, (k0_off4 v3) a + S1x2048x192.size a ≤ S4x2048x1152.size a := fun v3 k0_hw1 => k0_hw1.2.2.1
theorem k0_off5_inb : ∀ (v3 : BitVec 32) (k0_hw1 : k0_chk1 v3), ∀ a, (k0_off5 v3) a + S1x2048x192.size a ≤ S4x2048x1152.size a := fun v3 k0_hw1 => k0_hw1.2.2.2

def k0_off6 (i : grid0.Coords) : Fin 1 → Nat :=
  let arg0 : BitVec 32 := BitVec.ofNat 32 (i 0).val
  let c4_i32_29 : BitVec 32 := 4#32
  let v42 : BitVec 32 := Scalar.muli arg0 c4_i32_29
  let c1_i32 : BitVec 32 := 1#32
  let v43 : BitVec 32 := Scalar.addi v42 c1_i32
  let v44 : Index := Scalar.indexCast v43
  ![v44.toNat]
def k0_off7 (v45 : BitVec 32) : Fin 3 → Nat :=
  let c0_32 : Index := 0#32
  let c0_33 : Index := 0#32
  let c128_i32_30 : BitVec 32 := 128#32
  let v46 : BitVec 32 := Scalar.muli v45 c128_i32_30
  let v48 : Index := Scalar.indexCast v46
  ![0, 0, v48.toNat]

def k0_off8 (v45 : BitVec 32) : Fin 3 → Nat :=
  let c1_39 : Index := 1#32
  let c0_40 : Index := 0#32
  let c128_i32_30 : BitVec 32 := 128#32
  let v46 : BitVec 32 := Scalar.muli v45 c128_i32_30
  let v55 : Index := Scalar.indexCast v46
  ![1, 0, v55.toNat]
def k0_off9 (v45 : BitVec 32) : Fin 3 → Nat :=
  let c2_46 : Index := 2#32
  let c0_47 : Index := 0#32
  let c128_i32_30 : BitVec 32 := 128#32
  let v46 : BitVec 32 := Scalar.muli v45 c128_i32_30
  let v62 : Index := Scalar.indexCast v46
  ![2, 0, v62.toNat]
def k0_off10 (v45 : BitVec 32) : Fin 3 → Nat :=
  let c3_53 : Index := 3#32
  let c0_54 : Index := 0#32
  let c128_i32_30 : BitVec 32 := 128#32
  let v46 : BitVec 32 := Scalar.muli v45 c128_i32_30
  let v69 : Index := Scalar.indexCast v46
  ![3, 0, v69.toNat]

def k0_chk2 (v45 : BitVec 32) : Prop :=
  (∀ a, (k0_off7 v45) a + S1x2048x192.size a ≤ S4x2048x1152.size a) ∧
  (∀ a, (k0_off8 v45) a + S1x2048x192.size a ≤ S4x2048x1152.size a) ∧
  (∀ a, (k0_off9 v45) a + S1x2048x192.size a ≤ S4x2048x1152.size a) ∧
  (∀ a, (k0_off10 v45) a + S1x2048x192.size a ≤ S4x2048x1152.size a)
theorem k0_off7_inb : ∀ (v45 : BitVec 32) (k0_hw2 : k0_chk2 v45), ∀ a, (k0_off7 v45) a + S1x2048x192.size a ≤ S4x2048x1152.size a := fun v45 k0_hw2 => k0_hw2.1
theorem k0_off8_inb : ∀ (v45 : BitVec 32) (k0_hw2 : k0_chk2 v45), ∀ a, (k0_off8 v45) a + S1x2048x192.size a ≤ S4x2048x1152.size a := fun v45 k0_hw2 => k0_hw2.2.1
theorem k0_off9_inb : ∀ (v45 : BitVec 32) (k0_hw2 : k0_chk2 v45), ∀ a, (k0_off9 v45) a + S1x2048x192.size a ≤ S4x2048x1152.size a := fun v45 k0_hw2 => k0_hw2.2.2.1
theorem k0_off10_inb : ∀ (v45 : BitVec 32) (k0_hw2 : k0_chk2 v45), ∀ a, (k0_off10 v45) a + S1x2048x192.size a ≤ S4x2048x1152.size a := fun v45 k0_hw2 => k0_hw2.2.2.2

def k0_off11 (i : grid0.Coords) : Fin 1 → Nat :=
  let arg0 : BitVec 32 := BitVec.ofNat 32 (i 0).val
  let c4_i32_65 : BitVec 32 := 4#32
  let v84 : BitVec 32 := Scalar.muli arg0 c4_i32_65
  let c2_i32 : BitVec 32 := 2#32
  let v85 : BitVec 32 := Scalar.addi v84 c2_i32
  let v86 : Index := Scalar.indexCast v85
  ![v86.toNat]
def k0_off12 (v87 : BitVec 32) : Fin 3 → Nat :=
  let c0_68 : Index := 0#32
  let c0_69 : Index := 0#32
  let c128_i32_66 : BitVec 32 := 128#32
  let v88 : BitVec 32 := Scalar.muli v87 c128_i32_66
  let v90 : Index := Scalar.indexCast v88
  ![0, 0, v90.toNat]

def k0_off13 (v87 : BitVec 32) : Fin 3 → Nat :=
  let c1_75 : Index := 1#32
  let c0_76 : Index := 0#32
  let c128_i32_66 : BitVec 32 := 128#32
  let v88 : BitVec 32 := Scalar.muli v87 c128_i32_66
  let v97 : Index := Scalar.indexCast v88
  ![1, 0, v97.toNat]
def k0_off14 (v87 : BitVec 32) : Fin 3 → Nat :=
  let c2_82 : Index := 2#32
  let c0_83 : Index := 0#32
  let c128_i32_66 : BitVec 32 := 128#32
  let v88 : BitVec 32 := Scalar.muli v87 c128_i32_66
  let v104 : Index := Scalar.indexCast v88
  ![2, 0, v104.toNat]
def k0_off15 (v87 : BitVec 32) : Fin 3 → Nat :=
  let c3_89 : Index := 3#32
  let c0_90 : Index := 0#32
  let c128_i32_66 : BitVec 32 := 128#32
  let v88 : BitVec 32 := Scalar.muli v87 c128_i32_66
  let v111 : Index := Scalar.indexCast v88
  ![3, 0, v111.toNat]

def k0_chk3 (v87 : BitVec 32) : Prop :=
  (∀ a, (k0_off12 v87) a + S1x2048x192.size a ≤ S4x2048x1152.size a) ∧
  (∀ a, (k0_off13 v87) a + S1x2048x192.size a ≤ S4x2048x1152.size a) ∧
  (∀ a, (k0_off14 v87) a + S1x2048x192.size a ≤ S4x2048x1152.size a) ∧
  (∀ a, (k0_off15 v87) a + S1x2048x192.size a ≤ S4x2048x1152.size a)
theorem k0_off12_inb : ∀ (v87 : BitVec 32) (k0_hw3 : k0_chk3 v87), ∀ a, (k0_off12 v87) a + S1x2048x192.size a ≤ S4x2048x1152.size a := fun v87 k0_hw3 => k0_hw3.1
theorem k0_off13_inb : ∀ (v87 : BitVec 32) (k0_hw3 : k0_chk3 v87), ∀ a, (k0_off13 v87) a + S1x2048x192.size a ≤ S4x2048x1152.size a := fun v87 k0_hw3 => k0_hw3.2.1
theorem k0_off14_inb : ∀ (v87 : BitVec 32) (k0_hw3 : k0_chk3 v87), ∀ a, (k0_off14 v87) a + S1x2048x192.size a ≤ S4x2048x1152.size a := fun v87 k0_hw3 => k0_hw3.2.2.1
theorem k0_off15_inb : ∀ (v87 : BitVec 32) (k0_hw3 : k0_chk3 v87), ∀ a, (k0_off15 v87) a + S1x2048x192.size a ≤ S4x2048x1152.size a := fun v87 k0_hw3 => k0_hw3.2.2.2

def k0_off16 (i : grid0.Coords) : Fin 1 → Nat :=
  let arg0 : BitVec 32 := BitVec.ofNat 32 (i 0).val
  let c4_i32_101 : BitVec 32 := 4#32
  let v126 : BitVec 32 := Scalar.muli arg0 c4_i32_101
  let c3_i32 : BitVec 32 := 3#32
  let v127 : BitVec 32 := Scalar.addi v126 c3_i32
  let v128 : Index := Scalar.indexCast v127
  ![v128.toNat]
def k0_off17 (v129 : BitVec 32) : Fin 3 → Nat :=
  let c0_104 : Index := 0#32
  let c0_105 : Index := 0#32
  let c128_i32_102 : BitVec 32 := 128#32
  let v130 : BitVec 32 := Scalar.muli v129 c128_i32_102
  let v132 : Index := Scalar.indexCast v130
  ![0, 0, v132.toNat]

def k0_off18 (v129 : BitVec 32) : Fin 3 → Nat :=
  let c1_111 : Index := 1#32
  let c0_112 : Index := 0#32
  let c128_i32_102 : BitVec 32 := 128#32
  let v130 : BitVec 32 := Scalar.muli v129 c128_i32_102
  let v139 : Index := Scalar.indexCast v130
  ![1, 0, v139.toNat]
def k0_off19 (v129 : BitVec 32) : Fin 3 → Nat :=
  let c2_118 : Index := 2#32
  let c0_119 : Index := 0#32
  let c128_i32_102 : BitVec 32 := 128#32
  let v130 : BitVec 32 := Scalar.muli v129 c128_i32_102
  let v146 : Index := Scalar.indexCast v130
  ![2, 0, v146.toNat]
def k0_off20 (v129 : BitVec 32) : Fin 3 → Nat :=
  let c3_125 : Index := 3#32
  let c0_126 : Index := 0#32
  let c128_i32_102 : BitVec 32 := 128#32
  let v130 : BitVec 32 := Scalar.muli v129 c128_i32_102
  let v153 : Index := Scalar.indexCast v130
  ![3, 0, v153.toNat]

def k0_chk4 (v129 : BitVec 32) : Prop :=
  (∀ a, (k0_off17 v129) a + S1x2048x192.size a ≤ S4x2048x1152.size a) ∧
  (∀ a, (k0_off18 v129) a + S1x2048x192.size a ≤ S4x2048x1152.size a) ∧
  (∀ a, (k0_off19 v129) a + S1x2048x192.size a ≤ S4x2048x1152.size a) ∧
  (∀ a, (k0_off20 v129) a + S1x2048x192.size a ≤ S4x2048x1152.size a)
theorem k0_off17_inb : ∀ (v129 : BitVec 32) (k0_hw4 : k0_chk4 v129), ∀ a, (k0_off17 v129) a + S1x2048x192.size a ≤ S4x2048x1152.size a := fun v129 k0_hw4 => k0_hw4.1
theorem k0_off18_inb : ∀ (v129 : BitVec 32) (k0_hw4 : k0_chk4 v129), ∀ a, (k0_off18 v129) a + S1x2048x192.size a ≤ S4x2048x1152.size a := fun v129 k0_hw4 => k0_hw4.2.1
theorem k0_off19_inb : ∀ (v129 : BitVec 32) (k0_hw4 : k0_chk4 v129), ∀ a, (k0_off19 v129) a + S1x2048x192.size a ≤ S4x2048x1152.size a := fun v129 k0_hw4 => k0_hw4.2.2.1
theorem k0_off20_inb : ∀ (v129 : BitVec 32) (k0_hw4 : k0_chk4 v129), ∀ a, (k0_off20 v129) a + S1x2048x192.size a ≤ S4x2048x1152.size a := fun v129 k0_hw4 => k0_hw4.2.2.2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x2048x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x4x192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![3], ![false]⟩

abbrev pre1 : Pipeline.Prefetch sig := ⟨1, ![main_v153.idx], fun | 0 => main_v153.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let v2 : Index := Scalar.indexCast v1
  ![v2.toNat]
def k1_off2 (v3 : BitVec 32) : Fin 3 → Nat :=
  let c0 : Index := 0#32
  let c0_0 : Index := 0#32
  let c128_i32 : BitVec 32 := 128#32
  let v4 : BitVec 32 := Scalar.muli v3 c128_i32
  let v6 : Index := Scalar.indexCast v4
  ![0, 0, v6.toNat]

def k1_off3 (v3 : BitVec 32) : Fin 3 → Nat :=
  let c1 : Index := 1#32
  let c0_6 : Index := 0#32
  let c128_i32 : BitVec 32 := 128#32
  let v4 : BitVec 32 := Scalar.muli v3 c128_i32
  let v13 : Index := Scalar.indexCast v4
  ![1, 0, v13.toNat]
def k1_off4 (v3 : BitVec 32) : Fin 3 → Nat :=
  let c2 : Index := 2#32
  let c0_12 : Index := 0#32
  let c128_i32 : BitVec 32 := 128#32
  let v4 : BitVec 32 := Scalar.muli v3 c128_i32
  let v20 : Index := Scalar.indexCast v4
  ![2, 0, v20.toNat]
def k1_off5 (v3 : BitVec 32) : Fin 3 → Nat :=
  let c3 : Index := 3#32
  let c0_18 : Index := 0#32
  let c128_i32 : BitVec 32 := 128#32
  let v4 : BitVec 32 := Scalar.muli v3 c128_i32
  let v27 : Index := Scalar.indexCast v4
  ![3, 0, v27.toNat]

def k1_chk1 (v3 : BitVec 32) : Prop :=
  (∀ a, (k1_off2 v3) a + S1x2048x256.size a ≤ S4x2048x1152.size a) ∧
  (∀ a, (k1_off3 v3) a + S1x2048x256.size a ≤ S4x2048x1152.size a) ∧
  (∀ a, (k1_off4 v3) a + S1x2048x256.size a ≤ S4x2048x1152.size a) ∧
  (∀ a, (k1_off5 v3) a + S1x2048x256.size a ≤ S4x2048x1152.size a)
theorem k1_off2_inb : ∀ (v3 : BitVec 32) (k1_hw1 : k1_chk1 v3), ∀ a, (k1_off2 v3) a + S1x2048x256.size a ≤ S4x2048x1152.size a := fun v3 k1_hw1 => k1_hw1.1
theorem k1_off3_inb : ∀ (v3 : BitVec 32) (k1_hw1 : k1_chk1 v3), ∀ a, (k1_off3 v3) a + S1x2048x256.size a ≤ S4x2048x1152.size a := fun v3 k1_hw1 => k1_hw1.2.1
theorem k1_off4_inb : ∀ (v3 : BitVec 32) (k1_hw1 : k1_chk1 v3), ∀ a, (k1_off4 v3) a + S1x2048x256.size a ≤ S4x2048x1152.size a := fun v3 k1_hw1 => k1_hw1.2.2.1
theorem k1_off5_inb : ∀ (v3 : BitVec 32) (k1_hw1 : k1_chk1 v3), ∀ a, (k1_off5 v3) a + S1x2048x256.size a ≤ S4x2048x1152.size a := fun v3 k1_hw1 => k1_hw1.2.2.2

def k1_off6 (i : grid1.Coords) : Fin 1 → Nat :=
  let arg0 : BitVec 32 := BitVec.ofNat 32 (i 0).val
  let c4_i32_29 : BitVec 32 := 4#32
  let v42 : BitVec 32 := Scalar.muli arg0 c4_i32_29
  let c1_i32 : BitVec 32 := 1#32
  let v43 : BitVec 32 := Scalar.addi v42 c1_i32
  let v44 : Index := Scalar.indexCast v43
  ![v44.toNat]
def k1_off7 (v45 : BitVec 32) : Fin 3 → Nat :=
  let c0_32 : Index := 0#32
  let c0_33 : Index := 0#32
  let c128_i32_30 : BitVec 32 := 128#32
  let v46 : BitVec 32 := Scalar.muli v45 c128_i32_30
  let v48 : Index := Scalar.indexCast v46
  ![0, 0, v48.toNat]

def k1_off8 (v45 : BitVec 32) : Fin 3 → Nat :=
  let c1_39 : Index := 1#32
  let c0_40 : Index := 0#32
  let c128_i32_30 : BitVec 32 := 128#32
  let v46 : BitVec 32 := Scalar.muli v45 c128_i32_30
  let v55 : Index := Scalar.indexCast v46
  ![1, 0, v55.toNat]
def k1_off9 (v45 : BitVec 32) : Fin 3 → Nat :=
  let c2_46 : Index := 2#32
  let c0_47 : Index := 0#32
  let c128_i32_30 : BitVec 32 := 128#32
  let v46 : BitVec 32 := Scalar.muli v45 c128_i32_30
  let v62 : Index := Scalar.indexCast v46
  ![2, 0, v62.toNat]
def k1_off10 (v45 : BitVec 32) : Fin 3 → Nat :=
  let c3_53 : Index := 3#32
  let c0_54 : Index := 0#32
  let c128_i32_30 : BitVec 32 := 128#32
  let v46 : BitVec 32 := Scalar.muli v45 c128_i32_30
  let v69 : Index := Scalar.indexCast v46
  ![3, 0, v69.toNat]

def k1_chk2 (v45 : BitVec 32) : Prop :=
  (∀ a, (k1_off7 v45) a + S1x2048x256.size a ≤ S4x2048x1152.size a) ∧
  (∀ a, (k1_off8 v45) a + S1x2048x256.size a ≤ S4x2048x1152.size a) ∧
  (∀ a, (k1_off9 v45) a + S1x2048x256.size a ≤ S4x2048x1152.size a) ∧
  (∀ a, (k1_off10 v45) a + S1x2048x256.size a ≤ S4x2048x1152.size a)
theorem k1_off7_inb : ∀ (v45 : BitVec 32) (k1_hw2 : k1_chk2 v45), ∀ a, (k1_off7 v45) a + S1x2048x256.size a ≤ S4x2048x1152.size a := fun v45 k1_hw2 => k1_hw2.1
theorem k1_off8_inb : ∀ (v45 : BitVec 32) (k1_hw2 : k1_chk2 v45), ∀ a, (k1_off8 v45) a + S1x2048x256.size a ≤ S4x2048x1152.size a := fun v45 k1_hw2 => k1_hw2.2.1
theorem k1_off9_inb : ∀ (v45 : BitVec 32) (k1_hw2 : k1_chk2 v45), ∀ a, (k1_off9 v45) a + S1x2048x256.size a ≤ S4x2048x1152.size a := fun v45 k1_hw2 => k1_hw2.2.2.1
theorem k1_off10_inb : ∀ (v45 : BitVec 32) (k1_hw2 : k1_chk2 v45), ∀ a, (k1_off10 v45) a + S1x2048x256.size a ≤ S4x2048x1152.size a := fun v45 k1_hw2 => k1_hw2.2.2.2

def k1_off11 (i : grid1.Coords) : Fin 1 → Nat :=
  let arg0 : BitVec 32 := BitVec.ofNat 32 (i 0).val
  let c4_i32_65 : BitVec 32 := 4#32
  let v84 : BitVec 32 := Scalar.muli arg0 c4_i32_65
  let c2_i32 : BitVec 32 := 2#32
  let v85 : BitVec 32 := Scalar.addi v84 c2_i32
  let v86 : Index := Scalar.indexCast v85
  ![v86.toNat]
def k1_off12 (v87 : BitVec 32) : Fin 3 → Nat :=
  let c0_68 : Index := 0#32
  let c0_69 : Index := 0#32
  let c128_i32_66 : BitVec 32 := 128#32
  let v88 : BitVec 32 := Scalar.muli v87 c128_i32_66
  let v90 : Index := Scalar.indexCast v88
  ![0, 0, v90.toNat]

def k1_off13 (v87 : BitVec 32) : Fin 3 → Nat :=
  let c1_75 : Index := 1#32
  let c0_76 : Index := 0#32
  let c128_i32_66 : BitVec 32 := 128#32
  let v88 : BitVec 32 := Scalar.muli v87 c128_i32_66
  let v97 : Index := Scalar.indexCast v88
  ![1, 0, v97.toNat]
def k1_off14 (v87 : BitVec 32) : Fin 3 → Nat :=
  let c2_82 : Index := 2#32
  let c0_83 : Index := 0#32
  let c128_i32_66 : BitVec 32 := 128#32
  let v88 : BitVec 32 := Scalar.muli v87 c128_i32_66
  let v104 : Index := Scalar.indexCast v88
  ![2, 0, v104.toNat]
def k1_off15 (v87 : BitVec 32) : Fin 3 → Nat :=
  let c3_89 : Index := 3#32
  let c0_90 : Index := 0#32
  let c128_i32_66 : BitVec 32 := 128#32
  let v88 : BitVec 32 := Scalar.muli v87 c128_i32_66
  let v111 : Index := Scalar.indexCast v88
  ![3, 0, v111.toNat]

def k1_chk3 (v87 : BitVec 32) : Prop :=
  (∀ a, (k1_off12 v87) a + S1x2048x256.size a ≤ S4x2048x1152.size a) ∧
  (∀ a, (k1_off13 v87) a + S1x2048x256.size a ≤ S4x2048x1152.size a) ∧
  (∀ a, (k1_off14 v87) a + S1x2048x256.size a ≤ S4x2048x1152.size a) ∧
  (∀ a, (k1_off15 v87) a + S1x2048x256.size a ≤ S4x2048x1152.size a)
theorem k1_off12_inb : ∀ (v87 : BitVec 32) (k1_hw3 : k1_chk3 v87), ∀ a, (k1_off12 v87) a + S1x2048x256.size a ≤ S4x2048x1152.size a := fun v87 k1_hw3 => k1_hw3.1
theorem k1_off13_inb : ∀ (v87 : BitVec 32) (k1_hw3 : k1_chk3 v87), ∀ a, (k1_off13 v87) a + S1x2048x256.size a ≤ S4x2048x1152.size a := fun v87 k1_hw3 => k1_hw3.2.1
theorem k1_off14_inb : ∀ (v87 : BitVec 32) (k1_hw3 : k1_chk3 v87), ∀ a, (k1_off14 v87) a + S1x2048x256.size a ≤ S4x2048x1152.size a := fun v87 k1_hw3 => k1_hw3.2.2.1
theorem k1_off15_inb : ∀ (v87 : BitVec 32) (k1_hw3 : k1_chk3 v87), ∀ a, (k1_off15 v87) a + S1x2048x256.size a ≤ S4x2048x1152.size a := fun v87 k1_hw3 => k1_hw3.2.2.2

def k1_off16 (i : grid1.Coords) : Fin 1 → Nat :=
  let arg0 : BitVec 32 := BitVec.ofNat 32 (i 0).val
  let c4_i32_101 : BitVec 32 := 4#32
  let v126 : BitVec 32 := Scalar.muli arg0 c4_i32_101
  let c3_i32 : BitVec 32 := 3#32
  let v127 : BitVec 32 := Scalar.addi v126 c3_i32
  let v128 : Index := Scalar.indexCast v127
  ![v128.toNat]
def k1_off17 (v129 : BitVec 32) : Fin 3 → Nat :=
  let c0_104 : Index := 0#32
  let c0_105 : Index := 0#32
  let c128_i32_102 : BitVec 32 := 128#32
  let v130 : BitVec 32 := Scalar.muli v129 c128_i32_102
  let v132 : Index := Scalar.indexCast v130
  ![0, 0, v132.toNat]

def k1_off18 (v129 : BitVec 32) : Fin 3 → Nat :=
  let c1_111 : Index := 1#32
  let c0_112 : Index := 0#32
  let c128_i32_102 : BitVec 32 := 128#32
  let v130 : BitVec 32 := Scalar.muli v129 c128_i32_102
  let v139 : Index := Scalar.indexCast v130
  ![1, 0, v139.toNat]
def k1_off19 (v129 : BitVec 32) : Fin 3 → Nat :=
  let c2_118 : Index := 2#32
  let c0_119 : Index := 0#32
  let c128_i32_102 : BitVec 32 := 128#32
  let v130 : BitVec 32 := Scalar.muli v129 c128_i32_102
  let v146 : Index := Scalar.indexCast v130
  ![2, 0, v146.toNat]
def k1_off20 (v129 : BitVec 32) : Fin 3 → Nat :=
  let c3_125 : Index := 3#32
  let c0_126 : Index := 0#32
  let c128_i32_102 : BitVec 32 := 128#32
  let v130 : BitVec 32 := Scalar.muli v129 c128_i32_102
  let v153 : Index := Scalar.indexCast v130
  ![3, 0, v153.toNat]

def k1_chk4 (v129 : BitVec 32) : Prop :=
  (∀ a, (k1_off17 v129) a + S1x2048x256.size a ≤ S4x2048x1152.size a) ∧
  (∀ a, (k1_off18 v129) a + S1x2048x256.size a ≤ S4x2048x1152.size a) ∧
  (∀ a, (k1_off19 v129) a + S1x2048x256.size a ≤ S4x2048x1152.size a) ∧
  (∀ a, (k1_off20 v129) a + S1x2048x256.size a ≤ S4x2048x1152.size a)
theorem k1_off17_inb : ∀ (v129 : BitVec 32) (k1_hw4 : k1_chk4 v129), ∀ a, (k1_off17 v129) a + S1x2048x256.size a ≤ S4x2048x1152.size a := fun v129 k1_hw4 => k1_hw4.1
theorem k1_off18_inb : ∀ (v129 : BitVec 32) (k1_hw4 : k1_chk4 v129), ∀ a, (k1_off18 v129) a + S1x2048x256.size a ≤ S4x2048x1152.size a := fun v129 k1_hw4 => k1_hw4.2.1
theorem k1_off19_inb : ∀ (v129 : BitVec 32) (k1_hw4 : k1_chk4 v129), ∀ a, (k1_off19 v129) a + S1x2048x256.size a ≤ S4x2048x1152.size a := fun v129 k1_hw4 => k1_hw4.2.2.1
theorem k1_off20_inb : ∀ (v129 : BitVec 32) (k1_hw4 : k1_chk4 v129), ∀ a, (k1_off20 v129) a + S1x2048x256.size a ≤ S4x2048x1152.size a := fun v129 k1_hw4 => k1_hw4.2.2.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S4x2048x1152 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4x4x256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x4x256x1025 : Shape := ⟨4, ![8, 4, 256, 1025]⟩
abbrev S4x125x128 : Shape := ⟨3, ![4, 125, 128]⟩
abbrev S128 : Shape := ⟨1, ![128]⟩
abbrev S1025 : Shape := ⟨1, ![1025]⟩
abbrev S42x31 : Shape := ⟨2, ![42, 31]⟩
abbrev S42 : Shape := ⟨1, ![42]⟩
abbrev S10x61 : Shape := ⟨2, ![10, 61]⟩
abbrev S10 : Shape := ⟨1, ![10]⟩
abbrev S7x97 : Shape := ⟨2, ![7, 97]⟩
abbrev S7 : Shape := ⟨1, ![7]⟩
abbrev S5x125 : Shape := ⟨2, ![5, 125]⟩
abbrev S5 : Shape := ⟨1, ![5]⟩
abbrev S_ : Shape := ⟨0, ![]⟩
abbrev S8x128x256x64 : Shape := ⟨4, ![8, 128, 256, 64]⟩
abbrev S42x31x1 : Shape := ⟨3, ![42, 31, 1]⟩
abbrev S8x4x256x42x31 : Shape := ⟨5, ![8, 4, 256, 42, 31]⟩
abbrev S1x1x1x42x31 : Shape := ⟨5, ![1, 1, 1, 42, 31]⟩
abbrev S4x31x128 : Shape := ⟨3, ![4, 31, 128]⟩
abbrev S4x1x31x128 : Shape := ⟨4, ![4, 1, 31, 128]⟩
abbrev S1x42x31x1 : Shape := ⟨4, ![1, 42, 31, 1]⟩
abbrev S4x42x31x128 : Shape := ⟨4, ![4, 42, 31, 128]⟩
abbrev S42x1 : Shape := ⟨2, ![42, 1]⟩
abbrev S1x42x1x1 : Shape := ⟨4, ![1, 42, 1, 1]⟩
abbrev S42x128x8x256 : Shape := ⟨4, ![42, 128, 8, 256]⟩
abbrev S8x256x42x128 : Shape := ⟨4, ![8, 256, 42, 128]⟩
abbrev S1x1x1x128 : Shape := ⟨4, ![1, 1, 1, 128]⟩
abbrev S8x128x256x42 : Shape := ⟨4, ![8, 128, 256, 42]⟩
abbrev S10x61x1 : Shape := ⟨3, ![10, 61, 1]⟩
abbrev S8x4x256x10x61 : Shape := ⟨5, ![8, 4, 256, 10, 61]⟩
abbrev S1x1x1x10x61 : Shape := ⟨5, ![1, 1, 1, 10, 61]⟩
abbrev S4x61x128 : Shape := ⟨3, ![4, 61, 128]⟩
abbrev S4x1x61x128 : Shape := ⟨4, ![4, 1, 61, 128]⟩
abbrev S1x10x61x1 : Shape := ⟨4, ![1, 10, 61, 1]⟩
abbrev S4x10x61x128 : Shape := ⟨4, ![4, 10, 61, 128]⟩
abbrev S10x1 : Shape := ⟨2, ![10, 1]⟩
abbrev S1x10x1x1 : Shape := ⟨4, ![1, 10, 1, 1]⟩
abbrev S10x128x8x256 : Shape := ⟨4, ![10, 128, 8, 256]⟩
abbrev S8x256x10x128 : Shape := ⟨4, ![8, 256, 10, 128]⟩
abbrev S8x128x256x10 : Shape := ⟨4, ![8, 128, 256, 10]⟩
abbrev S7x97x1 : Shape := ⟨3, ![7, 97, 1]⟩
abbrev S8x4x256x7x97 : Shape := ⟨5, ![8, 4, 256, 7, 97]⟩
abbrev S1x1x1x7x97 : Shape := ⟨5, ![1, 1, 1, 7, 97]⟩
abbrev S4x97x128 : Shape := ⟨3, ![4, 97, 128]⟩
abbrev S4x1x97x128 : Shape := ⟨4, ![4, 1, 97, 128]⟩
abbrev S1x7x97x1 : Shape := ⟨4, ![1, 7, 97, 1]⟩
abbrev S4x7x97x128 : Shape := ⟨4, ![4, 7, 97, 128]⟩
abbrev S7x1 : Shape := ⟨2, ![7, 1]⟩
abbrev S1x7x1x1 : Shape := ⟨4, ![1, 7, 1, 1]⟩
abbrev S7x128x8x256 : Shape := ⟨4, ![7, 128, 8, 256]⟩
abbrev S8x256x7x128 : Shape := ⟨4, ![8, 256, 7, 128]⟩
abbrev S8x128x256x7 : Shape := ⟨4, ![8, 128, 256, 7]⟩
abbrev S5x125x1 : Shape := ⟨3, ![5, 125, 1]⟩
abbrev S8x4x256x5x125 : Shape := ⟨5, ![8, 4, 256, 5, 125]⟩
abbrev S1x1x1x5x125 : Shape := ⟨5, ![1, 1, 1, 5, 125]⟩
abbrev S4x1x125x128 : Shape := ⟨4, ![4, 1, 125, 128]⟩
abbrev S1x5x125x1 : Shape := ⟨4, ![1, 5, 125, 1]⟩
abbrev S4x5x125x128 : Shape := ⟨4, ![4, 5, 125, 128]⟩
abbrev S5x1 : Shape := ⟨2, ![5, 1]⟩
abbrev S1x5x1x1 : Shape := ⟨4, ![1, 5, 1, 1]⟩
abbrev S5x128x8x256 : Shape := ⟨4, ![5, 128, 8, 256]⟩
abbrev S8x256x5x128 : Shape := ⟨4, ![8, 256, 5, 128]⟩
abbrev S8x128x256x5 : Shape := ⟨4, ![8, 128, 256, 5]⟩

abbrev nBuf : Space → Nat
  | .hbm => 213
  | .vmem => 0
  | .smem => 0
  | _ => 0

abbrev hbmTy0_0 (i : Nat) : BufTy := match i % 128 with
  | 0 => ⟨S8x4x256x1025, .f32⟩
  | 1 => ⟨S4x125x128, .f32⟩
  | 2 => ⟨S128, .f32⟩
  | 3 => ⟨S1025, .f32⟩
  | 4 => ⟨S42x31, .i32⟩
  | 5 => ⟨S42x31, .f32⟩
  | 6 => ⟨S42x31, .f32⟩
  | 7 => ⟨S42, .i32⟩
  | 8 => ⟨S10x61, .i32⟩
  | 9 => ⟨S10x61, .f32⟩
  | 10 => ⟨S10x61, .f32⟩
  | 11 => ⟨S10, .i32⟩
  | 12 => ⟨S7x97, .i32⟩
  | 13 => ⟨S7x97, .f32⟩
  | 14 => ⟨S7x97, .f32⟩
  | 15 => ⟨S7, .i32⟩
  | 16 => ⟨S5x125, .i32⟩
  | 17 => ⟨S5x125, .f32⟩
  | 18 => ⟨S5x125, .f32⟩
  | 19 => ⟨S5, .i32⟩
  | 20 => ⟨S_, .f32⟩
  | 21 => ⟨S8x128x256x64, .f32⟩
  | 22 => ⟨S_, .i32⟩
  | 23 => ⟨S42x31, .i32⟩
  | 24 => ⟨S42x31, .i1⟩
  | 25 => ⟨S_, .i32⟩
  | 26 => ⟨S42x31, .i32⟩
  | 27 => ⟨S42x31, .i32⟩
  | 28 => ⟨S42x31, .i32⟩
  | 29 => ⟨S42x31x1, .i32⟩
  | 30 => ⟨S8x4x256x42x31, .f32⟩
  | 31 => ⟨S1x1x1x42x31, .f32⟩
  | 32 => ⟨S8x4x256x42x31, .f32⟩
  | 33 => ⟨S8x4x256x42x31, .f32⟩
  | 34 => ⟨S1x1x1x42x31, .f32⟩
  | 35 => ⟨S8x4x256x42x31, .f32⟩
  | 36 => ⟨S8x4x256x42x31, .f32⟩
  | 37 => ⟨S4x31x128, .f32⟩
  | 38 => ⟨S4x1x31x128, .f32⟩
  | 39 => ⟨S1x42x31x1, .f32⟩
  | 40 => ⟨S4x42x31x128, .f32⟩
  | 41 => ⟨S4x42x31x128, .f32⟩
  | 42 => ⟨S4x42x31x128, .f32⟩
  | 43 => ⟨S_, .i32⟩
  | 44 => ⟨S42, .i32⟩
  | 45 => ⟨S42, .i1⟩
  | 46 => ⟨S_, .i32⟩
  | 47 => ⟨S42, .i32⟩
  | 48 => ⟨S42, .i32⟩
  | 49 => ⟨S42, .i32⟩
  | 50 => ⟨S42x1, .i32⟩
  | 51 => ⟨S42, .f32⟩
  | 52 => ⟨S1x42x1x1, .f32⟩
  | 53 => ⟨S4x42x31x128, .f32⟩
  | 54 => ⟨S4x42x31x128, .f32⟩
  | 55 => ⟨S42x128x8x256, .f32⟩
  | 56 => ⟨S8x256x42x128, .f32⟩
  | 57 => ⟨S1x1x1x128, .f32⟩
  | 58 => ⟨S8x256x42x128, .f32⟩
  | 59 => ⟨S8x256x42x128, .f32⟩
  | 60 => ⟨S8x128x256x42, .f32⟩
  | 61 => ⟨S_, .i32⟩
  | 62 => ⟨S42, .i32⟩
  | 63 => ⟨S42, .i1⟩
  | 64 => ⟨S_, .i32⟩
  | 65 => ⟨S42, .i32⟩
  | 66 => ⟨S42, .i32⟩
  | 67 => ⟨S42, .i32⟩
  | 68 => ⟨S42x1, .i32⟩
  | 69 => ⟨S8x128x256x64, .f32⟩
  | 70 => ⟨S_, .i32⟩
  | 71 => ⟨S10x61, .i32⟩
  | 72 => ⟨S10x61, .i1⟩
  | 73 => ⟨S_, .i32⟩
  | 74 => ⟨S10x61, .i32⟩
  | 75 => ⟨S10x61, .i32⟩
  | 76 => ⟨S10x61, .i32⟩
  | 77 => ⟨S10x61x1, .i32⟩
  | 78 => ⟨S8x4x256x10x61, .f32⟩
  | 79 => ⟨S1x1x1x10x61, .f32⟩
  | 80 => ⟨S8x4x256x10x61, .f32⟩
  | 81 => ⟨S8x4x256x10x61, .f32⟩
  | 82 => ⟨S1x1x1x10x61, .f32⟩
  | 83 => ⟨S8x4x256x10x61, .f32⟩
  | 84 => ⟨S8x4x256x10x61, .f32⟩
  | 85 => ⟨S4x61x128, .f32⟩
  | 86 => ⟨S4x1x61x128, .f32⟩
  | 87 => ⟨S1x10x61x1, .f32⟩
  | 88 => ⟨S4x10x61x128, .f32⟩
  | 89 => ⟨S4x10x61x128, .f32⟩
  | 90 => ⟨S4x10x61x128, .f32⟩
  | 91 => ⟨S_, .i32⟩
  | 92 => ⟨S10, .i32⟩
  | 93 => ⟨S10, .i1⟩
  | 94 => ⟨S_, .i32⟩
  | 95 => ⟨S10, .i32⟩
  | 96 => ⟨S10, .i32⟩
  | 97 => ⟨S10, .i32⟩
  | 98 => ⟨S10x1, .i32⟩
  | 99 => ⟨S10, .f32⟩
  | 100 => ⟨S1x10x1x1, .f32⟩
  | 101 => ⟨S4x10x61x128, .f32⟩
  | 102 => ⟨S4x10x61x128, .f32⟩
  | 103 => ⟨S10x128x8x256, .f32⟩
  | 104 => ⟨S8x256x10x128, .f32⟩
  | 105 => ⟨S1x1x1x128, .f32⟩
  | 106 => ⟨S8x256x10x128, .f32⟩
  | 107 => ⟨S8x256x10x128, .f32⟩
  | 108 => ⟨S8x128x256x10, .f32⟩
  | 109 => ⟨S_, .i32⟩
  | 110 => ⟨S10, .i32⟩
  | 111 => ⟨S10, .i1⟩
  | 112 => ⟨S_, .i32⟩
  | 113 => ⟨S10, .i32⟩
  | 114 => ⟨S10, .i32⟩
  | 115 => ⟨S10, .i32⟩
  | 116 => ⟨S10x1, .i32⟩
  | 117 => ⟨S8x128x256x64, .f32⟩
  | 118 => ⟨S_, .i32⟩
  | 119 => ⟨S7x97, .i32⟩
  | 120 => ⟨S7x97, .i1⟩
  | 121 => ⟨S_, .i32⟩
  | 122 => ⟨S7x97, .i32⟩
  | 123 => ⟨S7x97, .i32⟩
  | 124 => ⟨S7x97, .i32⟩
  | 125 => ⟨S7x97x1, .i32⟩
  | 126 => ⟨S8x4x256x7x97, .f32⟩
  | 127 => ⟨S1x1x1x7x97, .f32⟩
  | _ => ⟨S8x4x256x1025, .f32⟩

abbrev hbmTy0_1 (i : Nat) : BufTy := match i % 128 with
  | 0 => ⟨S8x4x256x7x97, .f32⟩
  | 1 => ⟨S8x4x256x7x97, .f32⟩
  | 2 => ⟨S1x1x1x7x97, .f32⟩
  | 3 => ⟨S8x4x256x7x97, .f32⟩
  | 4 => ⟨S8x4x256x7x97, .f32⟩
  | 5 => ⟨S4x97x128, .f32⟩
  | 6 => ⟨S4x1x97x128, .f32⟩
  | 7 => ⟨S1x7x97x1, .f32⟩
  | 8 => ⟨S4x7x97x128, .f32⟩
  | 9 => ⟨S4x7x97x128, .f32⟩
  | 10 => ⟨S4x7x97x128, .f32⟩
  | 11 => ⟨S_, .i32⟩
  | 12 => ⟨S7, .i32⟩
  | 13 => ⟨S7, .i1⟩
  | 14 => ⟨S_, .i32⟩
  | 15 => ⟨S7, .i32⟩
  | 16 => ⟨S7, .i32⟩
  | 17 => ⟨S7, .i32⟩
  | 18 => ⟨S7x1, .i32⟩
  | 19 => ⟨S7, .f32⟩
  | 20 => ⟨S1x7x1x1, .f32⟩
  | 21 => ⟨S4x7x97x128, .f32⟩
  | 22 => ⟨S4x7x97x128, .f32⟩
  | 23 => ⟨S7x128x8x256, .f32⟩
  | 24 => ⟨S8x256x7x128, .f32⟩
  | 25 => ⟨S1x1x1x128, .f32⟩
  | 26 => ⟨S8x256x7x128, .f32⟩
  | 27 => ⟨S8x256x7x128, .f32⟩
  | 28 => ⟨S8x128x256x7, .f32⟩
  | 29 => ⟨S_, .i32⟩
  | 30 => ⟨S7, .i32⟩
  | 31 => ⟨S7, .i1⟩
  | 32 => ⟨S_, .i32⟩
  | 33 => ⟨S7, .i32⟩
  | 34 => ⟨S7, .i32⟩
  | 35 => ⟨S7, .i32⟩
  | 36 => ⟨S7x1, .i32⟩
  | 37 => ⟨S8x128x256x64, .f32⟩
  | 38 => ⟨S_, .i32⟩
  | 39 => ⟨S5x125, .i32⟩
  | 40 => ⟨S5x125, .i1⟩
  | 41 => ⟨S_, .i32⟩
  | 42 => ⟨S5x125, .i32⟩
  | 43 => ⟨S5x125, .i32⟩
  | 44 => ⟨S5x125, .i32⟩
  | 45 => ⟨S5x125x1, .i32⟩
  | 46 => ⟨S8x4x256x5x125, .f32⟩
  | 47 => ⟨S1x1x1x5x125, .f32⟩
  | 48 => ⟨S8x4x256x5x125, .f32⟩
  | 49 => ⟨S8x4x256x5x125, .f32⟩
  | 50 => ⟨S1x1x1x5x125, .f32⟩
  | 51 => ⟨S8x4x256x5x125, .f32⟩
  | 52 => ⟨S8x4x256x5x125, .f32⟩
  | 53 => ⟨S4x1x125x128, .f32⟩
  | 54 => ⟨S1x5x125x1, .f32⟩
  | 55 => ⟨S4x5x125x128, .f32⟩
  | 56 => ⟨S4x5x125x128, .f32⟩
  | 57 => ⟨S4x5x125x128, .f32⟩
  | 58 => ⟨S_, .i32⟩
  | 59 => ⟨S5, .i32⟩
  | 60 => ⟨S5, .i1⟩
  | 61 => ⟨S_, .i32⟩
  | 62 => ⟨S5, .i32⟩
  | 63 => ⟨S5, .i32⟩
  | 64 => ⟨S5, .i32⟩
  | 65 => ⟨S5x1, .i32⟩
  | 66 => ⟨S5, .f32⟩
  | 67 => ⟨S1x5x1x1, .f32⟩
  | 68 => ⟨S4x5x125x128, .f32⟩
  | 69 => ⟨S4x5x125x128, .f32⟩
  | 70 => ⟨S5x128x8x256, .f32⟩
  | 71 => ⟨S8x256x5x128, .f32⟩
  | 72 => ⟨S1x1x1x128, .f32⟩
  | 73 => ⟨S8x256x5x128, .f32⟩
  | 74 => ⟨S8x256x5x128, .f32⟩
  | 75 => ⟨S8x128x256x5, .f32⟩
  | 76 => ⟨S_, .i32⟩
  | 77 => ⟨S5, .i32⟩
  | 78 => ⟨S5, .i1⟩
  | 79 => ⟨S_, .i32⟩
  | 80 => ⟨S5, .i32⟩
  | 81 => ⟨S5, .i32⟩
  | 82 => ⟨S5, .i32⟩
  | 83 => ⟨S5x1, .i32⟩
  | 84 => ⟨S8x128x256x64, .f32⟩
  | _ => ⟨S8x4x256x1025, .f32⟩

abbrev hbmTy (i : Nat) : BufTy := match i / 128 with
  | 0 => hbmTy0_0 i
  | 1 => hbmTy0_1 i
  | _ => ⟨S8x4x256x1025, .f32⟩

abbrev bufTy : (tb : Table) → Fin (tcTables nBuf tb) → BufTy
  | .hbm, ⟨i, _⟩ => hbmTy i
  | _, _ => ⟨S8x4x256x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_c_3 : Ref sig .tc := ⟨.hbm, 61, rfl⟩
abbrev main_v36 : Ref sig .tc := ⟨.hbm, 62, rfl⟩
abbrev main_v37 : Ref sig .tc := ⟨.hbm, 63, rfl⟩
abbrev main_c_4 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_5 : Ref sig .tc := ⟨.hbm, 70, rfl⟩
abbrev main_v43 : Ref sig .tc := ⟨.hbm, 71, rfl⟩
abbrev main_v44 : Ref sig .tc := ⟨.hbm, 72, rfl⟩
abbrev main_c_6 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_7 : Ref sig .tc := ⟨.hbm, 91, rfl⟩
abbrev main_v62 : Ref sig .tc := ⟨.hbm, 92, rfl⟩
abbrev main_v63 : Ref sig .tc := ⟨.hbm, 93, rfl⟩
abbrev main_c_8 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_9 : Ref sig .tc := ⟨.hbm, 109, rfl⟩
abbrev main_v78 : Ref sig .tc := ⟨.hbm, 110, rfl⟩
abbrev main_v79 : Ref sig .tc := ⟨.hbm, 111, rfl⟩
abbrev main_c_10 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_11 : Ref sig .tc := ⟨.hbm, 118, rfl⟩
abbrev main_v85 : Ref sig .tc := ⟨.hbm, 119, rfl⟩
abbrev main_v86 : Ref sig .tc := ⟨.hbm, 120, rfl⟩
abbrev main_c_12 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_c_13 : Ref sig .tc := ⟨.hbm, 139, rfl⟩
abbrev main_v104 : Ref sig .tc := ⟨.hbm, 140, rfl⟩
abbrev main_v105 : Ref sig .tc := ⟨.hbm, 141, rfl⟩
abbrev main_c_14 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_c_15 : Ref sig .tc := ⟨.hbm, 157, rfl⟩
abbrev main_v120 : Ref sig .tc := ⟨.hbm, 158, rfl⟩
abbrev main_v121 : Ref sig .tc := ⟨.hbm, 159, rfl⟩
abbrev main_c_16 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_c_17 : Ref sig .tc := ⟨.hbm, 166, rfl⟩
abbrev main_v127 : Ref sig .tc := ⟨.hbm, 167, rfl⟩
abbrev main_v128 : Ref sig .tc := ⟨.hbm, 168, rfl⟩
abbrev main_c_18 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_c_19 : Ref sig .tc := ⟨.hbm, 186, rfl⟩
abbrev main_v145 : Ref sig .tc := ⟨.hbm, 187, rfl⟩
abbrev main_v146 : Ref sig .tc := ⟨.hbm, 188, rfl⟩
abbrev main_c_20 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_c_21 : Ref sig .tc := ⟨.hbm, 204, rfl⟩
abbrev main_v161 : Ref sig .tc := ⟨.hbm, 205, rfl⟩
abbrev main_v162 : Ref sig .tc := ⟨.hbm, 206, rfl⟩
abbrev main_c_22 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩

abbrev nD : Nat := 1
abbrev τ : Topo := Topo.v7x

variable {F : FTy → Type} [FloatOps F]
-- ==== Proof.Common.lean ====
/-
  Names shared by the proofs about the band kernel: the resource algebra, a buffer held whole, and the
  index arithmetic of a table word.
-/
module

public import proofs.«01_k».proof.Proof.Gen.KernelIdeal.Launch
public import Idealize.ShloMosaic.Lib.Tactic
public import Idealize.ShloMosaic.Lib.Pipeline.FrameBody

@[expose] public section

noncomputable section

namespace Cert.KernelIdeal.Band

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline library's rounds, nothing else. -/
abbrev UU : Type := UR sig nD τ

/-- The contents of memref `M`'s buffer on core `c`. -/
abbrev Bf (c : Dev nD) {sp : Space} {S : Shape} {e : EltTy} (M : Memref sig .tc sp S e) : Type := Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp (MT nD τ sig Unit (Elt F) ℕ UU ℕ) :=
  M.view.loc (c : Thread nD τ) ↦{fullShare} f

/-- A whole memref owned at `X` is its buffer held at contents that read `X`. -/
theorem owns_eq (c : Dev nD) {sp : Space} {S : Shape} {e : EltTy} (M : Memref sig .tc sp S e) (h : M.IsWhole) (X : S.Idx → Elt F e) :
    (owns (c : Thread nD τ) M fullShare X : sProp (MT nD τ sig Unit (Elt F) ℕ UU ℕ))
      = iprop(∃ f : Bf (F := F) c M, ⌜M.view.read (Elt F) f = X⌝ ∗ pt c M f) := by
  unfold owns pt
  rw [Memref.IsWhole.set_eq_univ h]

/-- A word below 8, times 128, does not wrap. -/
theorem word_mul (v : BitVec 32) (h : v.toNat < 8) : (Scalar.indexCast (Scalar.muli v 128#32)).toNat = v.toNat * 128 := by
  simp only [Scalar.indexCast, Scalar.muli, IntOp.muli, BitVec.toNat_mul]
  simp
  omega

end Cert.KernelIdeal.Band

end
-- ==== Proof.Body1.lean ====
/-
  The body of the second call (12 bands, 256 rows a band), run from its staging buffers held whole: what it
  leaves in the result's staging buffer, as a list of four bands' tiles.
-/
module

public import proofs.«01_k».proof.Proof.Common

@[expose] public section

noncomputable section

namespace Cert.KernelIdeal.Band

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A table word below 8 names columns inside the padded array: its four loads are in bounds. -/
theorem chk1_of_lt (v : BitVec 32) (h : v.toNat < 8) : k1_chk1 v := by
  have hm := word_mul v h
  refine ⟨?_, ?_, ?_, ?_⟩ <;>
  · intro a
    simp only [k1_off2, k1_off3, k1_off4, k1_off5, hm]
    fin_cases a <;> simp [S1x2048x256, S4x2048x1152] <;> omega

/-- One product of a band: a slab of the frames by a slab of the weights. -/
def prod1 (x : Vec F S1x2048x256 .bf16) (w : Vec F S1x1x256x128 .bf16) : FVec F S2048x128 .f32 :=
  matmul dot_S2048x256_S256x128_S2048x128_1_0_0_1_n_n none (shapeCast S2048x256 x shapeCasts_S1x2048x256_S2048x256)
    (shapeCast S256x128 w shapeCasts_S1x1x256x128_S256x128) (constant S2048x128 .f32 0x00000000#32)

/-- One band's tile: the four channels' products summed from zero, the bias added, rounded. -/
def sum1 (x0 x1 x2 x3 : Vec F S1x2048x256 .bf16) (w0 w1 w2 w3 : Vec F S1x1x256x128 .bf16) (b : Vec F S1x128 .f32) :
    FVec F S1x2048x128 .bf16 :=
  shapeCast S1x2048x128 (truncf .bf16 (addf (addf (addf (addf (addf (broadcast S2048x128 (Scalar.ofBits .f32 0x00000000#32))
    (prod1 x0 w0)) (prod1 x1 w1)) (prod1 x2 w2)) (prod1 x3 w3))
    (broadcastTo S2048x128 (shapeCast S1x128 b shapeCasts_S1x128_S1x128) broadcasts_S1x128_S2048x128)) bitsLt_bf16_f32)
    shapeCasts_S2048x128_S1x2048x128

/-- Band `j`'s tile as the body loads it: slabs of `X` at the columns word `v` names, band `j`'s slabs of `W`. -/
def tile1 (v : BitVec 32) (hv : v.toNat < 8) (j : ℕ)
    (hw : ∀ i : Fin 4, ∀ a, (![j, i.val, 0, 0] : Fin 4 → ℕ) a + S1x1x256x128.size a ≤ S4x4x256x128.size a)
    (X : Vec F S4x2048x1152 .bf16) (W : Vec F S4x4x256x128 .bf16) (B : Vec F S1x128 .f32) : FVec F S1x2048x128 .bf16 :=
  sum1 (View.ld X (Rect.unit (k1_off2 v) S1x2048x256.size (chk1_of_lt v hv).1))
    (View.ld X (Rect.unit (k1_off3 v) S1x2048x256.size (chk1_of_lt v hv).2.1))
    (View.ld X (Rect.unit (k1_off4 v) S1x2048x256.size (chk1_of_lt v hv).2.2.1))
    (View.ld X (Rect.unit (k1_off5 v) S1x2048x256.size (chk1_of_lt v hv).2.2.2))
    (View.ld W (Rect.unit ![j, 0, 0, 0] S1x1x256x128.size (hw 0))) (View.ld W (Rect.unit ![j, 1, 0, 0] S1x1x256x128.size (hw 1)))
    (View.ld W (Rect.unit ![j, 2, 0, 0] S1x1x256x128.size (hw 2))) (View.ld W (Rect.unit ![j, 3, 0, 0] S1x1x256x128.size (hw 3)))
    (View.ld B (Rect.unit ![0, 0] S1x128.size inb_S1x128_S1x128_0_0))

/-- The word of the table a one-word load at offset `off` reads. -/
def word1 (T : Vec F S12 .i32) (off : Fin 1 → ℕ) (h : ∀ a, off a + S1.size a ≤ S12.size a) : BitVec 32 :=
  View.ld (e' := .i32) T (Rect.unit (s := S12) off S1.size h) (Shape.Idx.first (s := S1) (numel1_S1.symm ▸ Nat.one_pos))

theorem win1_inb (j : ℕ) (hj : j < 4) : ∀ i : Fin 4, ∀ a, (![j, i.val, 0, 0] : Fin 4 → ℕ) a + S1x1x256x128.size a ≤ S4x4x256x128.size a := by
  intro i a
  have := i.isLt
  fin_cases a <;> simp [S1x1x256x128, S4x4x256x128] <;> omega

/-- The four stores of a grid point, last first. -/
def tiles1 (i : grid1.Coords) (T : Vec F S12 .i32) (hT : ∀ y, (T y : BitVec 32).toNat < 8) (X : Vec F S4x2048x1152 .bf16)
    (W : Vec F S4x4x256x128 .bf16) (B : Vec F S1x128 .f32) : List (View.Piece (Elt F) S4x2048x128 .bf16) :=
  [⟨Rect.unit (s := S4x2048x128) ![3, 0, 0] S1x2048x128.size inb_S4x2048x128_S1x2048x128_3_0_0,
      tile1 (word1 T (k1_off16 i) (k1_off16_inb i)) (hT _) 3 (win1_inb 3 (by decide)) X W B⟩,
    ⟨Rect.unit (s := S4x2048x128) ![2, 0, 0] S1x2048x128.size inb_S4x2048x128_S1x2048x128_2_0_0,
      tile1 (word1 T (k1_off11 i) (k1_off11_inb i)) (hT _) 2 (win1_inb 2 (by decide)) X W B⟩,
    ⟨Rect.unit (s := S4x2048x128) ![1, 0, 0] S1x2048x128.size inb_S4x2048x128_S1x2048x128_1_0_0,
      tile1 (word1 T (k1_off6 i) (k1_off6_inb i)) (hT _) 1 (win1_inb 1 (by decide)) X W B⟩,
    ⟨Rect.unit (s := S4x2048x128) ![0, 0, 0] S1x2048x128.size inb_S4x2048x128_S1x2048x128_0_0_0,
      tile1 (word1 T (k1_off1 i) (k1_off1_inb i)) (hT _) 0 (win1_inb 0 (by decide)) X W B⟩]

set_option maxHeartbeats 4000000 in
/-- From its five buffers held whole, the table's words below 8, the body runs to its return, the result's buffer
    left at the four tiles. -/
theorem run1 (c : Dev nD) (i : grid1.Coords) (M0 : Memref sig .tc .smem S12 .i32) (h0 : M0.IsWhole)
    (M1 : Memref sig .tc .vmem S4x2048x1152 .bf16) (h1 : M1.IsWhole) (M2 : Memref sig .tc .vmem S4x4x256x128 .bf16) (h2 : M2.IsWhole)
    (M3 : Memref sig .tc .vmem S1x128 .f32) (h3 : M3.IsWhole) (M4 : Memref sig .tc .vmem S4x2048x128 .bf16) (h4 : M4.IsWhole)
    (f0 : Bf (F := F) c M0) (f1 : Bf (F := F) c M1) (f2 : Bf (F := F) c M2) (f3 : Bf (F := F) c M3)
    (hT : ∀ y, (M0.view.read (Elt F) f0 y : BitVec 32).toNat < 8) (f4 : Bf (F := F) c M4) (E : Set ℕ)
    (Q : PUnit → sProp (MT nD τ sig Unit (Elt F) ℕ UU ℕ)) :
    iprop(pt c M0 f0 ∗ pt c M1 f1 ∗ pt c M2 f2 ∗ pt c M3 f3 ∗ pt c M4 f4
      ∗ (iprop(pt c M0 f0 ∗ pt c M1 f1 ∗ pt c M2 f2 ∗ pt c M3 f3 ∗ pt c M4 (M4.view.writes (Elt F) M4.view.junk
          (tiles1 i (M0.view.read (Elt F) f0) hT (M1.view.read (Elt F) f1) (M2.view.read (Elt F) f2) (M3.view.read (Elt F) f3)))) -∗ Q ⟨⟩))
      ⊢ wp frame (wpE (defs₀ (F := F)) Variants.none c none) E (cc1__band_kernel i M0 h0 M1 h1 M2 h2 M3 h3 M4 h4) Q := by
  iintro ⟨H0, H1, H2, H3, H4, Hk⟩
  sl_exec! (disch := exact chk1_of_lt _ (hT _))
  sl_step
  iapply Hk
  isplitl [H0]; · iexact H0
  isplitl [H1]; · iexact H1
  isplitl [H2]; · iexact H2
  isplitl [H3]; · iexact H3
  iexact H4

/-- The same, the staging buffers as the pipeline owns them: at what they read. -/
theorem owned1 (c : Dev nD) (i : grid1.Coords) (M0 : Memref sig .tc .smem S12 .i32) (h0 : M0.IsWhole)
    (M1 : Memref sig .tc .vmem S4x2048x1152 .bf16) (h1 : M1.IsWhole) (M2 : Memref sig .tc .vmem S4x4x256x128 .bf16) (h2 : M2.IsWhole)
    (M3 : Memref sig .tc .vmem S1x128 .f32) (h3 : M3.IsWhole) (M4 : Memref sig .tc .vmem S4x2048x128 .bf16) (h4 : M4.IsWhole)
    (f0 : Bf (F := F) c M0) (T : Vec F S12 .i32) (hf : M0.view.read (Elt F) f0 = T) (X : Vec F S4x2048x1152 .bf16) (W : Vec F S4x4x256x128 .bf16) (B : Vec F S1x128 .f32)
    (hT : ∀ y, (T y : BitVec 32).toNat < 8) (E : Set ℕ)
    (Q : PUnit → sProp (MT nD τ sig Unit (Elt F) ℕ UU ℕ)) :
    iprop(pt c M0 f0 ∗ owns (c : Thread nD τ) M1 fullShare X ∗ owns (c : Thread nD τ) M2 fullShare W
      ∗ owns (c : Thread nD τ) M3 fullShare B ∗ (∃ D, owns (c : Thread nD τ) M4 fullShare D)
      ∗ (iprop(pt c M0 f0 ∗ owns (c : Thread nD τ) M1 fullShare X ∗ owns (c : Thread nD τ) M2 fullShare W
          ∗ owns (c : Thread nD τ) M3 fullShare B
          ∗ owns (c : Thread nD τ) M4 fullShare (View.canon (tiles1 i T hT X W B))) -∗ Q ⟨⟩))
      ⊢ wp frame (wpE (defs₀ (F := F)) Variants.none c none) E (cc1__band_kernel i M0 h0 M1 h1 M2 h2 M3 h3 M4 h4) Q := by
  subst hf
  rw [owns_eq c M1 h1, owns_eq c M2 h2, owns_eq c M3 h3]
  simp only [owns_eq c M4 h4]
  iintro ⟨H0, ⟨%f1, %e1, H1⟩, ⟨%f2, %e2, H2⟩, ⟨%f3, %e3, H3⟩, ⟨%D, %f4, -, H4⟩, Hk⟩
  subst e1 e2 e3
  iapply (run1 c i M0 h0 M1 h1 M2 h2 M3 h3 M4 h4 f0 f1 f2 f3 hT f4 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  iexists _; isplitr; swap; (· iexact H4); ipureintro
  exact View.read_writes_junk_eq_canon _ _

end Cert.KernelIdeal.Band

end
-- ==== Proof.Body0.lean ====
/-
  The body of the first call (52 bands, 192 rows a band), run from its staging buffers held whole: what it
  leaves in the result's staging buffer, as a list of four bands' tiles.
-/
module

public import proofs.«01_k».proof.Proof.Common

@[expose] public section

noncomputable section

namespace Cert.KernelIdeal.Band

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- A table word below 8 names columns inside the padded array: its four loads are in bounds. -/
theorem chk0_of_lt (v : BitVec 32) (h : v.toNat < 8) : k0_chk1 v := by
  have hm := word_mul v h
  refine ⟨?_, ?_, ?_, ?_⟩ <;>
  · intro a
    simp only [k0_off2, k0_off3, k0_off4, k0_off5, hm]
    fin_cases a <;> simp [S1x2048x192, S4x2048x1152] <;> omega

/-- One product of a band: a slab of the frames by a slab of the weights. -/
def prod0 (x : Vec F S1x2048x192 .bf16) (w : Vec F S1x1x192x128 .bf16) : FVec F S2048x128 .f32 :=
  matmul dot_S2048x192_S192x128_S2048x128_1_0_0_1_n_n none (shapeCast S2048x192 x shapeCasts_S1x2048x192_S2048x192)
    (shapeCast S192x128 w shapeCasts_S1x1x192x128_S192x128) (constant S2048x128 .f32 0x00000000#32)

/-- One band's tile: the four channels' products summed from zero, the bias added, rounded. -/
def sum0 (x0 x1 x2 x3 : Vec F S1x2048x192 .bf16) (w0 w1 w2 w3 : Vec F S1x1x192x128 .bf16) (b : Vec F S1x128 .f32) :
    FVec F S1x2048x128 .bf16 :=
  shapeCast S1x2048x128 (truncf .bf16 (addf (addf (addf (addf (addf (broadcast S2048x128 (Scalar.ofBits .f32 0x00000000#32))
    (prod0 x0 w0)) (prod0 x1 w1)) (prod0 x2 w2)) (prod0 x3 w3))
    (broadcastTo S2048x128 (shapeCast S1x128 b shapeCasts_S1x128_S1x128) broadcasts_S1x128_S2048x128)) bitsLt_bf16_f32)
    shapeCasts_S2048x128_S1x2048x128

/-- Band `j`'s tile as the body loads it: slabs of `X` at the columns word `v` names, band `j`'s slabs of `W`. -/
def tile0 (v : BitVec 32) (hv : v.toNat < 8) (j : ℕ)
    (hw : ∀ i : Fin 4, ∀ a, (![j, i.val, 0, 0] : Fin 4 → ℕ) a + S1x1x192x128.size a ≤ S4x4x192x128.size a)
    (X : Vec F S4x2048x1152 .bf16) (W : Vec F S4x4x192x128 .bf16) (B : Vec F S1x128 .f32) : FVec F S1x2048x128 .bf16 :=
  sum0 (View.ld X (Rect.unit (k0_off2 v) S1x2048x192.size (chk0_of_lt v hv).1))
    (View.ld X (Rect.unit (k0_off3 v) S1x2048x192.size (chk0_of_lt v hv).2.1))
    (View.ld X (Rect.unit (k0_off4 v) S1x2048x192.size (chk0_of_lt v hv).2.2.1))
    (View.ld X (Rect.unit (k0_off5 v) S1x2048x192.size (chk0_of_lt v hv).2.2.2))
    (View.ld W (Rect.unit ![j, 0, 0, 0] S1x1x192x128.size (hw 0))) (View.ld W (Rect.unit ![j, 1, 0, 0] S1x1x192x128.size (hw 1)))
    (View.ld W (Rect.unit ![j, 2, 0, 0] S1x1x192x128.size (hw 2))) (View.ld W (Rect.unit ![j, 3, 0, 0] S1x1x192x128.size (hw 3)))
    (View.ld B (Rect.unit ![0, 0] S1x128.size inb_S1x128_S1x128_0_0))

/-- The word of the table a one-word load at offset `off` reads. -/
def word0 (T : Vec F S52 .i32) (off : Fin 1 → ℕ) (h : ∀ a, off a + S1.size a ≤ S52.size a) : BitVec 32 :=
  View.ld (e' := .i32) T (Rect.unit (s := S52) off S1.size h) (Shape.Idx.first (s := S1) (numel1_S1.symm ▸ Nat.one_pos))

theorem win0_inb (j : ℕ) (hj : j < 4) : ∀ i : Fin 4, ∀ a, (![j, i.val, 0, 0] : Fin 4 → ℕ) a + S1x1x192x128.size a ≤ S4x4x192x128.size a := by
  intro i a
  have := i.isLt
  fin_cases a <;> simp [S1x1x192x128, S4x4x192x128] <;> omega

/-- The four stores of a grid point, last first. -/
def tiles0 (i : grid0.Coords) (T : Vec F S52 .i32) (hT : ∀ y, (T y : BitVec 32).toNat < 8) (X : Vec F S4x2048x1152 .bf16)
    (W : Vec F S4x4x192x128 .bf16) (B : Vec F S1x128 .f32) : List (View.Piece (Elt F) S4x2048x128 .bf16) :=
  [⟨Rect.unit (s := S4x2048x128) ![3, 0, 0] S1x2048x128.size inb_S4x2048x128_S1x2048x128_3_0_0,
      tile0 (word0 T (k0_off16 i) (k0_off16_inb i)) (hT _) 3 (win0_inb 3 (by decide)) X W B⟩,
    ⟨Rect.unit (s := S4x2048x128) ![2, 0, 0] S1x2048x128.size inb_S4x2048x128_S1x2048x128_2_0_0,
      tile0 (word0 T (k0_off11 i) (k0_off11_inb i)) (hT _) 2 (win0_inb 2 (by decide)) X W B⟩,
    ⟨Rect.unit (s := S4x2048x128) ![1, 0, 0] S1x2048x128.size inb_S4x2048x128_S1x2048x128_1_0_0,
      tile0 (word0 T (k0_off6 i) (k0_off6_inb i)) (hT _) 1 (win0_inb 1 (by decide)) X W B⟩,
    ⟨Rect.unit (s := S4x2048x128) ![0, 0, 0] S1x2048x128.size inb_S4x2048x128_S1x2048x128_0_0_0,
      tile0 (word0 T (k0_off1 i) (k0_off1_inb i)) (hT _) 0 (win0_inb 0 (by decide)) X W B⟩]

set_option maxHeartbeats 4000000 in
/-- From its five buffers held whole, the table's words below 8, the body runs to its return, the result's buffer
    left at the four tiles. -/
theorem run0 (c : Dev nD) (i : grid0.Coords) (M0 : Memref sig .tc .smem S52 .i32) (h0 : M0.IsWhole)
    (M1 : Memref sig .tc .vmem S4x2048x1152 .bf16) (h1 : M1.IsWhole) (M2 : Memref sig .tc .vmem S4x4x192x128 .bf16) (h2 : M2.IsWhole)
    (M3 : Memref sig .tc .vmem S1x128 .f32) (h3 : M3.IsWhole) (M4 : Memref sig .tc .vmem S4x2048x128 .bf16) (h4 : M4.IsWhole)
    (f0 : Bf (F := F) c M0) (f1 : Bf (F := F) c M1) (f2 : Bf (F := F) c M2) (f3 : Bf (F := F) c M3)
    (hT : ∀ y, (M0.view.read (Elt F) f0 y : BitVec 32).toNat < 8) (f4 : Bf (F := F) c M4) (E : Set ℕ)
    (Q : PUnit → sProp (MT nD τ sig Unit (Elt F) ℕ UU ℕ)) :
    iprop(pt c M0 f0 ∗ pt c M1 f1 ∗ pt c M2 f2 ∗ pt c M3 f3 ∗ pt c M4 f4
      ∗ (iprop(pt c M0 f0 ∗ pt c M1 f1 ∗ pt c M2 f2 ∗ pt c M3 f3 ∗ pt c M4 (M4.view.writes (Elt F) M4.view.junk
          (tiles0 i (M0.view.read (Elt F) f0) hT (M1.view.read (Elt F) f1) (M2.view.read (Elt F) f2) (M3.view.read (Elt F) f3)))) -∗ Q ⟨⟩))
      ⊢ wp frame (wpE (defs₀ (F := F)) Variants.none c none) E (cc0__band_kernel i M0 h0 M1 h1 M2 h2 M3 h3 M4 h4) Q := by
  iintro ⟨H0, H1, H2, H3, H4, Hk⟩
  sl_exec! (disch := exact chk0_of_lt _ (hT _))
  sl_step
  iapply Hk
  isplitl [H0]; · iexact H0
  isplitl [H1]; · iexact H1
  isplitl [H2]; · iexact H2
  isplitl [H3]; · iexact H3
  iexact H4

/-- The same, the staging buffers as the pipeline owns them: at what they read. -/
theorem owned0 (c : Dev nD) (i : grid0.Coords) (M0 : Memref sig .tc .smem S52 .i32) (h0 : M0.IsWhole)
    (M1 : Memref sig .tc .vmem S4x2048x1152 .bf16) (h1 : M1.IsWhole) (M2 : Memref sig .tc .vmem S4x4x192x128 .bf16) (h2 : M2.IsWhole)
    (M3 : Memref sig .tc .vmem S1x128 .f32) (h3 : M3.IsWhole) (M4 : Memref sig .tc .vmem S4x2048x128 .bf16) (h4 : M4.IsWhole)
    (f0 : Bf (F := F) c M0) (T : Vec F S52 .i32) (hf : M0.view.read (Elt F) f0 = T) (X : Vec F S4x2048x1152 .bf16) (W : Vec F S4x4x192x128 .bf16) (B : Vec F S1x128 .f32)
    (hT : ∀ y, (T y : BitVec 32).toNat < 8) (E : Set ℕ)
    (Q : PUnit → sProp (MT nD τ sig Unit (Elt F) ℕ UU ℕ)) :
    iprop(pt c M0 f0 ∗ owns (c : Thread nD τ) M1 fullShare X ∗ owns (c : Thread nD τ) M2 fullShare W
      ∗ owns (c : Thread nD τ) M3 fullShare B ∗ (∃ D, owns (c : Thread nD τ) M4 fullShare D)
      ∗ (iprop(pt c M0 f0 ∗ owns (c : Thread nD τ) M1 fullShare X ∗ owns (c : Thread nD τ) M2 fullShare W
          ∗ owns (c : Thread nD τ) M3 fullShare B
          ∗ owns (c : Thread nD τ) M4 fullShare (View.canon (tiles0 i T hT X W B))) -∗ Q ⟨⟩))
      ⊢ wp frame (wpE (defs₀ (F := F)) Variants.none c none) E (cc0__band_kernel i M0 h0 M1 h1 M2 h2 M3 h3 M4 h4) Q := by
  subst hf
  rw [owns_eq c M1 h1, owns_eq c M2 h2, owns_eq c M3 h3]
  simp only [owns_eq c M4 h4]
  iintro ⟨H0, ⟨%f1, %e1, H1⟩, ⟨%f2, %e2, H2⟩, ⟨%f3, %e3, H3⟩, ⟨%D, %f4, -, H4⟩, Hk⟩
  subst e1 e2 e3
  iapply (run0 c i M0 h0 M1 h1 M2 h2 M3 h3 M4 h4 f0 f1 f2 f3 hT f4 E Q)
  isplitl [H0]; · iexact H0
  isplitl [H1]; · iexact H1
  isplitl [H2]; · iexact H2
  isplitl [H3]; · iexact H3
  isplitl [H4]; · iexact H4
  iintro ⟨H0, H1, H2, H3, H4⟩
  iapply Hk
  isplitl [H0]; · iexact H0
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  iexists _; isplitr; swap; (· iexact H4); ipureintro
  exact View.read_writes_junk_eq_canon _ _

end Cert.KernelIdeal.Band

end
-- ==== Proof.Region0.lean ====
/-
  The first call as a region of @main: its proof data at an entry valuation, the body's obligation at every grid
  point, and the record the launch takes.
-/
module

public import proofs.«01_k».proof.Proof.Body0
public import Idealize.ShloMosaic.Lib.Pipeline.RegionArraysT

@[expose] public section

noncomputable section

namespace Cert.KernelIdeal.Band

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

/-- The admissible contents of the two tables: whatever they hold, no window's blocks depend on them. -/
def adm (T0 : Vec F S52 .i32) (T1 : Vec F S12 .i32) : (p : Fin 2) → (pcfgs (F := F) p).Adm
  | ⟨0, _⟩ => ⟨fun | ⟨0, _⟩ => T0, trivial⟩
  | ⟨1, _⟩ => ⟨fun | ⟨0, _⟩ => T1, trivial⟩

variable (T0 : Vec F S52 .i32) (T1 : Vec F S12 .i32) (hT0 : ∀ y, (T0 y : BitVec 32).toNat < 8)
variable (V : Dev nD → Valuation τ sig (Elt F))

/-- Window `w`'s block at point `t`, of the array as the region finds it. -/
def blk0 (c : Dev nD) (w : Fin 4) (t : Fin grid0.N) : ((cfg0 (adm T0 T1 0)).win w).block.Idx → Elt F ((cfg0 (adm T0 T1 0)).win w).elt :=
  (((cfg0 (adm T0 T1 0)).win w).blk t).view.read (Elt F) (V c (Proc.devRef .tc (Pipeline.arrRef spec0 w)))

/-- What the body leaves in the result's staging buffer at point `t`. -/
def left0 (c : Dev nD) (t : Fin grid0.N) : Vec F S4x2048x128 .bf16 :=
  View.canon (tiles0 (grid0.coords t) T0 hT0 (blk0 T0 T1 V c 0 t) (blk0 T0 T1 V c 1 t) (blk0 T0 T1 V c 2 t))

/-- The invariant between the region's ends: the buffers the pipeline does not stage, and the table. -/
abbrev inv0 (c : Dev nD) : sProp (MT nD τ sig Unit (Elt F) ℕ UU ℕ) :=
  iprop(Pipeline.scopedRest (Ix := Unit) (Name := ℕ) (U := UU) (Lvl := ℕ) (Val := Elt F) spec0 c ∗ Pipeline.tablesAt (pcfgs (F := F)) (adm T0 T1) 0 c)

/-- The region's proof data from valuation `V`: the inputs stay as fetched, the result's buffer is left at the tiles. -/
def dat0 (c : Dev nD) : Dat τ (Elt F) Unit ℕ UU ℕ (cfg0 (adm T0 T1 0)) c where
  A w := V c (Proc.devRef .tc (Pipeline.arrRef spec0 w))
  after w t := match w with
    | ⟨0, _⟩ => blk0 T0 T1 V c 0 t
    | ⟨1, _⟩ => blk0 T0 T1 V c 1 t
    | ⟨2, _⟩ => blk0 T0 T1 V c 2 t
    | ⟨3, _⟩ => left0 T0 T1 hT0 V c t
  Φ _ := inv0 T0 T1 c
  q _ := fullShare
  owed _ := 0

/-- Each input's buffer holds its block when the body runs, fetched there or kept from an earlier point. -/
theorem before0_0 (c : Dev nD) (t : Fin grid0.N) (d) : (dat0 T0 T1 hT0 V c).before (0 : Fin 4) t d = blk0 T0 T1 V c 0 t :=
  (dat0 T0 T1 hT0 V c).before_in_eq_fetched 0 rfl (fun _ => rfl) (fun _ _ _ => rfl) (fun _ => rfl) t d
theorem before0_1 (c : Dev nD) (t : Fin grid0.N) (d) : (dat0 T0 T1 hT0 V c).before (1 : Fin 4) t d = blk0 T0 T1 V c 1 t :=
  (dat0 T0 T1 hT0 V c).before_in_eq_fetched 1 rfl (fun _ => rfl) (fun _ _ _ => rfl) (fun _ => rfl) t d
theorem before0_2 (c : Dev nD) (t : Fin grid0.N) (d) : (dat0 T0 T1 hT0 V c).before (2 : Fin 4) t d = blk0 T0 T1 V c 2 t :=
  (dat0 T0 T1 hT0 V c).before_in_eq_fetched 2 rfl (fun _ => rfl) (fun _ _ _ => rfl) (fun _ => rfl) t d

/-- The table held whole is its buffer's contents. -/
theorem tables0 (c : Dev nD) : (Pipeline.tablesAt (pcfgs (F := F)) (adm T0 T1) 0 c : sProp (MT nD τ sig Unit (Elt F) ℕ UU ℕ))
    = pt c (Memref.whole main_v77) T0 := by
  unfold Pipeline.tablesAt Pipeline.prefHeld
  exact bigSep_univ_eq_bigSepL [(0 : Fin 1)] (by decide) (by decide) _

/-- The result's buffer after the body. -/
theorem after0_3 (c : Dev nD) (t : Fin grid0.N) : (dat0 T0 T1 hT0 V c).after (3 : Fin 4) t = left0 T0 T1 hT0 V c t := by
  dsimp only [dat0]

/-- Grid point `t`'s call of the body, at the staging buffers of the point's slots. -/
theorem call0 (t : Fin grid0.N) : (defs₀ (F := F) .tc (cfg0 (adm T0 T1 0)).body ((cfg0 (adm T0 T1 0)).bodyArgs t ((cfg0 (adm T0 T1 0)).slots t)))
    = cc0__band_kernel (grid0.coords t) (Memref.whole main_v77) (Memref.isWhole_whole _)
      (spec0_0.stage ((cfg0 (adm T0 T1 0)).slots t (0 : Fin 4))) (hstage0_0 (((cfg0 (adm T0 T1 0)).slots t (0 : Fin 4)).cast nbuf0_0))
      (spec0_1.stage ((cfg0 (adm T0 T1 0)).slots t (1 : Fin 4))) (hstage0_1 (((cfg0 (adm T0 T1 0)).slots t (1 : Fin 4)).cast nbuf0_1))
      (spec0_2.stage ((cfg0 (adm T0 T1 0)).slots t (2 : Fin 4))) (hstage0_2 (((cfg0 (adm T0 T1 0)).slots t (2 : Fin 4)).cast nbuf0_2))
      (spec0_3.stage ((cfg0 (adm T0 T1 0)).slots t (3 : Fin 4))) (hstage0_3 (((cfg0 (adm T0 T1 0)).slots t (3 : Fin 4)).cast nbuf0_3)) := rfl

/-- The body's obligation at every point. -/
theorem obligation0 (c : Dev nD) : BodyObligation (dat0 T0 T1 hT0 V c) (defs₀ (F := F)) Variants.none () Set.univ := fun t => by
  rw [bigSep_W0, bigSep_W0, call0]
  refine (?_ : _ ⊢ _).trans (owned0 c (grid0.coords t) (Memref.whole main_v77) (Memref.isWhole_whole _) _ _ _ _ _ _ _ _ T0 T0 (View.read_whole _ _)
    (blk0 T0 T1 V c 0 t) (blk0 T0 T1 V c 1 t) (blk0 T0 T1 V c 2 t) hT0 Set.univ _)
  rw [show (dat0 T0 T1 hT0 V c).Φ t.castSucc = inv0 T0 T1 c from rfl, show (dat0 T0 T1 hT0 V c).Φ t.succ = inv0 T0 T1 c from rfl,
    show (dat0 T0 T1 hT0 V c).owesAt () t.succ = (dat0 T0 T1 hT0 V c).owesAt () t.castSucc from rfl]
  unfold inv0
  rw [tables0]
  iintro ⟨⟨Hs, HT⟩, Howes, ⟨%d0, H0⟩, ⟨%d1, H1⟩, ⟨%d2, H2⟩, ⟨%d3, H3⟩⟩
  rw [before0_0, before0_1, before0_2]
  isplitl [HT]; · iexact HT
  isplitl [H0]; · iexact H0
  isplitl [H1]; · iexact H1
  isplitl [H2]; · iexact H2
  isplitl [H3]; · iexists _; iexact H3
  iintro ⟨HT, H0, H1, H2, H3⟩
  isplitl [Hs HT]; · isplitl [Hs]; (· iexact Hs); iexact HT
  isplitl [Howes]; · iexact Howes
  isplitl [H0]; · iexact H0
  isplitl [H1]; · iexact H1
  isplitl [H2]; · iexact H2
  dsimp only
  rw [after0_3]
  unfold left0
  iexact H3

end Cert.KernelIdeal.Band

end
-- ==== Proof.Region1.lean ====
/-
  The second call as a region of @main: its proof data at an entry valuation, the body's obligation at every grid
  point, and the record the launch takes.
-/
module

public import proofs.«01_k».proof.Proof.Body1
public import proofs.«01_k».proof.Proof.Region0

@[expose] public section

noncomputable section

namespace Cert.KernelIdeal.Band

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

variable (T0 : Vec F S52 .i32) (T1 : Vec F S12 .i32) (hT1 : ∀ y, (T1 y : BitVec 32).toNat < 8)
variable (V : Dev nD → Valuation τ sig (Elt F))

/-- Window `w`'s block at point `t`, of the array as the region finds it. -/
def blk1 (c : Dev nD) (w : Fin 4) (t : Fin grid1.N) : ((cfg1 (adm T0 T1 1)).win w).block.Idx → Elt F ((cfg1 (adm T0 T1 1)).win w).elt :=
  (((cfg1 (adm T0 T1 1)).win w).blk t).view.read (Elt F) (V c (Proc.devRef .tc (Pipeline.arrRef spec1 w)))

/-- What the body leaves in the result's staging buffer at point `t`. -/
def left1 (c : Dev nD) (t : Fin grid1.N) : Vec F S4x2048x128 .bf16 :=
  View.canon (tiles1 (grid1.coords t) T1 hT1 (blk1 T0 T1 V c 0 t) (blk1 T0 T1 V c 1 t) (blk1 T0 T1 V c 2 t))

/-- The invariant between the region's ends: the buffers the pipeline does not stage, and the table. -/
abbrev inv1 (c : Dev nD) : sProp (MT nD τ sig Unit (Elt F) ℕ UU ℕ) :=
  iprop(Pipeline.scopedRest (Ix := Unit) (Name := ℕ) (U := UU) (Lvl := ℕ) (Val := Elt F) spec1 c ∗ Pipeline.tablesAt (pcfgs (F := F)) (adm T0 T1) 1 c)

/-- The region's proof data from valuation `V`: the inputs stay as fetched, the result's buffer is left at the tiles. -/
def dat1 (c : Dev nD) : Dat τ (Elt F) Unit ℕ UU ℕ (cfg1 (adm T0 T1 1)) c where
  A w := V c (Proc.devRef .tc (Pipeline.arrRef spec1 w))
  after w t := match w with
    | ⟨0, _⟩ => blk1 T0 T1 V c 0 t
    | ⟨1, _⟩ => blk1 T0 T1 V c 1 t
    | ⟨2, _⟩ => blk1 T0 T1 V c 2 t
    | ⟨3, _⟩ => left1 T0 T1 hT1 V c t
  Φ _ := inv1 T0 T1 c
  q _ := fullShare
  owed _ := 0

/-- Each input's buffer holds its block when the body runs, fetched there or kept from an earlier point. -/
theorem before1_0 (c : Dev nD) (t : Fin grid1.N) (d) : (dat1 T0 T1 hT1 V c).before (0 : Fin 4) t d = blk1 T0 T1 V c 0 t :=
  (dat1 T0 T1 hT1 V c).before_in_eq_fetched 0 rfl (fun _ => rfl) (fun _ _ _ => rfl) (fun _ => rfl) t d
theorem before1_1 (c : Dev nD) (t : Fin grid1.N) (d) : (dat1 T0 T1 hT1 V c).before (1 : Fin 4) t d = blk1 T0 T1 V c 1 t :=
  (dat1 T0 T1 hT1 V c).before_in_eq_fetched 1 rfl (fun _ => rfl) (fun _ _ _ => rfl) (fun _ => rfl) t d
theorem before1_2 (c : Dev nD) (t : Fin grid1.N) (d) : (dat1 T0 T1 hT1 V c).before (2 : Fin 4) t d = blk1 T0 T1 V c 2 t :=
  (dat1 T0 T1 hT1 V c).before_in_eq_fetched 2 rfl (fun _ => rfl) (fun _ _ _ => rfl) (fun _ => rfl) t d

/-- The table held whole is its buffer's contents. -/
theorem tables1 (c : Dev nD) : (Pipeline.tablesAt (pcfgs (F := F)) (adm T0 T1) 1 c : sProp (MT nD τ sig Unit (Elt F) ℕ UU ℕ))
    = pt c (Memref.whole main_v153) T1 := by
  unfold Pipeline.tablesAt Pipeline.prefHeld
  exact bigSep_univ_eq_bigSepL [(0 : Fin 1)] (by decide) (by decide) _

/-- The result's buffer after the body. -/
theorem after1_3 (c : Dev nD) (t : Fin grid1.N) : (dat1 T0 T1 hT1 V c).after (3 : Fin 4) t = left1 T0 T1 hT1 V c t := by
  dsimp only [dat1]

/-- Grid point `t`'s call of the body, at the staging buffers of the point's slots. -/
theorem call1 (t : Fin grid1.N) : (defs₀ (F := F) .tc (cfg1 (adm T0 T1 1)).body ((cfg1 (adm T0 T1 1)).bodyArgs t ((cfg1 (adm T0 T1 1)).slots t)))
    = cc1__band_kernel (grid1.coords t) (Memref.whole main_v153) (Memref.isWhole_whole _)
      (spec1_0.stage ((cfg1 (adm T0 T1 1)).slots t (0 : Fin 4))) (hstage1_0 (((cfg1 (adm T0 T1 1)).slots t (0 : Fin 4)).cast nbuf1_0))
      (spec1_1.stage ((cfg1 (adm T0 T1 1)).slots t (1 : Fin 4))) (hstage1_1 (((cfg1 (adm T0 T1 1)).slots t (1 : Fin 4)).cast nbuf1_1))
      (spec1_2.stage ((cfg1 (adm T0 T1 1)).slots t (2 : Fin 4))) (hstage1_2 (((cfg1 (adm T0 T1 1)).slots t (2 : Fin 4)).cast nbuf1_2))
      (spec1_3.stage ((cfg1 (adm T0 T1 1)).slots t (3 : Fin 4))) (hstage1_3 (((cfg1 (adm T0 T1 1)).slots t (3 : Fin 4)).cast nbuf1_3)) := rfl

/-- The body's obligation at every point. -/
theorem obligation1 (c : Dev nD) : BodyObligation (dat1 T0 T1 hT1 V c) (defs₀ (F := F)) Variants.none () Set.univ := fun t => by
  rw [bigSep_W1, bigSep_W1, call1]
  refine (?_ : _ ⊢ _).trans (owned1 c (grid1.coords t) (Memref.whole main_v153) (Memref.isWhole_whole _) _ _ _ _ _ _ _ _ T1 T1 (View.read_whole _ _)
    (blk1 T0 T1 V c 0 t) (blk1 T0 T1 V c 1 t) (blk1 T0 T1 V c 2 t) hT1 Set.univ _)
  rw [show (dat1 T0 T1 hT1 V c).Φ t.castSucc = inv1 T0 T1 c from rfl, show (dat1 T0 T1 hT1 V c).Φ t.succ = inv1 T0 T1 c from rfl,
    show (dat1 T0 T1 hT1 V c).owesAt () t.succ = (dat1 T0 T1 hT1 V c).owesAt () t.castSucc from rfl]
  unfold inv1
  rw [tables1]
  iintro ⟨⟨Hs, HT⟩, Howes, ⟨%d0, H0⟩, ⟨%d1, H1⟩, ⟨%d2, H2⟩, ⟨%d3, H3⟩⟩
  rw [before1_0, before1_1, before1_2]
  isplitl [HT]; · iexact HT
  isplitl [H0]; · iexact H0
  isplitl [H1]; · iexact H1
  isplitl [H2]; · iexact H2
  isplitl [H3]; · iexists _; iexact H3
  iintro ⟨HT, H0, H1, H2, H3⟩
  isplitl [Hs HT]; · isplitl [Hs]; (· iexact Hs); iexact HT
  isplitl [Howes]; · iexact Howes
  isplitl [H0]; · iexact H0
  isplitl [H1]; · iexact H1
  isplitl [H2]; · iexact H2
  dsimp only
  rw [after1_3]
  unfold left1
  iexact H3

end Cert.KernelIdeal.Band

end
-- ==== Proof.Records.lean ====
/-
  The two calls as the launch takes them: each region's record, entered from every unscoped buffer at a valuation
  and left at that valuation with the call's result array replaced.
-/
module

public import proofs.«01_k».proof.Proof.Region1

@[expose] public section

noncomputable section

namespace Cert.KernelIdeal.Band

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg)

variable {F : FTy → Type} [FloatOps F]

/-- Every TensorCore cell may be waited on, at one level: no core owes another anything. -/
def lvls (g : GSem nD τ sig) : Finset Unit := if g.1.2 = .tc then {()} else ∅

theorem lvls_ne (g : GSem nD τ sig) (h : g.1.2 ≠ .tc) : lvls g = ∅ := if_neg h

/-- What rides beside the buffers between the segments: the core owing nothing. -/
abbrev idle (c : Dev nD) : sProp (MT nD τ sig Unit (Elt F) ℕ UU ℕ) :=
  iprop(∃ W, owes (c : Thread nD τ) (0 : CellTallies nD τ sig Unit) W)

/-- What a call leaves alone of the unscoped buffers: all but its arrays and its table. -/
abbrev others {gr W : ℕ} (win : Fin W → Pipeline.WinSpec sig gr) (pre : Pipeline.Prefetch sig) : Finset (DevRef τ sig) :=
  (Pipeline.ucRefs τ sig \ Pipeline.arrRefs win) \ Pipeline.tblRefs pre

/-- The unscoped buffers are a call's arrays, its table and the others. -/
theorem held_call {gr W : ℕ} (win : Fin W → Pipeline.WinSpec sig gr) (pre : Pipeline.Prefetch sig) (hw : ∀ w, (Pipeline.arrRef win w).isScoped = false)
    (hp : Pipeline.PreFacts win pre) (c : Dev nD) (X : Valuation τ sig (Elt F)) :
    (StableHlo.held (c : Thread nD τ) (Pipeline.ucRefs τ sig) X : sProp (MT nD τ sig Unit (Elt F) ℕ UU ℕ))
      = iprop(StableHlo.held (c : Thread nD τ) (Pipeline.arrRefs win) X ∗ StableHlo.held (c : Thread nD τ) (Pipeline.tblRefs pre) X
        ∗ StableHlo.held (c : Thread nD τ) (others win pre) X) := by
  rw [StableHlo.held_sub_split _ (Pipeline.arrRefs_sub_ucRefs win hw), StableHlo.held_sub_split _ (Pipeline.tblRefs_sub_ucRefs_sdiff win pre hp.unscoped hp.disj)]

variable (T0 : Vec F S52 .i32) (T1 : Vec F S12 .i32) (hT0 : ∀ y, (T0 y : BitVec 32).toNat < 8) (hT1 : ∀ y, (T1 y : BitVec 32).toNat < 8)
variable (A0 A0' A1 A1' : Dev nD → Valuation τ sig (Elt F))

/-- The two calls' proof data, each from its own entry valuation. -/
def pdats : (p : Fin 2) → (c : Dev nD) → Dat τ (Elt F) Unit ℕ UU ℕ (Pipeline.pin (pcfgs (F := F)) (adm T0 T1) p) c
  | ⟨0, _⟩ => fun c => dat0 T0 T1 hT0 A0 c
  | ⟨1, _⟩ => fun c => dat1 T0 T1 hT1 A1 c

/-- The waits of a call's own loop are allowed. -/
theorem cut (p : Fin 2) : Pipeline.LevelCut (pcfgs (F := F)) (adm T0 T1) () lvls (fun _ _ => 0) p (fun _ => 0) (fun _ => 0) where
  hι _ _ _ := by simp [lvls]
  hιb _ _ _ := le_rfl
  hD _ _ _ h := absurd h (by simp)

/-- What the first call leaves in its result's array. -/
def out0 (c : Dev nD) : Buf (Elt F) ((c : Thread nD τ).loc main_v78) := (dat0 T0 T1 hT0 A0 c).arrAt 3 grid0.N
/-- What the second call leaves in its result's array. -/
def out1 (c : Dev nD) : Buf (Elt F) ((c : Thread nD τ).loc main_v154) := (dat1 T0 T1 hT1 A1 c).arrAt 3 grid1.N

set_option backward.isDefEq.respectTransparency.types false in
/-- The first call's record. -/
def rec0 (hA : ∀ c, T0 = A0 c main_v77) (hout : ∀ c, A0' c main_v78 = out0 T0 T1 hT0 A0 c)
    (hne : ∀ c (b : DevRef τ sig), b ≠ Proc.devRef .tc main_v78 → A0' c b = A0 c b) :
    RegionSeg (pcfgs (F := F)) (adm T0 T1) (pdats T0 T1 hT0 hT1 A0 A1) () defs₀ Variants.none lvls (fun _ _ => 0) 0 :=
  RegionSeg.ofHeldT (pcfgs (F := F)) (adm T0 T1) (pdats T0 T1 hT0 hT1 A0 A1) () defs₀ Variants.none lvls (fun _ _ => 0) 0 (fun _ => 0)
    (fun _ => BI.emp) (fun _ => BI.emp) launch0 (fun c => (obligation0 T0 T1 hT0 A0 c).loose) (fun _ _ => rfl) (fun _ => rfl)
    (fun c w => (dat0 T0 T1 hT0 A0 c).share_full (fun _ => rfl) w)
    (fun c => by
      rw [show (pdats T0 T1 hT0 hT1 A0 A1 0 c).Φ 0 = inv0 T0 T1 c from rfl]
      iintro ⟨⟨Hs, -⟩, HT⟩
      isplitl [Hs] <;> iassumption)
    (fun c => by
      rw [show (pdats T0 T1 hT0 hT1 A0 A1 0 c).Φ (Fin.last _) = inv0 T0 T1 c from rfl]
      iintro ⟨Hs, HT⟩
      isplitl [Hs]; · isplitl [Hs]; (· iexact Hs); iempintro
      iexact HT)
    (fun _ => 0) (cut T0 T1 0) (fun c => StableHlo.held (c : Thread nD τ) (others spec0 pre0) (A0 c)) A0 A0'
    (fun c w => rfl)
    (fun c k => by fin_cases k; exact hA c)
    (fun c w => by
      fin_cases w
      · exact ((dat0 T0 T1 hT0 A0 c).arrAt_in (0 : Fin 4) rfl _).trans (hne c (Proc.devRef .tc main_v3) (by decide)).symm
      · exact ((dat0 T0 T1 hT0 A0 c).arrAt_in (1 : Fin 4) rfl _).trans (hne c (Proc.devRef .tc main_v71) (by decide)).symm
      · exact ((dat0 T0 T1 hT0 A0 c).arrAt_in (2 : Fin 4) rfl _).trans (hne c (Proc.devRef .tc main_v4) (by decide)).symm
      · exact (hout c).symm)
    (fun c k => by fin_cases k; exact (hA c).trans (hne c (Proc.devRef .tc main_v77) (by decide)).symm)

/-- Entered from every unscoped buffer, the core owing nothing. -/
theorem pre0_of (hA hout hne) (c : Dev nD) : iprop(StableHlo.held (c : Thread nD τ) (Pipeline.ucRefs τ sig) (A0 c) ∗ idle c)
    ⊢ (rec0 T0 T1 hT0 hT1 A0 A0' A1 hA hout hne).pre c := by
  rw [held_call spec0 pre0 winFacts0.arr_unscoped preFacts0 c (A0 c)]
  show _ ⊢ iprop(StableHlo.held (c : Thread nD τ) (Pipeline.arrRefs spec0) (A0 c) ∗ StableHlo.held (c : Thread nD τ) (Pipeline.tblRefs pre0) (A0 c)
    ∗ BI.emp ∗ StableHlo.held (c : Thread nD τ) (others spec0 pre0) (A0 c) ∗ idle c)
  iintro ⟨⟨Ha, Ht, Ho⟩, HO⟩
  isplitl [Ha]; · iexact Ha
  isplitl [Ht]; · iexact Ht
  isplitr; · iempintro
  isplitl [Ho] <;> iassumption

/-- Left with the unscoped buffers at the new valuation. -/
theorem post0_of (hA hout) (hne : ∀ c (b : DevRef τ sig), b ≠ Proc.devRef .tc main_v78 → A0' c b = A0 c b) (c : Dev nD) :
    (rec0 T0 T1 hT0 hT1 A0 A0' A1 hA hout hne).post c ⊢ iprop(StableHlo.held (c : Thread nD τ) (Pipeline.ucRefs τ sig) (A0' c) ∗ idle c) := by
  rw [held_call spec0 pre0 winFacts0.arr_unscoped preFacts0 c (A0' c)]
  show iprop(StableHlo.held (c : Thread nD τ) (Pipeline.arrRefs spec0) (A0' c) ∗ StableHlo.held (c : Thread nD τ) (Pipeline.tblRefs pre0) (A0' c)
    ∗ BI.emp ∗ StableHlo.held (c : Thread nD τ) (others spec0 pre0) (A0 c) ∗ idle c) ⊢ _
  rw [StableHlo.held_congr (V := A0 c) (V' := A0' c) (c : Thread nD τ) (S := others spec0 pre0) fun b hb => (hne c b fun e => by
    subst e
    exact (Finset.mem_sdiff.mp (Finset.mem_sdiff.mp hb).1).2 (Finset.mem_map.mpr ⟨_, Finset.mem_image.mpr ⟨3, Finset.mem_univ _, rfl⟩, rfl⟩)).symm]
  iintro ⟨Ha, Ht, -, Ho, HO⟩
  isplitr [HO]
  · isplitl [Ha]; · iexact Ha
    isplitl [Ht] <;> iassumption
  iexact HO

set_option backward.isDefEq.respectTransparency.types false in
/-- The second call's record. -/
def rec1 (hA : ∀ c, T1 = A1 c main_v153) (hout : ∀ c, A1' c main_v154 = out1 T0 T1 hT1 A1 c)
    (hne : ∀ c (b : DevRef τ sig), b ≠ Proc.devRef .tc main_v154 → A1' c b = A1 c b) :
    RegionSeg (pcfgs (F := F)) (adm T0 T1) (pdats T0 T1 hT0 hT1 A0 A1) () defs₀ Variants.none lvls (fun _ _ => 0) 1 :=
  RegionSeg.ofHeldT (pcfgs (F := F)) (adm T0 T1) (pdats T0 T1 hT0 hT1 A0 A1) () defs₀ Variants.none lvls (fun _ _ => 0) 1 (fun _ => 0)
    (fun _ => BI.emp) (fun _ => BI.emp) launch1 (fun c => (obligation1 T0 T1 hT1 A1 c).loose) (fun _ _ => rfl) (fun _ => rfl)
    (fun c w => (dat1 T0 T1 hT1 A1 c).share_full (fun _ => rfl) w)
    (fun c => by
      rw [show (pdats T0 T1 hT0 hT1 A0 A1 1 c).Φ 0 = inv1 T0 T1 c from rfl]
      iintro ⟨⟨Hs, -⟩, HT⟩
      isplitl [Hs] <;> iassumption)
    (fun c => by
      rw [show (pdats T0 T1 hT0 hT1 A0 A1 1 c).Φ (Fin.last _) = inv1 T0 T1 c from rfl]
      iintro ⟨Hs, HT⟩
      isplitl [Hs]; · isplitl [Hs]; (· iexact Hs); iempintro
      iexact HT)
    (fun _ => 0) (cut T0 T1 1) (fun c => StableHlo.held (c : Thread nD τ) (others spec1 pre1) (A1 c)) A1 A1'
    (fun c w => rfl)
    (fun c k => by fin_cases k; exact hA c)
    (fun c w => by
      fin_cases w
      · exact ((dat1 T0 T1 hT1 A1 c).arrAt_in (0 : Fin 4) rfl _).trans (hne c (Proc.devRef .tc main_v3) (by decide)).symm
      · exact ((dat1 T0 T1 hT1 A1 c).arrAt_in (1 : Fin 4) rfl _).trans (hne c (Proc.devRef .tc main_v147) (by decide)).symm
      · exact ((dat1 T0 T1 hT1 A1 c).arrAt_in (2 : Fin 4) rfl _).trans (hne c (Proc.devRef .tc main_v4) (by decide)).symm
      · exact (hout c).symm)
    (fun c k => by fin_cases k; exact (hA c).trans (hne c (Proc.devRef .tc main_v153) (by decide)).symm)

/-- Entered from every unscoped buffer, the core owing nothing. -/
theorem pre1_of (hA hout hne) (c : Dev nD) : iprop(StableHlo.held (c : Thread nD τ) (Pipeline.ucRefs τ sig) (A1 c) ∗ idle c)
    ⊢ (rec1 T0 T1 hT0 hT1 A0 A1 A1' hA hout hne).pre c := by
  rw [held_call spec1 pre1 winFacts1.arr_unscoped preFacts1 c (A1 c)]
  show _ ⊢ iprop(StableHlo.held (c : Thread nD τ) (Pipeline.arrRefs spec1) (A1 c) ∗ StableHlo.held (c : Thread nD τ) (Pipeline.tblRefs pre1) (A1 c)
    ∗ BI.emp ∗ StableHlo.held (c : Thread nD τ) (others spec1 pre1) (A1 c) ∗ idle c)
  iintro ⟨⟨Ha, Ht, Ho⟩, HO⟩
  isplitl [Ha]; · iexact Ha
  isplitl [Ht]; · iexact Ht
  isplitr; · iempintro
  isplitl [Ho] <;> iassumption

/-- Left with the unscoped buffers at the new valuation. -/
theorem post1_of (hA hout) (hne : ∀ c (b : DevRef τ sig), b ≠ Proc.devRef .tc main_v154 → A1' c b = A1 c b) (c : Dev nD) :
    (rec1 T0 T1 hT0 hT1 A0 A1 A1' hA hout hne).post c ⊢ iprop(StableHlo.held (c : Thread nD τ) (Pipeline.ucRefs τ sig) (A1' c) ∗ idle c) := by
  rw [held_call spec1 pre1 winFacts1.arr_unscoped preFacts1 c (A1' c)]
  show iprop(StableHlo.held (c : Thread nD τ) (Pipeline.arrRefs spec1) (A1' c) ∗ StableHlo.held (c : Thread nD τ) (Pipeline.tblRefs pre1) (A1' c)
    ∗ BI.emp ∗ StableHlo.held (c : Thread nD τ) (others spec1 pre1) (A1 c) ∗ idle c) ⊢ _
  rw [StableHlo.held_congr (V := A1 c) (V' := A1' c) (c : Thread nD τ) (S := others spec1 pre1) fun b hb => (hne c b fun e => by
    subst e
    exact (Finset.mem_sdiff.mp (Finset.mem_sdiff.mp hb).1).2 (Finset.mem_map.mpr ⟨_, Finset.mem_image.mpr ⟨3, Finset.mem_univ _, rfl⟩, rfl⟩)).symm]
  iintro ⟨Ha, Ht, -, Ho, HO⟩
  isplitr [HO]
  · isplitl [Ha]; · iexact Ha
    isplitl [Ht] <;> iassumption
  iexact HO

end Cert.KernelIdeal.Band

end
-- ==== Proof.Run.lean ====
/-
  @main run whole: from tables whose words are below 8, every run ends with every unscoped buffer at the contents
  its operations compute, the two calls' result arrays at what their grids leave.
-/
module

public import proofs.«01_k».proof.Proof.Records
public import proofs.«01_k».proof.Proof.Gen.KernelIdeal.Regions

@[expose] public section

noncomputable section

namespace Cert.KernelIdeal.Band

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)
open Idealize.ShloMosaic.StableHlo

variable {F : FTy → Type} [FloatOps F]
variable (m : (ℓ : Loc nD τ sig) → Buf (Elt F) ℓ)

/-- The first call's table, as the host operations before it leave it. -/
abbrev table0 : Vec F S52 .i32 := V12 m 0 main_v77

/-- Both tables' words name columns inside the padded array, whatever the first call leaves. -/
structure TablesBelow : Prop where
  first : ∀ y, (table0 m y : BitVec 32).toNat < 8
  second : ∀ (outs : Outs (F := F)) y, ((V23 m outs 0 main_v153 : Vec F S12 .i32) y : BitVec 32).toNat < 8

variable (h : TablesBelow m)

/-- The first call's result, any table taken for the second. -/
def res0 (c : Dev nD) : Buf (Elt F) ((c : Thread nD τ).loc main_v78) := out0 (table0 m) (fun _ => (0 : BitVec 32)) h.first (V12 m) c

/-- The calls' results, before the second call is known. -/
def outsA : Outs (F := F) := fun _ => Function.update (fun r c => m ((c : Thread nD τ).loc r)) main_v78 (res0 m h)

/-- The second call's table. -/
abbrev table1 : Vec F S12 .i32 := V23 m (outsA m h) 0 main_v153

/-- The second call's result. -/
def res1 (c : Dev nD) : Buf (Elt F) ((c : Thread nD τ).loc main_v154) :=
  out1 (table0 m) (table1 m h) (h.second _) (V23 m (outsA m h)) c

/-- The two calls' results. -/
def outs : Outs (F := F) := Function.update (outsA m h) 24 (Function.update (fun r c => m ((c : Thread nD τ).loc r)) main_v154 (res1 m h))

theorem outs_first (c : Dev nD) : outs m h 13 main_v78 c = res0 m h c := by
  rw [outs, Function.update_of_ne (by decide), outsA, Function.update_self]

theorem outs_second (c : Dev nD) : outs m h 24 main_v154 c = res1 m h c := by
  rw [outs, Function.update_self, Function.update_self]

/-- Up to the second call only the first call's result matters. -/
theorem V13_outs (c : Dev nD) : V13 m (outs m h) c = V13 m (outsA m h) c := by
  rw [V13, V13, outs_first, outsA, Function.update_self]

theorem V23_outs (c : Dev nD) : V23 m (outs m h) c = V23 m (outsA m h) c := by
  rw [V23, V22, V21, V20, V19, V18, V17, V16, V15, V14, V13_outs]

theorem dev_eq (c : Dev nD) : c = 0 := Subsingleton.elim _ _

theorem first_table (c : Dev nD) : table0 m = V12 m c main_v77 := by rw [dev_eq c]

theorem second_table (c : Dev nD) : table1 m h = V23 m (outsA m h) c main_v153 := by rw [dev_eq c]

/-- The first call's result does not depend on the second's table. -/
theorem out0_any (T0 : Vec F S52 .i32) (T1 T1' : Vec F S12 .i32) (hT0 : ∀ y, (T0 y : BitVec 32).toNat < 8) (A : Dev nD → Valuation τ sig (Elt F))
    (c : Dev nD) : out0 T0 T1 hT0 A c = out0 T0 T1' hT0 A c := rfl

theorem first_left (c : Dev nD) : V13 m (outs m h) c main_v78 = out0 (table0 m) (table1 m h) h.first (V12 m) c := by
  rw [V13, Function.update_self, outs_first, res0, out0_any]

theorem second_left (c : Dev nD) : V24 m (outs m h) c main_v154 = out1 (table0 m) (table1 m h) (h.second _) (V23 m (outsA m h)) c := by
  rw [V24, Function.update_self, outs_second, res1]

theorem first_others (c : Dev nD) (b : DevRef τ sig) (hb : b ≠ Proc.devRef .tc main_v78) : V13 m (outs m h) c b = V12 m c b := by
  rw [V13, Function.update_of_ne hb]

theorem second_others (c : Dev nD) (b : DevRef τ sig) (hb : b ≠ Proc.devRef .tc main_v154) : V24 m (outs m h) c b = V23 m (outsA m h) c b := by
  rw [V24, Function.update_of_ne hb, V23_outs]

set_option backward.isDefEq.respectTransparency.types false in
/-- The launch, for any contents the two calls leave: with a record for each call, entered from what the operations
    before it leave, every weakly fair execution of @main from zero counters ends with every unscoped buffer at what
    the operations and the calls leave in it, and every counter at zero. -/
theorem launched (ρ : Dev nD → PrngReg) (o : Outs (F := F)) (a : (p : Fin 2) → (pcfgs (F := F) p).Adm)
    (D : (p : Fin 2) → (c : Dev nD) → Dat τ (Elt F) Unit ℕ UU ℕ (Pipeline.pin (pcfgs (F := F)) a p) c)
    (R0 : RegionSeg (pcfgs (F := F)) a D () defs₀ Variants.none lvls (fun _ _ => 0) 0)
    (R1 : RegionSeg (pcfgs (F := F)) a D () defs₀ Variants.none lvls (fun _ _ => 0) 1)
    (hin0 : ∀ c : Dev nD, iprop(StableHlo.held (c : Thread nD τ) (Pipeline.ucRefs τ sig) (V12 m c) ∗ idle c) ⊢ R0.pre c)
    (hout0 : ∀ c : Dev nD, R0.post c ⊢ iprop(StableHlo.held (c : Thread nD τ) (Pipeline.ucRefs τ sig) (V13 m o c) ∗ idle c))
    (hin1 : ∀ c : Dev nD, iprop(StableHlo.held (c : Thread nD τ) (Pipeline.ucRefs τ sig) (V23 m o c) ∗ idle c) ⊢ R1.pre c)
    (hout1 : ∀ c : Dev nD, R1.post c ⊢ iprop(StableHlo.held (c : Thread nD τ) (Pipeline.ucRefs τ sig) (V24 m o c) ∗ idle c)) :
    θ_run defs (onTc (τ := τ) (main (F := F))) ⟨m, fun _ => 0, ρ⟩ (fun r =>
      (∀ c : Dev nD, ∀ b ∈ Pipeline.ucRefs τ sig, r.2.mem ((c : Thread nD τ).1, b) = V25 m o c b) ∧ r.2.sem = fun _ => 0) := by
  refine Pipeline.θ_run_regions_kit_dev_sems (pcfgs (F := F)) a D () (cellOf_inj a) emb₁ defs₀ Variants.none lvls (fun _ _ => 0) m ρ main
    (segs m o Variants.none lvls (fun _ _ => 0) (fun _ => idle) () a D R0 R1)
    (fun c Q => by
      rewrite [main_chain c, Seg.run_eq_chain,
        show (segs m o Variants.none lvls (fun _ _ => 0) (fun _ => idle) () a D R0 R1 c).map Seg.prog = [
          StableHlo.seq hostOps0, StableHlo.seq hostOps0_1, StableHlo.seq hostOps0_2, StableHlo.seq hostOps0_3, StableHlo.seq hostOps0_4,
          StableHlo.seq hostOps0_5, StableHlo.seq hostOps0_6, StableHlo.seq hostOps0_7, StableHlo.seq hostOps0_8, StableHlo.seq hostOps0_9,
          StableHlo.seq hostOps0_10, StableHlo.seq hostOps0_11, Prog.lift (.customCall (Pipeline.entry 0) ()),
          StableHlo.seq hostOps1, StableHlo.seq hostOps1_1, StableHlo.seq hostOps1_2, StableHlo.seq hostOps1_3, StableHlo.seq hostOps1_4,
          StableHlo.seq hostOps1_5, StableHlo.seq hostOps1_6, StableHlo.seq hostOps1_7, StableHlo.seq hostOps1_8, StableHlo.seq hostOps1_9,
          Prog.lift (.customCall (Pipeline.entry 1) ()), StableHlo.seq hostOps2] from rfl]
      dsimp (config := { failIfUnchanged := false }) only
      exact .rfl)
    (fun c => by simp only [segs, Seg.pipes_host, Seg.pipes_region, Seg.pipes_nil]; decide)
    (fun _ => 0) lvls_ne (fun _ => iprop(emp))
    (initOf (Pipeline.cells (Pipeline.pin (pcfgs (F := F)) a) (cellOf_inj a)) (Pipeline.launchToks (Pipeline.pin (pcfgs (F := F)) a) (cellOf_inj a))) ?_
    (T₀ := fun c => iprop(StableHlo.held (c : Thread nD τ) (Pipeline.ucRefs τ sig) (V0 m c) ∗ idle c))
    (Tₙ := fun c => StableHlo.held (c : Thread nD τ) (Pipeline.ucRefs τ sig) (V25 m o c))
    (hch := fun c => ⟨.rfl, .rfl, .rfl, .rfl, .rfl, .rfl, .rfl, .rfl, .rfl, .rfl, .rfl, .rfl, hin0 c, hout0 c,
      .rfl, .rfl, .rfl, .rfl, .rfl, .rfl, .rfl, .rfl, .rfl, hin1 c, hout1 c, .rfl⟩)
    (hinit := ?_) (QY := fun c s => ∀ b ∈ Pipeline.ucRefs τ sig, s.mem ((c : Thread nD τ).1, b) = V25 m o c b)
    (hfin := fun c s' => ?_) (hQ := fun _ hq hz => ⟨hq, funext fun g => hz g (.inr (regions_no_unscoped g.2))⟩)
  · iintro Hu
    imodintro
    isplitl [Hu]; · rw [← ownU_emb₁]; iexact Hu
    iapply (show (BI.emp : sProp (MT nD τ sig Unit (Elt F) ℕ UU ℕ)) ⊢ bigSep Finset.univ (fun _ : Dev nD => BI.emp) from by rw [BI.bigSep_emp_const])
    iempintro
  · refine Pipeline.initEach lvls (fun _ _ => 0) fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V25 m o c) s') $$ [Hh HSI]
    · isplitl [Hh] <;> iassumption
    icases Hr with ⟨%hb, HSI⟩
    imodintro
    isplitr; · ipureintro; exact hb
    iexact HSI

/-- @main's run, the calls' results at what their grids leave. -/
theorem runs (ρ : Dev nD → PrngReg) : θ_run defs (onTc (τ := τ) (main (F := F))) ⟨m, fun _ => 0, ρ⟩ (fun r =>
    (∀ c : Dev nD, ∀ b ∈ Pipeline.ucRefs τ sig, r.2.mem ((c : Thread nD τ).1, b) = V25 m (outs m h) c b) ∧ r.2.sem = fun _ => 0) :=
  launched m ρ (outs m h) (adm (table0 m) (table1 m h)) (pdats (table0 m) (table1 m h) h.first (h.second _) (V12 m) (V23 m (outsA m h)))
    (rec0 (table0 m) (table1 m h) h.first (h.second _) (V12 m) (V13 m (outs m h)) (V23 m (outsA m h)) (first_table m) (first_left m h) (first_others m h))
    (rec1 (table0 m) (table1 m h) h.first (h.second _) (V12 m) (V23 m (outsA m h)) (V24 m (outs m h)) (second_table m h) (second_left m h) (second_others m h))
    (pre0_of _ _ _ _ _ _ _ _ _ _) (post0_of _ _ _ _ _ _ _ _ _ _)
    (fun c => by rw [V23_outs]; exact pre1_of _ _ _ _ _ _ _ _ _ _ c) (post1_of _ _ _ _ _ _ _ _ _ _)

end Cert.KernelIdeal.Band

end
-- ==== Proof.Words.lean ====
/-
  The two word computations the host makes of a band's first column: its remainder and its quotient by 128, each in
  the long form that corrects a truncating division to the floor.
-/
module

public import Idealize.ShloMosaic.PureOps

@[expose] public section

noncomputable section

namespace Cert.Bands

open Idealize.ShloMosaic

/-- The divisor, replaced by one should it be zero. -/
def modulus : BitVec 32 := Scalar.select (IntOp.cmpi .eq (128#32) 0#32) 1#32 128#32

/-- The truncating remainder. -/
def remTrunc (s : BitVec 32) : BitVec 32 := IntOp.remsi .host s modulus

/-- A first column's place within its tile of 128 columns. -/
def remWord (s : BitVec 32) : BitVec 32 :=
  Scalar.select (IntOp.andi (IntOp.cmpi .ne (IntOp.cmpi .slt (remTrunc s) 0#32) (IntOp.cmpi .slt modulus 0#32))
    (IntOp.cmpi .ne (remTrunc s) 0#32)) (IntOp.addi (remTrunc s) modulus) (remTrunc s)

/-- A word's sign. -/
def signWord (x : BitVec 32) : BitVec 32 := if x = 0 then 0 else if x.msb then -1 else 1

/-- The tile of 128 columns a first column lies in. -/
def divWord (s : BitVec 32) : BitVec 32 :=
  Scalar.select (IntOp.andi (IntOp.cmpi .ne (signWord s) (signWord 128#32)) (IntOp.cmpi .ne (IntOp.remsi .host s 128#32) 0#32))
    (IntOp.subi (IntOp.divsi .host s 128#32) 1#32) (IntOp.divsi .host s 128#32)

theorem word_values : ∀ n : Fin 1024, (remWord (BitVec.ofNat 32 n)).toNat = n % 128 ∧ (divWord (BitVec.ofNat 32 n)).toNat = n / 128 := by
  decide +kernel

/-- The remainder of a word below 1024. -/
theorem remWord_of_lt (s : BitVec 32) (h : s.toNat < 1024) : (remWord s).toNat = s.toNat % 128 := by
  simpa using (word_values ⟨s.toNat, h⟩).1

/-- The quotient of a word below 1024. -/
theorem divWord_of_lt (s : BitVec 32) (h : s.toNat < 1024) : (divWord s).toNat = s.toNat / 128 := by
  simpa using (word_values ⟨s.toNat, h⟩).2

end Cert.Bands
-- ==== Proof.HostWords.lean ====
/-
  What the host operations leave of the bands' first columns: the two tables the calls are given, and each group's
  places within its tiles.
-/
module

public import proofs.«01_k».proof.Proof.Run
public import proofs.«01_k».proof.Proof.Words
public import Idealize.ShloMosaic.Lib.StableHlo.RunRead
public import Idealize.ShloMosaic.Lib.ValueIdx
public import Idealize.ShloMosaic.Lib.Pipeline.Value

@[expose] public section

noncomputable section

namespace Cert.KernelIdeal.Band

open Cert.KernelIdeal
open Cert.Bands
open Cert.KernelIdeal.Gen

open Idealize.ShloMosaic
open Idealize.ShloMosaic.TcCoe
open Idealize.ShloMosaic.StableHlo
open Idealize.ShloMosaic.ValueIdx

variable {F : FTy → Type} [FloatOps F]

/-! ## Buffers the stretches leave alone -/

section Kept
variable (m : (ℓ : Loc nD τ sig) → Buf (Elt F) ℓ) (o : Outs (F := F)) (c : Dev nD) (r : Ref sig .tc)

/-- What the stretches before the first call write. -/
abbrev firstWrites : List (Ref sig .tc) := hostOps0_W ++ hostOps0_1_W ++ hostOps0_2_W ++ hostOps0_3_W ++ hostOps0_4_W ++ hostOps0_5_W
  ++ hostOps0_6_W ++ hostOps0_7_W ++ hostOps0_8_W ++ hostOps0_9_W ++ hostOps0_10_W ++ hostOps0_11_W

/-- What the first call and the stretches between the calls write. -/
abbrev secondWrites : List (Ref sig .tc) := [main_v78] ++ hostOps1_W ++ hostOps1_1_W ++ hostOps1_2_W ++ hostOps1_3_W ++ hostOps1_4_W
  ++ hostOps1_5_W ++ hostOps1_6_W ++ hostOps1_7_W ++ hostOps1_8_W ++ hostOps1_9_W

/-- A buffer none of the stretches before the first call writes is at its launch contents throughout them. -/
structure KeptFirst : Prop where
  v1 : V1 m c r = m ((c : Thread nD τ).loc r)
  v2 : V2 m c r = m ((c : Thread nD τ).loc r)
  v4 : V4 m c r = m ((c : Thread nD τ).loc r)
  v6 : V6 m c r = m ((c : Thread nD τ).loc r)
  v8 : V8 m c r = m ((c : Thread nD τ).loc r)
  v10 : V10 m c r = m ((c : Thread nD τ).loc r)
  v12 : V12 m c r = m ((c : Thread nD τ).loc r)

theorem keptFirst (h : r ∉ firstWrites) : KeptFirst m c r := by
  simp only [firstWrites, List.mem_append, not_or] at h
  obtain ⟨⟨⟨⟨⟨⟨⟨⟨⟨⟨⟨h0, h1⟩, h2⟩, h3⟩, h4⟩, h5⟩, h6⟩, h7⟩, h8⟩, h9⟩, h10⟩, h11⟩ := h
  have e1 := V1_of m c r h0
  have e2 := (V2_of m c r h1).trans e1
  have e4 := (V4_of m c r h3).trans ((V3_of m c r h2).trans e2)
  have e6 := (V6_of m c r h5).trans ((V5_of m c r h4).trans e4)
  have e8 := (V8_of m c r h7).trans ((V7_of m c r h6).trans e6)
  have e10 := (V10_of m c r h9).trans ((V9_of m c r h8).trans e8)
  exact ⟨e1, e2, e4, e6, e8, e10, (V12_of m c r h11).trans ((V11_of m c r h10).trans e10)⟩

/-- A buffer neither the first call nor the stretches after it write is, throughout them, as the call found it. -/
structure KeptSecond : Prop where
  v13 : V13 m o c r = V12 m c r
  v15 : V15 m o c r = V12 m c r
  v17 : V17 m o c r = V12 m c r
  v19 : V19 m o c r = V12 m c r
  v21 : V21 m o c r = V12 m c r
  v23 : V23 m o c r = V12 m c r

theorem keptSecond (h : r ∉ secondWrites) : KeptSecond m o c r := by
  simp only [secondWrites, List.mem_append, not_or] at h
  obtain ⟨⟨⟨⟨⟨⟨⟨⟨⟨⟨h0, h1⟩, h2⟩, h3⟩, h4⟩, h5⟩, h6⟩, h7⟩, h8⟩, h9⟩, h10⟩ := h
  have e13 := V13_of m o c r h0
  have e15 := (V15_of m o c r h2).trans ((V14_of m o c r h1).trans e13)
  have e17 := (V17_of m o c r h4).trans ((V16_of m o c r h3).trans e15)
  have e19 := (V19_of m o c r h6).trans ((V18_of m o c r h5).trans e17)
  have e21 := (V21_of m o c r h8).trans ((V20_of m o c r h7).trans e19)
  exact ⟨e13, e15, e17, e19, e21, (V23_of m o c r h10).trans ((V22_of m o c r h9).trans e21)⟩

end Kept

/-! ## The stretches that compute words -/

section Stretches
variable (X : Valuation τ sig (Elt F))

theorem rem0 (hc : X main_c_2 = constantI S_ 32 128#32) :
    after hostOps0_3 X main_v15 = fun y => remWord ((X main_v13 : IVec S42 32) y) := by
  after_results_simp; rw [hc]; rfl

theorem rem1 (hc : X main_c_5 = constantI S_ 32 128#32) :
    after hostOps0_7 X main_v48 = fun y => remWord ((X main_v46 : IVec S10 32) y) := by
  after_results_simp; rw [hc]; rfl

theorem rem2 (hc : X main_c_10 = constantI S_ 32 128#32) :
    after hostOps1_1 X main_v92 = fun y => remWord ((X main_v90 : IVec S7 32) y) := by
  after_results_simp; rw [hc]; rfl

theorem rem3 (hc : X main_c_14 = constantI S_ 32 128#32) :
    after hostOps1_5 X main_v125 = fun y => remWord ((X main_v123 : IVec S5 32) y) := by
  after_results_simp; rw [hc]; rfl

/-- The floor division by 128, operation by operation. -/
theorem floor_eq {s : Shape} (h : S_.BroadcastsInDim s (![] : Fin 0 → Fin s.rank)) (x : IVec s 32) :
    select (andi (cmpi .ne (signi x) (broadcastInDim s ![] h (signi (constantI S_ 32 128#32))))
        (cmpi .ne (Host.remsi x (broadcastInDim s ![] h (constantI S_ 32 128#32))) (broadcastInDim s ![] h (constantI S_ 32 0#32))))
      (subi (Host.divsi x (broadcastInDim s ![] h (constantI S_ 32 128#32))) (broadcastInDim s ![] h (constantI S_ 32 1#32)))
      (Host.divsi x (broadcastInDim s ![] h (constantI S_ 32 128#32))) = fun i => divWord (x i) := rfl

theorem div0 (hc : X main_c_7 = constantI S_ 32 128#32) :
    after hostOps0_11 X main_v77 = fun y => divWord ((X main_v76 : IVec S52 32) y) := by
  after_results_simp; rw [hc]; exact floor_eq bcast_S_S52 (X main_v76)

theorem div1 (hc : X main_c_16 = constantI S_ 32 128#32) :
    after hostOps1_9 X main_v153 = fun y => divWord ((X main_v152 : IVec S12 32) y) := by
  after_results_simp; rw [hc]; exact floor_eq bcast_S_S12 (X main_v152)

/-- The first column of each band of a group. -/
abbrev starts42 (x : IVec S42x31 32) : IVec S42 32 := shapeCast S42 (extractStridedSlice S42x1 ![0, 0] x slices_S42x31_S42x1_0_0) shapeCasts_S42x1_S42
@[inherit_doc starts42] abbrev starts10 (x : IVec S10x61 32) : IVec S10 32 := shapeCast S10 (extractStridedSlice S10x1 ![0, 0] x slices_S10x61_S10x1_0_0) shapeCasts_S10x1_S10
@[inherit_doc starts42] abbrev starts7 (x : IVec S7x97 32) : IVec S7 32 := shapeCast S7 (extractStridedSlice S7x1 ![0, 0] x slices_S7x97_S7x1_0_0) shapeCasts_S7x1_S7
@[inherit_doc starts42] abbrev starts5 (x : IVec S5x125 32) : IVec S5 32 := shapeCast S5 (extractStridedSlice S5x1 ![0, 0] x slices_S5x125_S5x1_0_0) shapeCasts_S5x1_S5

/-- A column of an array, its unit axis dropped, holds the column's words. -/
theorem column_apply {n W : ℕ} {hW : 0 < W} (x : IVec ⟨2, ![n, W]⟩ 32) (hs : (⟨2, ![n, W]⟩ : Shape).Slices ![0, 0] ⟨2, ![n, 1]⟩)
    (hc : (⟨2, ![n, 1]⟩ : Shape).ShapeCasts ⟨1, ![n]⟩) (b : Fin n) :
    shapeCast ⟨1, ![n]⟩ (extractStridedSlice ⟨2, ![n, 1]⟩ ![0, 0] x hs) hc (ValueIdx.ix1 b) = x (ix2 b ⟨0, hW⟩) :=
  (shapeCast_apply _ _ _ (ix2 b 0) (by rw [Shape.rowMajor_val_two, Shape.rowMajor_val_one]; show b.val * 1 + 0 = b.val; omega)).trans
    (extractStridedSlice_apply _ _ _ _ (ix2 b ⟨0, hW⟩) (by intro a; match a with | ⟨0, _⟩ => simp | ⟨1, _⟩ => simp))

theorem startsA : after hostOps0_10 X main_v76
    = concatenate S52 0 [⟨S42, starts42 (X main_arg4)⟩, ⟨S10, starts10 (X main_arg8)⟩] concatenates_S42_S10_S52_d0 := by
  after_results_simp; rfl

theorem startsB : after hostOps1_8 X main_v152
    = concatenate S12 0 [⟨S7, starts7 (X main_arg12)⟩, ⟨S5, starts5 (X main_arg16)⟩] concatenates_S7_S5_S12_d0 := by
  after_reads_simp; rfl

/-- The 128 the second table's computation divides by. -/
theorem divisorA : after hostOps0_10 X main_c_7 = constantI S_ 32 128#32 := by after_results_simp
theorem divisorB : after hostOps1_8 X main_c_16 = constantI S_ 32 128#32 := by after_results_simp

end Stretches

/-! ## The two tables -/

section Tables
variable (m : (ℓ : Loc nD τ sig) → Buf (Elt F) ℓ)

/-- A word of a pair of arrays laid end to end. -/
theorem pair_apply {n n' N : ℕ} {α : Type} (x : (⟨1, ![n]⟩ : Shape).Idx → α) (y : (⟨1, ![n']⟩ : Shape).Idx → α) (hN : N = n + n')
    (h : Shape.Concatenates [⟨1, ![n]⟩, ⟨1, ![n']⟩] ⟨1, ![N]⟩ 0) (b : Fin N) :
    concatenate ⟨1, ![N]⟩ 0 [⟨⟨1, ![n]⟩, x⟩, ⟨⟨1, ![n']⟩, y⟩] h (ValueIdx.ix1 b)
      = if hb : b.val < n then x (ValueIdx.ix1 ⟨b.val, hb⟩) else y (ValueIdx.ix1 ⟨b.val - n, by omega⟩) := by
  by_cases hb : b.val < n
  · rw [dif_pos hb]
    exact concatenate_pair_apply_left 0 x y h _ rfl (ValueIdx.ix1 ⟨b.val, hb⟩) (by intro a; match a with | ⟨0, _⟩ => rfl)
  · rw [dif_neg hb]
    exact concatenate_pair_apply_right 0 x y h _ rfl rfl (ValueIdx.ix1 ⟨b.val - n, by omega⟩)
      (by intro a ha; match a with | ⟨0, _⟩ => exact absurd rfl ha) (by show b.val - n + n = b.val; omega)

/-- The first column of each band the first call computes. -/
def start0 (b : Fin 52) : BitVec 32 :=
  if hb : b.val < 42 then (m (((0 : Dev nD) : Thread nD τ).loc main_arg4) : IVec S42x31 32) (ix2 ⟨b.val, hb⟩ 0)
  else (m (((0 : Dev nD) : Thread nD τ).loc main_arg8) : IVec S10x61 32) (ix2 ⟨b.val - 42, by omega⟩ 0)

/-- The first column of each band the second call computes. -/
def start1 (b : Fin 12) : BitVec 32 :=
  if hb : b.val < 7 then (m (((0 : Dev nD) : Thread nD τ).loc main_arg12) : IVec S7x97 32) (ix2 ⟨b.val, hb⟩ 0)
  else (m (((0 : Dev nD) : Thread nD τ).loc main_arg16) : IVec S5x125 32) (ix2 ⟨b.val - 7, by omega⟩ 0)

theorem table0_apply (b : Fin 52) : table0 m (ValueIdx.ix1 b) = divWord (start0 m b) := by
  refine (congrFun (div0 (V11 m 0) (divisorA (V10 m 0))) _).trans (congrArg divWord ?_)
  refine (congrFun (startsA (V10 m 0)) _).trans ((pair_apply (n := 42) (n' := 10) _ _ rfl _ b).trans ?_)
  rw [start0, (keptFirst m 0 main_arg4 (by decide)).v10, (keptFirst m 0 main_arg8 (by decide)).v10]
  split
  · exact column_apply (hW := by decide) ..
  · exact column_apply (hW := by decide) ..

theorem table1_apply (o : Outs (F := F)) (b : Fin 12) : (V23 m o 0 main_v153 : IVec S12 32) (ValueIdx.ix1 b) = divWord (start1 m b) := by
  refine (congrFun (div1 (V22 m o 0) (divisorB (V21 m o 0))) _).trans (congrArg divWord ?_)
  refine (congrFun (startsB (V21 m o 0)) _).trans ((pair_apply (n := 7) (n' := 5) _ _ rfl _ b).trans ?_)
  rw [start1, ((keptSecond m o 0 main_arg12 (by decide)).v21).trans (keptFirst m 0 main_arg12 (by decide)).v12,
    ((keptSecond m o 0 main_arg16 (by decide)).v21).trans (keptFirst m 0 main_arg16 (by decide)).v12]
  split
  · exact column_apply (hW := by decide) ..
  · exact column_apply (hW := by decide) ..

/-- Bands that start below column 1024 leave tables whose words are below 8. -/
theorem tablesBelow (h0 : ∀ b, (start0 m b).toNat < 1024) (h1 : ∀ b, (start1 m b).toNat < 1024) : TablesBelow m where
  first y := by
    obtain ⟨b, rfl⟩ : ∃ b : Fin 52, y = ValueIdx.ix1 b := ⟨y 0, eq_ix1 y⟩
    rw [table0_apply, divWord_of_lt _ (h0 _)]
    have := h0 b; omega
  second o y := by
    obtain ⟨b, rfl⟩ : ∃ b : Fin 12, y = ValueIdx.ix1 b := ⟨y 0, eq_ix1 y⟩
    rw [table1_apply, divWord_of_lt _ (h1 _)]
    have := h1 b; omega

end Tables

end Cert.KernelIdeal.Band
-- ==== Proof.Precondition.lean ====
/-
  What the precondition says of one group of bands, word by word.
-/
module

public import proofs.«01_k».proof.Defs
public import proofs.«01_k».proof.Proof.Gen.Pre_bands_as_built
public import Idealize.ShloMosaic.Lib.ValueIdx
public import Idealize.ShloMosaic.Lib.Pipeline.Value

@[expose] public section

noncomputable section

namespace Cert.Bands

open Idealize.ShloMosaic Idealize.ShloMosaic.ValueIdx

variable {F : FTy → Type} [FloatOps F]

/-- A group of `n` bands of width `W`, numbered from `first`: its column table, its mask and its band numbers are as a
    model whose bands are runs of adjacent columns builds them. -/
structure AsBuilt (n W first : ℕ) [NeZero W] (idx : IVec ⟨2, ![n, W]⟩ 32) (mask : FVec F ⟨2, ![n, W]⟩ .f32) (sub : IVec ⟨1, ![n]⟩ 32) : Prop where
  /-- Every table word is a column of the spectrum. -/
  range : ∀ b w, (idx (ix2 b w)).toNat < 1025
  /-- A band starts before the last column. -/
  start : ∀ b, (idx (ix2 b 0)).toNat < 1024
  /-- A place is masked off, or is the column as far along the band. -/
  place : ∀ b w, FloatOps.cmpf .oeq (mask (ix2 b w)) (Scalar.ofBits .f32 0x00000000#32) = 1#1
    ∨ (FloatOps.cmpf .oeq (mask (ix2 b w)) (Scalar.ofBits .f32 0x3F800000#32) = 1#1 ∧ idx (ix2 b w) = idx (ix2 b 0) + BitVec.ofNat 32 w)
  /-- The bands are numbered in order. -/
  number : ∀ b, sub (ix1 b) = BitVec.ofNat 32 b + BitVec.ofNat 32 first

theorem and_eq_one (p q : BitVec 1) : IntOp.andi p q = 1#1 → p = 1#1 ∧ q = 1#1 := by revert p q; decide
theorem or_eq_one (p q : BitVec 1) : IntOp.ori p q = 1#1 → p = 1#1 ∨ q = 1#1 := by revert p q; decide

theorem lt_of_bounds (x : BitVec 32) (N : ℕ) (hN : N < 2 ^ 31) (h0 : IntOp.cmpi .sge x 0#32 = 1#1) (h1 : IntOp.cmpi .slt x (BitVec.ofNat 32 N) = 1#1) :
    x.toNat < N := by
  have key (p : Bool) : BitVec.ofBool p = 1#1 → p = true := by cases p <;> decide
  have a := key _ h0
  have b := key _ h1
  simp only [BitVec.sle, BitVec.slt, decide_eq_true_eq, BitVec.toInt, BitVec.toNat_ofNat] at a b
  omega

/-- The four conditions of one group, as the precondition computes them, say that the group is as built. -/
theorem asBuilt_of {n W first : ℕ} [NeZero W] {idx : IVec ⟨2, ![n, W]⟩ 32} {mask : FVec F ⟨2, ![n, W]⟩ .f32} {sub : IVec ⟨1, ![n]⟩ 32}
    (hs : (⟨2, ![n, W]⟩ : Shape).Slices ![0, 0] ⟨2, ![n, 1]⟩)
    (b2 : (⟨0, ![]⟩ : Shape).BroadcastsInDim ⟨2, ![n, W]⟩ (![] : Fin 0 → Fin 2)) (b1 : (⟨0, ![]⟩ : Shape).BroadcastsInDim ⟨2, ![n, 1]⟩ (![] : Fin 0 → Fin 2))
    (b0 : (⟨0, ![]⟩ : Shape).BroadcastsInDim ⟨1, ![n]⟩ (![] : Fin 0 → Fin 1)) (bs : (⟨2, ![n, 1]⟩ : Shape).BroadcastsInDim ⟨2, ![n, W]⟩ (![0, 1] : Fin 2 → Fin 2))
    (h0 : andi (cmpi .sge idx (broadcastInDim ⟨2, ![n, W]⟩ ![] b2 (constantI ⟨0, ![]⟩ 32 0#32)))
      (cmpi .slt idx (broadcastInDim ⟨2, ![n, W]⟩ ![] b2 (constantI ⟨0, ![]⟩ 32 1025#32))) = fun _ => 1#1)
    (h1 : cmpi .slt (extractStridedSlice ⟨2, ![n, 1]⟩ ![0, 0] idx hs) (broadcastInDim ⟨2, ![n, 1]⟩ ![] b1 (constantI ⟨0, ![]⟩ 32 1024#32)) = fun _ => 1#1)
    (h2 : ori (cmpf .oeq mask (broadcastInDim ⟨2, ![n, W]⟩ ![] b2 (constant ⟨0, ![]⟩ .f32 0x00000000#32)))
      (andi (cmpf .oeq mask (broadcastInDim ⟨2, ![n, W]⟩ ![] b2 (constant ⟨0, ![]⟩ .f32 0x3F800000#32)))
        (cmpi .eq idx (addi (broadcastInDim ⟨2, ![n, W]⟩ ![0, 1] bs (extractStridedSlice ⟨2, ![n, 1]⟩ ![0, 0] idx hs)) (iotaInDim ⟨2, ![n, W]⟩ 32 1)))) = fun _ => 1#1)
    (h3 : cmpi .eq sub (addi (iotaInDim ⟨1, ![n]⟩ 32 0) (broadcastInDim ⟨1, ![n]⟩ ![] b0 (constantI ⟨0, ![]⟩ 32 (BitVec.ofNat 32 first)))) = fun _ => 1#1) :
    AsBuilt n W first idx mask sub := by
  have eq_of (x y : BitVec 32) : IntOp.cmpi .eq x y = 1#1 → x = y := by
    have key (p : Bool) : BitVec.ofBool p = 1#1 → p = true := by cases p <;> decide
    exact fun h => by simpa using key _ h
  have slice (b : Fin n) : extractStridedSlice ⟨2, ![n, 1]⟩ ![0, 0] idx hs (ix2 b 0) = idx (ix2 b 0) :=
    extractStridedSlice_apply _ _ _ _ (ix2 b 0) (by intro a; match a with | ⟨0, _⟩ => simp | ⟨1, _⟩ => simp)
  have inside (b : Fin n) (w : Fin W) := and_eq_one _ _ (congrFun h0 (ix2 b w))
  refine ⟨fun b w => lt_of_bounds _ 1025 (by decide) (inside b w).1 (inside b w).2, fun b => ?_, fun b w => ?_, fun b => eq_of _ _ (congrFun h3 (ix1 b))⟩
  · have := congrFun h1 (ix2 b 0)
    refine lt_of_bounds _ 1024 (by decide) (inside b 0).1 ?_
    rw [← slice b]
    exact this
  · refine (or_eq_one _ _ (congrFun h2 (ix2 b w))).imp id fun h => ?_
    obtain ⟨ha, hb⟩ := and_eq_one _ _ h
    refine ⟨ha, (eq_of _ _ hb).trans ?_⟩
    show IntOp.addi (broadcastInDim _ _ _ _ _) _ = _
    rw [broadcastInDim_apply _ _ _ _ (ix2 b 0) (by intro a; match a with | ⟨0, _⟩ => by_cases h : n = 1 <;> simp [h]; subst h; omega | ⟨1, _⟩ => simp), slice]
    rfl

section Whole
variable [Cert.Pre_bands_as_built.Facts] (x0 : FVec F ⟨4, ![8, 4, 256, 1025]⟩ .f32) (x1 : FVec F ⟨3, ![4, 125, 128]⟩ .f32) (x2 : FVec F ⟨1, ![128]⟩ .f32)
  (x3 : FVec F ⟨1, ![1025]⟩ .f32) (x4 : IVec ⟨2, ![42, 31]⟩ 32) (x5 x6 : FVec F ⟨2, ![42, 31]⟩ .f32) (x7 : IVec ⟨1, ![42]⟩ 32) (x8 : IVec ⟨2, ![10, 61]⟩ 32)
  (x9 x10 : FVec F ⟨2, ![10, 61]⟩ .f32) (x11 : IVec ⟨1, ![10]⟩ 32) (x12 : IVec ⟨2, ![7, 97]⟩ 32) (x13 x14 : FVec F ⟨2, ![7, 97]⟩ .f32) (x15 : IVec ⟨1, ![7]⟩ 32)
  (x16 : IVec ⟨2, ![5, 125]⟩ 32) (x17 x18 : FVec F ⟨2, ![5, 125]⟩ .f32) (x19 : IVec ⟨1, ![5]⟩ 32)

/-- The four groups are as built. -/
structure AllBuilt : Prop where
  g0 : AsBuilt 42 31 0 x4 x6 x7
  g1 : AsBuilt 10 61 42 x8 x10 x11
  g2 : AsBuilt 7 97 52 x12 x14 x15
  g3 : AsBuilt 5 125 59 x16 x18 x19

open Cert.Pre_bands_as_built.Gen in
/-- The precondition says that the four groups are as built. -/
theorem allBuilt_of :
    let p := Cert.Pre_bands_as_built.fn x0 x1 x2 x3 x4 x5 x6 x7 x8 x9 x10 x11 x12 x13 x14 x15 x16 x17 x18 x19
    (p.1 = (fun _ => 1#1)) ∧ (p.2.1 = (fun _ => 1#1)) ∧ (p.2.2.1 = (fun _ => 1#1)) ∧ (p.2.2.2.1 = (fun _ => 1#1)) ∧ (p.2.2.2.2.1 = (fun _ => 1#1))
      ∧ (p.2.2.2.2.2.1 = (fun _ => 1#1)) ∧ (p.2.2.2.2.2.2.1 = (fun _ => 1#1)) ∧ (p.2.2.2.2.2.2.2.1 = (fun _ => 1#1)) ∧ (p.2.2.2.2.2.2.2.2.1 = (fun _ => 1#1))
      ∧ (p.2.2.2.2.2.2.2.2.2.1 = (fun _ => 1#1)) ∧ (p.2.2.2.2.2.2.2.2.2.2.1 = (fun _ => 1#1)) ∧ (p.2.2.2.2.2.2.2.2.2.2.2.1 = (fun _ => 1#1))
      ∧ (p.2.2.2.2.2.2.2.2.2.2.2.2.1 = (fun _ => 1#1)) ∧ (p.2.2.2.2.2.2.2.2.2.2.2.2.2.1 = (fun _ => 1#1))
      ∧ (p.2.2.2.2.2.2.2.2.2.2.2.2.2.2.1 = (fun _ => 1#1)) ∧ (p.2.2.2.2.2.2.2.2.2.2.2.2.2.2.2 = (fun _ => 1#1)) →
    AllBuilt x4 x6 x7 x8 x10 x11 x12 x14 x15 x16 x18 x19 := by
  intro p ⟨a0, a1, a2, a3, b0, b1, b2, b3, c0, c1, c2, c3, d0, d1, d2, d3⟩
  exact ⟨asBuilt_of slices_S42x31_S42x1_0_0 bcast_S_S42x31 bcast_S_S42x1 bcast_S_S42 bcast_S42x1_S42x31_0_1 a0 a1 a2 a3,
    asBuilt_of slices_S10x61_S10x1_0_0 bcast_S_S10x61 bcast_S_S10x1 bcast_S_S10 bcast_S10x1_S10x61_0_1 b0 b1 b2 b3,
    asBuilt_of slices_S7x97_S7x1_0_0 bcast_S_S7x97 bcast_S_S7x1 bcast_S_S7 bcast_S7x1_S7x97_0_1 c0 c1 c2 c3,
    asBuilt_of slices_S5x125_S5x1_0_0 bcast_S_S5x125 bcast_S_S5x1 bcast_S_S5 bcast_S5x1_S5x125_0_1 d0 d1 d2 d3⟩

end Whole

end Cert.Bands
-- ==== Proof.Args.lean ====
/-
  The run's result, with the arguments and the counters as they were.
-/
module

public import proofs.«01_k».proof.Proof.HostWords
public import proofs.«01_k».proof.Proof.Precondition

@[expose] public section

noncomputable section

namespace Cert.KernelIdeal.Band

open Cert.KernelIdeal
open Cert.KernelIdeal.Gen
open Cert.Bands

open Idealize.ShloMosaic
open Idealize.ShloMosaic.TcCoe

variable {F : FTy → Type} [FloatOps F]

section Frame
variable (m : (ℓ : Loc nD τ sig) → Buf (Elt F) ℓ)

/-- Bands as built start below column 1024. -/
theorem tablesBelow_of (hb : AllBuilt (F := F) (m (((0 : Dev nD) : Thread nD τ).loc main_arg4)) (m (((0 : Dev nD) : Thread nD τ).loc main_arg6))
    (m (((0 : Dev nD) : Thread nD τ).loc main_arg7)) (m (((0 : Dev nD) : Thread nD τ).loc main_arg8)) (m (((0 : Dev nD) : Thread nD τ).loc main_arg10))
    (m (((0 : Dev nD) : Thread nD τ).loc main_arg11)) (m (((0 : Dev nD) : Thread nD τ).loc main_arg12)) (m (((0 : Dev nD) : Thread nD τ).loc main_arg14))
    (m (((0 : Dev nD) : Thread nD τ).loc main_arg15)) (m (((0 : Dev nD) : Thread nD τ).loc main_arg16)) (m (((0 : Dev nD) : Thread nD τ).loc main_arg18))
    (m (((0 : Dev nD) : Thread nD τ).loc main_arg19))) : TablesBelow m :=
  tablesBelow m (fun b => by rw [start0]; split; exacts [hb.g0.start _, hb.g1.start _]) (fun b => by rw [start1]; split; exacts [hb.g2.start _, hb.g3.start _])

/-- The run leaves every argument as it was and every counter at zero; its result is what the last stretch leaves. -/
theorem runs_args (h : TablesBelow m) (ρ : Dev nD → PrngReg) : θ_run defs (onTc (τ := τ) (main (F := F))) ⟨m, fun _ => 0, ρ⟩ (fun r => (∀ c : Dev nD,
      r.2.mem ((c : Thread nD τ).loc main_v158) = V25 m (outs m h) c main_v158
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)) ∧ r.2.sem = fun _ => 0) := by
  refine (θ_run defs _ _).mono (fun r hr => ⟨fun c => ?_, hr.2⟩) (runs m h ρ)
  have arg (b : Ref sig .tc) (hu : ¬ b.isScoped) {x} (e : V25 m (outs m h) c b = x) : r.2.mem ((c : Thread nD τ).loc b) = x :=
    (hr.1 c b (Finset.mem_filter.mpr ⟨StableHlo.devRef_mem_tcRefs b, hu⟩)).trans e
  exact ⟨arg main_v158 (by decide) rfl, arg main_arg0 (by decide) (V25_main_arg0 m (outs m h) c), arg main_arg1 (by decide) (V25_main_arg1 m (outs m h) c),
      arg main_arg2 (by decide) (V25_main_arg2 m (outs m h) c), arg main_arg3 (by decide) (V25_main_arg3 m (outs m h) c),
      arg main_arg4 (by decide) (V25_main_arg4 m (outs m h) c), arg main_arg5 (by decide) (V25_main_arg5 m (outs m h) c),
      arg main_arg6 (by decide) (V25_main_arg6 m (outs m h) c), arg main_arg7 (by decide) (V25_main_arg7 m (outs m h) c),
      arg main_arg8 (by decide) (V25_main_arg8 m (outs m h) c), arg main_arg9 (by decide) (V25_main_arg9 m (outs m h) c),
      arg main_arg10 (by decide) (V25_main_arg10 m (outs m h) c), arg main_arg11 (by decide) (V25_main_arg11 m (outs m h) c),
      arg main_arg12 (by decide) (V25_main_arg12 m (outs m h) c), arg main_arg13 (by decide) (V25_main_arg13 m (outs m h) c),
      arg main_arg14 (by decide) (V25_main_arg14 m (outs m h) c), arg main_arg15 (by decide) (V25_main_arg15 m (outs m h) c),
      arg main_arg16 (by decide) (V25_main_arg16 m (outs m h) c), arg main_arg17 (by decide) (V25_main_arg17 m (outs m h) c),
      arg main_arg18 (by decide) (V25_main_arg18 m (outs m h) c), arg main_arg19 (by decide) (V25_main_arg19 m (outs m h) c)⟩

end Frame

end Cert.KernelIdeal.Band

end
-- ==== Proof.Frames.lean ====
/-
  Each program's run ends, leaves its arguments as they were, and leaves every counter at zero.
-/
module

public import proofs.«01_k».proof.Proof.Args
public import proofs.«01_k».proof.Proof.Plain.Args
public import proofs.«01_k».proof.Proof.Gen.ReferenceIdeal.Run

@[expose] public section

noncomputable section

namespace Cert.Bands

open Idealize.ShloMosaic

theorem frame_kernel : Cert.quiescent_Kernel := fun m g hp =>
  (θ_run Cert.Kernel.defs _ _).mono (fun _ h => ⟨fun c => (h.1 c).2, h.2⟩)
    (Cert.Kernel.Band.runs_args m (Cert.Kernel.Band.tablesBelow_of m (allBuilt_of _ _ _ _ _ _ _ _ _ _ _ _ _ _ _ _ _ _ _ _ (hp 0))) g)

theorem frame_kernelIdeal : Cert.quiescent_KernelIdeal := fun m g hp =>
  (θ_run Cert.KernelIdeal.defs _ _).mono (fun _ h => ⟨fun c => (h.1 c).2, h.2⟩)
    (Cert.KernelIdeal.Band.runs_args m (Cert.KernelIdeal.Band.tablesBelow_of m (allBuilt_of _ _ _ _ _ _ _ _ _ _ _ _ _ _ _ _ _ _ _ _ (hp 0))) g)

theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

theorem frame_referenceIdeal_pre : Cert.quiescent_ReferenceIdeal_pre_bands_as_built := fun m g _ => frame_referenceIdeal m g trivial

end Cert.Bands

end
-- ==== Proof.Weights.lean ====
/-
  The weights of one group of bands, as the kernel's host builds them: each band's weights, already multiplied by its filter,
  mask and gain, moved down to the rows its columns lie in within its tile.
-/
module

public import Idealize.ShloMosaic.Lib.ValueIdx
public import Idealize.ShloMosaic.Lib.MatmulPlain
public import Idealize.ShloMosaic.Lib.Pipeline.Value
public import Idealize.ShloMosaic.PureOps.Ideal
public import Idealize.ShloMosaic.PureOps.Ideal.Laws

@[expose] public section

noncomputable section

namespace Cert.Bands

open Idealize.ShloMosaic Idealize.ShloMosaic.ValueIdx

theorem inj012 : Function.Injective (![0, 1, 2] : Fin 3 → Fin 3) := by decide
theorem inj1 {m : ℕ} (a : Fin m) : Function.Injective (![a] : Fin 1 → Fin m) := Function.injective_of_subsingleton _

section Marks
variable (n K W : ℕ)

/-- Which place of a tile (row `k`) is which place of a band (place `w`): the row the band starts in, plus `w`. -/
abbrev marks (rem : IVec ⟨1, ![n]⟩ 32) : IVec ⟨3, ![n, K, W]⟩ 1 :=
  cmpi .eq
    (broadcastInDim ⟨3, ![n, K, W]⟩ ![0, 1, 2] ⟨inj012, fun a => by fin_cases a <;> simp⟩
      (broadcastInDim ⟨3, ![1, K, 1]⟩ ![1] ⟨inj1 _, fun a => by fin_cases a; simp⟩ (iotaInDim ⟨1, ![K]⟩ 32 0)))
    (broadcastInDim ⟨3, ![n, K, W]⟩ ![0, 1, 2] ⟨inj012, fun a => by fin_cases a <;> simp⟩
      (addi
        (broadcastInDim ⟨3, ![n, 1, W]⟩ ![0, 1, 2] ⟨inj012, fun a => by fin_cases a <;> simp⟩
          (broadcastInDim ⟨3, ![n, 1, 1]⟩ ![0] ⟨inj1 _, fun a => by fin_cases a; simp⟩ rem))
        (broadcastInDim ⟨3, ![n, 1, W]⟩ ![0, 1, 2] ⟨inj012, fun a => by fin_cases a <;> simp⟩
          (broadcastInDim ⟨3, ![1, 1, W]⟩ ![2] ⟨inj1 _, fun a => by fin_cases a; simp⟩ (iotaInDim ⟨1, ![W]⟩ 32 0)))))

/-- A band's filter and mask times its gain, as one row of places. -/
abbrev coefs (e : FVec Ideal ⟨2, ![n, W]⟩ .f32) (g : FVec Ideal ⟨1, ![n]⟩ .f32) : FVec Ideal ⟨3, ![n, 1, W]⟩ .f32 :=
  broadcastInDim ⟨3, ![n, 1, W]⟩ ![0, 2] ⟨(by decide : Function.Injective (![0, 2] : Fin 2 → Fin 3)), fun a => by fin_cases a <;> simp⟩
    (mulf e (broadcastInDim ⟨2, ![n, W]⟩ ![0, 1] ⟨(by decide : Function.Injective (![0, 1] : Fin 2 → Fin 2)), fun a => by fin_cases a <;> simp⟩
      (broadcastInDim ⟨2, ![n, 1]⟩ ![0] ⟨inj1 _, fun a => by fin_cases a; simp⟩ g)))

/-- The marked places hold the band's coefficients, the others zero. -/
abbrev placed (p : IVec ⟨3, ![n, K, W]⟩ 1) (q : FVec Ideal ⟨3, ![n, 1, W]⟩ .f32) (z : FVec Ideal ⟨0, ![]⟩ .f32) : FVec Ideal ⟨3, ![n, K, W]⟩ .f32 :=
  select p (broadcastInDim ⟨3, ![n, K, W]⟩ ![0, 1, 2] ⟨inj012, fun a => by fin_cases a <;> simp⟩ q)
    (broadcastInDim ⟨3, ![n, K, W]⟩ (![] : Fin 0 → Fin 3) ⟨fun a => a.elim0, fun a => a.elim0⟩ z)

/-- Weights [feature, place, channel] times places [band, row, place]. -/
def spread : DotDims ⟨3, ![4, W, 128]⟩ ⟨3, ![n, K, W]⟩ ⟨4, ![4, 128, n, K]⟩ where
  lhsContracting := [1]
  rhsContracting := [2]
  lhsNonContracting := [0, 2]
  rhsNonContracting := [0, 1]
  lhsBatch := []
  rhsBatch := []
  wf := ⟨rfl, by simp, rfl, by simp, by simp, by simp,
    (by decide : (([] ++ [0, 2] ++ [1] : List (Fin 3))).Perm (List.finRange 3)),
    (by decide : (([] ++ [0, 1] ++ [2] : List (Fin 3))).Perm (List.finRange 3)),
    rfl, by show 0 < 4; decide, fun a => by fin_cases a <;> rfl⟩

/-- The group's weights, tile by tile. -/
abbrev spreadWeights (pw : FVec Ideal ⟨3, ![4, W, 128]⟩ .f32) (q : FVec Ideal ⟨3, ![n, K, W]⟩ .f32) : FVec Ideal ⟨4, ![n, 4, K, 128]⟩ .bf16 :=
  truncf .bf16 (transpose ⟨4, ![n, 4, K, 128]⟩ [2, 0, 3, 1]
    (Host.dotGeneral (spread n K W) none (truncf .bf16 pw (by decide)) (truncf .bf16 q (by decide)))
    ⟨(by decide : ([2, 0, 3, 1] : List (Fin 4)).Perm (List.finRange 4)), rfl, fun a => by fin_cases a <;> rfl⟩) (by decide)

end Marks

variable {n K W : ℕ}

/-- An axis of any extent, read along itself. -/
theorem coord_eq (b : Fin n) : b.val = if n = 1 then 0 else b.val := by split <;> omega

theorem marks_apply (rem : IVec ⟨1, ![n]⟩ 32) (b : Fin n) (k : Fin K) (w : Fin W) :
    marks n K W rem (ix3 b k w) = IntOp.cmpi .eq (BitVec.ofNat 32 k) (rem (ix1 b) + BitVec.ofNat 32 w) := by
  refine congrArg₂ (IntOp.cmpi .eq) ?_ ?_
  · refine (broadcastInDim_apply _ _ _ _ (ix3 0 k 0) (fun a => ?_)).trans
      ((broadcastInDim_apply _ _ _ _ (ix1 k) (fun a => ?_)).trans rfl)
    · match a with
      | ⟨0, _⟩ => rfl
      | ⟨1, _⟩ => exact coord_eq k
      | ⟨2, _⟩ => rfl
    · match a with | ⟨0, _⟩ => exact coord_eq k
  · refine (broadcastInDim_apply _ _ _ _ (ix3 b 0 w) (fun a => ?_)).trans (congrArg₂ (· + ·) ?_ ?_)
    · match a with
      | ⟨0, _⟩ => exact coord_eq b
      | ⟨1, _⟩ => rfl
      | ⟨2, _⟩ => exact coord_eq w
    · refine (broadcastInDim_apply _ _ _ _ (ix3 b 0 0) (fun a => ?_)).trans (broadcastInDim_apply _ _ _ _ (ix1 b) (fun a => ?_))
      · match a with
        | ⟨0, _⟩ => exact coord_eq b
        | ⟨1, _⟩ => rfl
        | ⟨2, _⟩ => rfl
      · match a with | ⟨0, _⟩ => exact coord_eq b
    · refine (broadcastInDim_apply _ _ _ _ (ix3 0 0 w) (fun a => ?_)).trans
        ((broadcastInDim_apply _ _ _ _ (ix1 w) (fun a => ?_)).trans rfl)
      · match a with
        | ⟨0, _⟩ => rfl
        | ⟨1, _⟩ => rfl
        | ⟨2, _⟩ => exact coord_eq w
      · match a with | ⟨0, _⟩ => exact coord_eq w

theorem coefs_apply (e : FVec Ideal ⟨2, ![n, W]⟩ .f32) (g : FVec Ideal ⟨1, ![n]⟩ .f32) (b : Fin n) (w : Fin W) :
    coefs n W e g (ix3 b 0 w) = (e (ix2 b w) * g (ix1 b) : EReal) := by
  refine (broadcastInDim_apply _ _ _ _ (ix2 b w) (fun a => ?_)).trans (congrArg ((e (ix2 b w) : EReal) * ·) ?_)
  · match a with
    | ⟨0, _⟩ => exact coord_eq b
    | ⟨1, _⟩ => exact coord_eq w
  · refine (broadcastInDim_apply _ _ _ _ (ix2 b 0) (fun a => ?_)).trans (broadcastInDim_apply _ _ _ _ (ix1 b) (fun a => ?_))
    · match a with
      | ⟨0, _⟩ => exact coord_eq b
      | ⟨1, _⟩ => rfl
    · match a with | ⟨0, _⟩ => exact coord_eq b

theorem placed_apply (p : IVec ⟨3, ![n, K, W]⟩ 1) (q : FVec Ideal ⟨3, ![n, 1, W]⟩ .f32) (z : FVec Ideal ⟨0, ![]⟩ .f32)
    (hz : z (fun a => a.elim0) = (0 : EReal)) (b : Fin n) (k : Fin K) (w : Fin W) :
    placed n K W p q z (ix3 b k w) = if p (ix3 b k w) = 1 then (q (ix3 b 0 w) : EReal) else 0 := by
  show Scalar.select _ _ _ = _
  rw [Scalar.select]
  refine congrArg₂ (fun s t => if p (ix3 b k w) = 1 then s else t) ?_ ?_
  · refine broadcastInDim_apply _ _ _ _ (ix3 b 0 w) (fun a => ?_)
    match a with
    | ⟨0, _⟩ => exact coord_eq b
    | ⟨1, _⟩ => rfl
    | ⟨2, _⟩ => exact coord_eq w
  · exact (broadcastInDim_apply _ _ _ _ (fun a => a.elim0) (fun a => a.elim0)).trans hz

/-- A weight is the sum over the band's places of the band's weight there times what that place puts in the row. -/
theorem spreadWeights_apply (pw : FVec Ideal ⟨3, ![4, W, 128]⟩ .f32) (q : FVec Ideal ⟨3, ![n, K, W]⟩ .f32) (b : Fin n) (i : Fin 4) (k : Fin K) (o : Fin 128) :
    spreadWeights n K W pw q (ix4 b i k o) = ∑ w : Fin W, (pw (ix3 i w o) * q (ix3 b k w) : EReal) := by
  rw [spreadWeights, truncf_apply]
  refine (transpose_apply _ _ _ _ (ix4 i o b k) (fun a => ?_)).trans ?_
  · match a with
    | ⟨0, _⟩ => rfl
    | ⟨1, _⟩ => rfl
    | ⟨2, _⟩ => rfl
    | ⟨3, _⟩ => rfl
  have hr : (spread n K W).contr.rank = 1 := rfl
  have hs : (spread n K W).contr.size ⟨0, by rw [hr]; omega⟩ = W := rfl
  simp only [Host.dotGeneral]
  rw [Ideal.dotGeneral_apply, ← Equiv.sum_comp (contrEquiv1 (spread n K W) W hr hs).symm]
  refine Finset.sum_congr rfl fun w _ => ?_
  have hk := contrEquiv1_symm_val _ W hr hs w
  have el : (spread n K W).lhsIdx (ix4 i o b k) ((contrEquiv1 (spread n K W) W hr hs).symm w) = ix3 i w o := by
    funext a; apply Fin.ext
    match a with
    | ⟨0, _⟩ => rfl
    | ⟨1, _⟩ => exact hk
    | ⟨2, _⟩ => rfl
  have er : (spread n K W).rhsIdx (ix4 i o b k) ((contrEquiv1 (spread n K W) W hr hs).symm w) = ix3 b k w := by
    funext a; apply Fin.ext
    match a with
    | ⟨0, _⟩ => rfl
    | ⟨1, _⟩ => rfl
    | ⟨2, _⟩ => exact hk
  rw [el, er]
  rfl

end Cert.Bands

end
-- ==== Proof.BandSum.lean ====
/-
  The law behind the kernel's weights. A band's window of columns starts `s` columns before the band; the weights are the
  band's own, shifted down by `s`, zero elsewhere. So the product over the window is the product over the band.
-/
module

public import Idealize.ShloMosaic.PureOps.Ideal
public import Mathlib.Data.EReal.Operations
public import Mathlib.Algebra.BigOperators.Fin

@[expose] public section

noncomputable section

namespace Cert.Bands

variable {W K : ℕ}

/-- A window's product with the band's weights shifted by `s`, each spread over the window's rows, is the band's product. -/
theorem window_sum (X : ℕ → EReal) (p q : Fin W → EReal) (base s : ℕ) (h : s + W ≤ K) :
    ∑ k : Fin K, X (base + k.val) * ∑ w : Fin W, p w * (if k.val = s + w.val then q w else 0)
      = ∑ w : Fin W, X (base + s + w.val) * (p w * q w) := by
  refine (Fintype.sum_of_injective (fun w : Fin W => (⟨s + w.val, by omega⟩ : Fin K)) (fun a b hab => Fin.ext (by
    have := congrArg Fin.val hab; simp only at this; omega)) _ _ (fun k hk => ?_) fun w => ?_).symm
  · rw [Finset.sum_eq_zero fun w _ => ?_, mul_zero]
    rw [if_neg (fun e => hk ⟨w, Fin.ext e.symm⟩), mul_zero]
  · rw [Finset.sum_eq_single w (fun v _ hv => ?_) (fun hw => absurd (Finset.mem_univ w) hw), if_pos rfl, Nat.add_assoc]
    rw [if_neg (fun e => hv (Fin.ext (by simp only at e; omega))), mul_zero]

/-- One place of a band: masked off it is zero either way, and on it the two products are one. -/
theorem place_eq (x x' e g p m : EReal) (h : m = 0 ∨ (m = 1 ∧ x' = x)) : x' * (p * ((e * m) * g)) = ((x * e) * m) * ((p * m) * g) := by
  rcases h with rfl | ⟨rfl, rfl⟩
  · simp only [mul_zero, zero_mul]
  · simp only [mul_one, mul_assoc, mul_left_comm]

end Cert.Bands

end
-- ==== Proof.GroupWeights.lean ====
/-
  A group's weights in closed form, and the product of a window of columns with them.
-/
module

public import proofs.«01_k».proof.Proof.Weights
public import proofs.«01_k».proof.Proof.Words
public import proofs.«01_k».proof.Proof.BandSum

@[expose] public section

noncomputable section

namespace Cert.Bands

open Idealize.ShloMosaic Idealize.ShloMosaic.ValueIdx

/-- The weights of a group of `n` bands of width `W` in tiles of `K` columns: from the bands' weights, their filters times
    masks, their gains and their first columns. -/
def groupWeights (n K W : ℕ) (pw : FVec Ideal ⟨3, ![4, W, 128]⟩ .f32) (e : FVec Ideal ⟨2, ![n, W]⟩ .f32) (g : FVec Ideal ⟨1, ![n]⟩ .f32)
    (st : IVec ⟨1, ![n]⟩ 32) : FVec Ideal ⟨4, ![n, 4, K, 128]⟩ .bf16 :=
  spreadWeights n K W pw (placed n K W (marks n K W fun y => remWord (st y)) (coefs n W e g) (constant ⟨0, ![]⟩ .f32 0x00000000#32))

variable {n K W : ℕ}

/-- The group's weights from the arrays they are computed through. -/
theorem groupWeights_of {w : FVec Ideal ⟨4, ![n, 4, K, 128]⟩ .bf16} {pw pw' : FVec Ideal ⟨3, ![4, W, 128]⟩ .f32} {q : FVec Ideal ⟨3, ![n, K, W]⟩ .f32}
    {p : IVec ⟨3, ![n, K, W]⟩ 1} {r : FVec Ideal ⟨3, ![n, 1, W]⟩ .f32} {z : FVec Ideal ⟨0, ![]⟩ .f32} {rem : IVec ⟨1, ![n]⟩ 32}
    {e e' : FVec Ideal ⟨2, ![n, W]⟩ .f32} {g g' : FVec Ideal ⟨1, ![n]⟩ .f32} {st st' : IVec ⟨1, ![n]⟩ 32}
    (hw : w = spreadWeights n K W pw q) (hq : q = placed n K W p r z) (hp : p = marks n K W rem) (hr : r = coefs n W e g)
    (hz : z = constant ⟨0, ![]⟩ .f32 0x00000000#32) (hrem : rem = fun y => remWord (st y)) (hpw : pw = pw') (he : e = e') (hg : g = g') (hst : st = st') :
    w = groupWeights n K W pw' e' g' st' := by
  subst hpw he hg hst hrem hz hr hp hq
  exact hw

/-- Row `k` of a tile is place `w` of a band that starts in column `s`. -/
theorem marked_iff (s : BitVec 32) (hs : s.toNat < 1024) {k w : ℕ} (hk : k < 256) (hw : w < 125) :
    IntOp.cmpi .eq (BitVec.ofNat 32 k) (remWord s + BitVec.ofNat 32 w) = 1#1 ↔ k = s.toNat % 128 + w := by
  have hr := remWord_of_lt s hs
  have e : IntOp.cmpi .eq (BitVec.ofNat 32 k) (remWord s + BitVec.ofNat 32 w) = BitVec.ofBool (BitVec.ofNat 32 k == remWord s + BitVec.ofNat 32 w) := rfl
  have key (p : Bool) : BitVec.ofBool p = 1#1 ↔ p = true := by cases p <;> decide
  rw [e, key, beq_iff_eq, ← BitVec.toNat_inj, BitVec.toNat_add, BitVec.toNat_ofNat, BitVec.toNat_ofNat, hr]
  omega

theorem groupWeights_apply (hK : K ≤ 256) (hW : W ≤ 125) (pw : FVec Ideal ⟨3, ![4, W, 128]⟩ .f32) (e : FVec Ideal ⟨2, ![n, W]⟩ .f32) (g : FVec Ideal ⟨1, ![n]⟩ .f32)
    (st : IVec ⟨1, ![n]⟩ 32) (b : Fin n) (hs : (st (ix1 b)).toNat < 1024) (i : Fin 4) (k : Fin K) (o : Fin 128) :
    groupWeights n K W pw e g st (ix4 b i k o)
      = ∑ w : Fin W, (pw (ix3 i w o) * (if k.val = (st (ix1 b)).toNat % 128 + w.val then (e (ix2 b w) * g (ix1 b) : EReal) else 0) : EReal) := by
  refine (spreadWeights_apply _ _ b i k o).trans (Finset.sum_congr rfl fun w _ => congrArg ((pw (ix3 i w o) : EReal) * ·) ?_)
  rw [placed_apply _ _ _ Ideal.ofBits_zero_f32, marks_apply, coefs_apply]
  exact if_congr (marked_iff _ hs (by omega) (by omega)) rfl rfl

/-- A window of columns times a group's weights is the band's columns times the band's own weights. -/
theorem window_group (hK : K ≤ 256) (hW : W ≤ 125) (hKW : 127 + W ≤ K) (pw : FVec Ideal ⟨3, ![4, W, 128]⟩ .f32) (e : FVec Ideal ⟨2, ![n, W]⟩ .f32) (g : FVec Ideal ⟨1, ![n]⟩ .f32)
    (st : IVec ⟨1, ![n]⟩ 32) (b : Fin n) (hs : (st (ix1 b)).toNat < 1024) (i : Fin 4) (o : Fin 128) (X : ℕ → EReal) :
    ∑ k : Fin K, X ((divWord (st (ix1 b))).toNat * 128 + k.val) * (groupWeights n K W pw e g st (ix4 b i k o) : EReal)
      = ∑ w : Fin W, X ((st (ix1 b)).toNat + w.val) * (pw (ix3 i w o) * (e (ix2 b w) * g (ix1 b)) : EReal) := by
  simp only [groupWeights_apply hK hW pw e g st b hs]
  rw [window_sum (W := W) (K := K) X (fun w => (pw (ix3 i w o) : EReal)) (fun w => (e (ix2 b w) * g (ix1 b) : EReal)) _ _ (by omega)]
  rw [divWord_of_lt _ hs, Nat.div_add_mod' _ _]

end Cert.Bands

end
-- ==== Proof.Take.lean ====
/-
  Reading and writing by index: the columns and gains taken at words that index an array, the band's product over its features
  and places, and the bands' places in the result.
-/
module

public import Idealize.ShloMosaic.Lib.ValueIdx
public import Idealize.ShloMosaic.Lib.TwoAxisContraction
public import Idealize.ShloMosaic.Lib.Pipeline.Value
public import Idealize.ShloMosaic.Lib.Routing.OpsSet
public import Idealize.ShloMosaic.PureOps.Ideal
public import Idealize.ShloMosaic.PureOps.Ideal.Laws

@[expose] public section

noncomputable section

namespace Cert.Bands

open Idealize.ShloMosaic Idealize.ShloMosaic.ValueIdx

/-! ## Words that index an array -/

/-- Index words with the negative ones counted from the array's end. -/
abbrev normal {s : Shape} (h : (⟨0, ![]⟩ : Shape).BroadcastsInDim s (![] : Fin 0 → Fin s.rank)) (N : BitVec 32) (x : IVec s 32) : IVec s 32 :=
  select (cmpi .slt x (broadcastInDim s ![] h (constantI ⟨0, ![]⟩ 32 0#32))) (addi x (broadcastInDim s ![] h (constantI ⟨0, ![]⟩ 32 N))) x

theorem toInt_of_lt (x : BitVec 32) (h : x.toNat < 2 ^ 31) : x.toInt = x.toNat := by
  simp only [BitVec.toInt]; omega

theorem normal_apply {s : Shape} (h : (⟨0, ![]⟩ : Shape).BroadcastsInDim s (![] : Fin 0 → Fin s.rank)) (N : BitVec 32) (x : IVec s 32) (i : s.Idx)
    (hx : (x i).toNat < 2 ^ 31) : normal h N x i = x i := by
  show Scalar.select (BitVec.ofBool ((x i).slt 0#32)) _ _ = _
  have e : (x i).slt 0#32 = false := by
    rw [BitVec.slt, toInt_of_lt _ hx]
    exact decide_eq_false (by simp)
  rw [e]; rfl

/-- A word that numbers a band. -/
theorem number_toNat {n first : ℕ} (hn : first + n ≤ 64) (b : Fin n) : (BitVec.ofNat 32 b + BitVec.ofNat 32 first).toNat = first + b.val := by
  rw [BitVec.toNat_add, BitVec.toNat_ofNat, BitVec.toNat_ofNat]; omega

section Gain
variable {n : ℕ}

/-- The gain table taken at the bands' numbers. -/
abbrev gains (d : GatherDims ⟨1, ![1025]⟩ ⟨2, ![n, 1]⟩ ⟨1, ![n]⟩) (h : (⟨0, ![]⟩ : Shape).BroadcastsInDim ⟨1, ![n]⟩ (![] : Fin 0 → Fin 1))
    (h' : (⟨1, ![n]⟩ : Shape).BroadcastsInDim ⟨2, ![n, 1]⟩ (![0] : Fin 1 → Fin 2)) (x : FVec Ideal ⟨1, ![1025]⟩ .f32) (sub : IVec ⟨1, ![n]⟩ 32) : FVec Ideal ⟨1, ![n]⟩ .f32 :=
  Host.gather d x (broadcastInDim ⟨2, ![n, 1]⟩ ![0] h' (normal h 1025#32 sub))

/-- Normalised words, kept as a column. -/
theorem normal_column {first : ℕ} (hn : first + n ≤ 64) (h : (⟨0, ![]⟩ : Shape).BroadcastsInDim ⟨1, ![n]⟩ (![] : Fin 0 → Fin 1))
    (h' : (⟨1, ![n]⟩ : Shape).BroadcastsInDim ⟨2, ![n, 1]⟩ (![0] : Fin 1 → Fin 2)) (N : BitVec 32) (sub : IVec ⟨1, ![n]⟩ 32)
    (hs : ∀ b : Fin n, sub (ix1 b) = BitVec.ofNat 32 b + BitVec.ofNat 32 first) (b : Fin n) :
    broadcastInDim ⟨2, ![n, 1]⟩ ![0] h' (normal h N sub) (ix2 b 0) = BitVec.ofNat 32 (first + b.val) := by
  refine (broadcastInDim_apply _ _ _ _ (ix1 b) (fun a => ?_)).trans ((normal_apply _ _ _ _ ?_).trans ?_)
  · match a with
    | ⟨0, _⟩ => show b.val = if n = 1 then 0 else b.val; split <;> omega
  · rw [hs, number_toNat hn]; omega
  · rw [hs, ← BitVec.ofNat_add, Nat.add_comm]

theorem gains_apply {first : ℕ} (hn : first + n ≤ 64) (d : GatherDims ⟨1, ![1025]⟩ ⟨2, ![n, 1]⟩ ⟨1, ![n]⟩) (hcoll : d.collapsedSliceDims = [0])
    (hob : d.operandBatchingDims = []) (hsim : d.startIndexMap = [0]) (hivd : d.indexVectorDim = 1) (h : (⟨0, ![]⟩ : Shape).BroadcastsInDim ⟨1, ![n]⟩ (![] : Fin 0 → Fin 1))
    (h' : (⟨1, ![n]⟩ : Shape).BroadcastsInDim ⟨2, ![n, 1]⟩ (![0] : Fin 1 → Fin 2)) (x : FVec Ideal ⟨1, ![1025]⟩ .f32) (sub : IVec ⟨1, ![n]⟩ 32)
    (hs : ∀ b : Fin n, sub (ix1 b) = BitVec.ofNat 32 b + BitVec.ofNat 32 first) (b : Fin n) :
    gains d h h' x sub (ix1 b) = x (ix1 ⟨first + b.val, by omega⟩) :=
  Routing.gather_take1 d hcoll hob hsim hivd x _ b ⟨first + b.val, by omega⟩ (normal_column hn h h' _ sub hs b) (by norm_num)

end Gain

/-! ## The columns of a band -/

section Columns
variable {n W : ℕ}

/-- The dimension numbers of a take of columns, for every batch, feature and frame. -/
abbrev columnDims (wf : GatherDims.WF ⟨4, ![8, 4, 256, 1025]⟩ ⟨3, ![n, W, 1]⟩ ⟨5, ![8, 4, 256, n, W]⟩ [0, 1, 2] [3] [] [3] [] 2 ![8, 4, 256, 1]) :
    GatherDims ⟨4, ![8, 4, 256, 1025]⟩ ⟨3, ![n, W, 1]⟩ ⟨5, ![8, 4, 256, n, W]⟩ where
  offsetDims := [0, 1, 2]
  collapsedSliceDims := [3]
  operandBatchingDims := []
  startIndicesBatchingDims := []
  startIndexMap := [3]
  indexVectorDim := 2
  sliceSizes := ![8, 4, 256, 1]
  wf := wf

theorem columns_apply {α : Type} (wf : GatherDims.WF ⟨4, ![8, 4, 256, 1025]⟩ ⟨3, ![n, W, 1]⟩ ⟨5, ![8, 4, 256, n, W]⟩ [0, 1, 2] [3] [] [3] [] 2 ![8, 4, 256, 1])
    (x : (⟨4, ![8, 4, 256, 1025]⟩ : Shape).Idx → α) (idx : IVec ⟨3, ![n, W, 1]⟩ 32) (p : Fin 8) (i : Fin 4) (t : Fin 256) (b : Fin n) (w : Fin W) (c : Fin 1025)
    (hc : (idx (ix3 b w 0)).toNat = c.val) :
    Host.gather (columnDims wf) x idx (ix5 p i t b w) = x (ix4 p i t c) := by
  have hw : (idx (ix3 b w 0)).toInt.toNat = c.val := by rw [toInt_of_lt _ (by omega)]; omega
  unfold Host.gather
  refine congrArg x (funext fun a => Fin.ext ?_)
  show (columnDims wf).start (ix5 p i t b w) idx a + (columnDims wf).batchCoord (ix5 p i t b w) a + (columnDims wf).offCoord (ix5 p i t b w) a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ =>
    rw [GatherDims.offCoord_eq_zero _ _ _ (fun h => ((GatherDims.mem_sKept _ _).mp h).1 (List.mem_singleton.mpr rfl)), Nat.add_zero]
    unfold GatherDims.start
    rw [dif_pos (show (⟨3, by decide⟩ : Fin 4) ∈ (columnDims wf).startIndexMap from List.mem_singleton.mpr rfl)]
    have hsi : (columnDims wf).siIdx (ix5 p i t b w) ⟨List.idxOf (⟨3, by decide⟩ : Fin 4) (columnDims wf).startIndexMap,
        List.idxOf_lt_length_iff.2 (List.mem_singleton.mpr rfl)⟩ = ix3 b w 0 := by
      funext b; refine Fin.ext ?_
      match b with
      | ⟨0, _⟩ => rfl
      | ⟨1, _⟩ => rfl
      | ⟨2, _⟩ => rfl
    rw [hsi, hw]
    show min c.val (1025 - 1) = c.val
    omega

end Columns

/-! ## A band's product -/

section Product
variable {n W : ℕ}

/-- The dimension numbers of the bands' product: summed over features and places, band by band. -/
abbrev productDims (wf : DotDims.WF ⟨4, ![4, n, W, 128]⟩ ⟨5, ![8, 4, 256, n, W]⟩ ⟨4, ![n, 128, 8, 256]⟩ [0, 2] [1, 4] [3] [0, 2] [1] [3]) :
    DotDims ⟨4, ![4, n, W, 128]⟩ ⟨5, ![8, 4, 256, n, W]⟩ ⟨4, ![n, 128, 8, 256]⟩ where
  lhsContracting := [0, 2]
  rhsContracting := [1, 4]
  lhsNonContracting := [3]
  rhsNonContracting := [0, 2]
  lhsBatch := [1]
  rhsBatch := [3]
  wf := wf

theorem product_apply (wf : DotDims.WF ⟨4, ![4, n, W, 128]⟩ ⟨5, ![8, 4, 256, n, W]⟩ ⟨4, ![n, 128, 8, 256]⟩ [0, 2] [1, 4] [3] [0, 2] [1] [3])
    (L : FVec Ideal ⟨4, ![4, n, W, 128]⟩ .f32) (R : FVec Ideal ⟨5, ![8, 4, 256, n, W]⟩ .f32) (b : Fin n) (o : Fin 128) (p : Fin 8) (t : Fin 256) :
    Host.dotGeneral (productDims wf) none L R (ix4 b o p t) = ∑ i : Fin 4, ∑ w : Fin W, (L (ix4 i b w o) * R (ix5 p i t b w) : EReal) := by
  have hr : (productDims wf).contr.rank = 2 := rfl
  have c0 : (productDims wf).contr.size ⟨0, by rw [hr]; omega⟩ = 4 := rfl
  have c1 : (productDims wf).contr.size ⟨1, by rw [hr]; omega⟩ = W := rfl
  simp only [Host.dotGeneral]
  rw [Ideal.dotGeneral_apply, sum_contr2 (productDims wf) 4 W hr c0 c1]
  refine Finset.sum_congr rfl fun i _ => Finset.sum_congr rfl fun w _ => ?_
  have h0 := contrEquiv2_symm_val0 (productDims wf) 4 W hr c0 c1 (i, w)
  have h1 := contrEquiv2_symm_val1 (productDims wf) 4 W hr c0 c1 (i, w)
  have el : (productDims wf).lhsIdx (ix4 b o p t) ((contrEquiv2 (productDims wf) 4 W hr c0 c1).symm (i, w)) = ix4 i b w o := by
    funext a; apply Fin.ext
    match a with
    | ⟨0, _⟩ => exact h0
    | ⟨1, _⟩ => rfl
    | ⟨2, _⟩ => exact h1
    | ⟨3, _⟩ => rfl
  have er : (productDims wf).rhsIdx (ix4 b o p t) ((contrEquiv2 (productDims wf) 4 W hr c0 c1).symm (i, w)) = ix5 p i t b w := by
    funext a; apply Fin.ext
    match a with
    | ⟨0, _⟩ => rfl
    | ⟨1, _⟩ => exact h0
    | ⟨2, _⟩ => rfl
    | ⟨3, _⟩ => rfl
    | ⟨4, _⟩ => exact h1
  rw [el, er]

end Product

/-! ## A group's bands written into the result -/

section Write
variable {n : ℕ}

/-- The dimension numbers of a write of bands at their numbers, for every batch, channel and frame. -/
abbrev writeDims (wf : ScatterDims.WF ⟨4, ![8, 128, 256, 64]⟩ ⟨2, ![n, 1]⟩ ⟨4, ![8, 128, 256, n]⟩ [0, 1, 2] [3] [3] 1) :
    ScatterDims ⟨4, ![8, 128, 256, 64]⟩ ⟨2, ![n, 1]⟩ ⟨4, ![8, 128, 256, n]⟩ where
  updateWindowDims := [0, 1, 2]
  insertedWindowDims := [3]
  scatterDimsToOperandDims := [3]
  indexVectorDim := 1
  wf := wf

theorem write_lands (wf : ScatterDims.WF ⟨4, ![8, 128, 256, 64]⟩ ⟨2, ![n, 1]⟩ ⟨4, ![8, 128, 256, n]⟩ [0, 1, 2] [3] [3] 1)
    (idx : IVec ⟨2, ![n, 1]⟩ 32) (p : Fin 8) (o : Fin 128) (t : Fin 256) (b : Fin n) (q : Fin 64) (hq : idx (ix2 b 0) = BitVec.ofNat 32 q.val) :
    (writeDims wf).resultIdx? (ix4 p o t b) idx = some (ix4 p o t q) := by
  have hw : (idx (ix2 b 0)).toInt = (q.val : Int) := by
    rw [hq, toInt_of_lt _ (by rw [BitVec.toNat_ofNat]; omega), BitVec.toNat_ofNat, Nat.mod_eq_of_lt (by omega)]
  have hsi : (writeDims wf).siIdx (ix4 p o t b) ⟨List.idxOf (3 : Fin 4) (writeDims wf).scatterDimsToOperandDims,
      List.idxOf_lt_length_iff.2 (List.mem_singleton.mpr rfl)⟩ = ix2 b 0 := by
    funext b; refine Fin.ext ?_
    match b with
    | ⟨0, _⟩ => rfl
    | ⟨1, _⟩ => rfl
  have hs : (writeDims wf).start (ix4 p o t b) idx 3 = q.val := by
    unfold ScatterDims.start
    rw [dif_pos (List.mem_singleton.mpr rfl), hsi, hw]
  have at_ (a : Fin 4) : (writeDims wf).start (ix4 p o t b) idx a + (writeDims wf).window (ix4 p o t b) a = ((ix4 p o t q : (⟨4, ![8, 128, 256, 64]⟩ : Shape).Idx) a).val := by
    match a with
    | ⟨0, _⟩ => exact Int.zero_add _
    | ⟨1, _⟩ => exact Int.zero_add _
    | ⟨2, _⟩ => exact Int.zero_add _
    | ⟨3, _⟩ => exact (congrArg (· + (0 : Int)) hs).trans (Int.add_zero _)
  unfold ScatterDims.resultIdx?
  rw [dif_pos fun a => by rw [at_ a]; exact ⟨Int.natCast_nonneg _, Int.ofNat_lt.2 (Fin.isLt _)⟩]
  refine congrArg some (funext fun a => Fin.ext ?_)
  show ((writeDims wf).start (ix4 p o t b) idx a + (writeDims wf).window (ix4 p o t b) a).toNat = _
  rw [at_ a]; rfl

/-- The result after a group's bands are written: theirs at their numbers, the earlier value elsewhere. -/
theorem write_apply {α : Type} {first : ℕ} (hn : first + n ≤ 64) (wf : ScatterDims.WF ⟨4, ![8, 128, 256, 64]⟩ ⟨2, ![n, 1]⟩ ⟨4, ![8, 128, 256, n]⟩ [0, 1, 2] [3] [3] 1)
    (x : (⟨4, ![8, 128, 256, 64]⟩ : Shape).Idx → α) (idx : IVec ⟨2, ![n, 1]⟩ 32) (hi : ∀ b : Fin n, idx (ix2 b 0) = BitVec.ofNat 32 (first + b.val))
    (u : (⟨4, ![8, 128, 256, n]⟩ : Shape).Idx → α) (p : Fin 8) (o : Fin 128) (t : Fin 256) (q : Fin 64) :
    Host.scatter (writeDims wf) (fun _ b => b) x idx u (ix4 p o t q)
      = if h : first ≤ q.val ∧ q.val < first + n then u (ix4 p o t ⟨q.val - first, by omega⟩) else x (ix4 p o t q) := by
  have lands (p' : Fin 8) (o' : Fin 128) (t' : Fin 256) (b : Fin n) := write_lands wf idx p' o' t' b ⟨first + b.val, by omega⟩ (hi b)
  split
  · rename_i h
    refine Routing.scatter_set_hit _ _ _ _ _ _ (fun k hk => ?_) (ix4 p o t ⟨q.val - first, by omega⟩) ?_
    · obtain ⟨p', o', t', b, rfl⟩ : ∃ (p' : Fin 8) (o' : Fin 128) (t' : Fin 256) (b : Fin n), k = ix4 p' o' t' b := ⟨k 0, k 1, k 2, k 3, eq_ix4 k⟩
      have e := Option.some.inj ((lands p' o' t' b).symm.trans hk)
      obtain rfl : p' = p := congrFun e 0
      obtain rfl : o' = o := congrFun e 1
      obtain rfl : t' = t := congrFun e 2
      have e3 : first + b.val = q.val := congrArg Fin.val (congrFun e 3 : (⟨first + b.val, by omega⟩ : Fin 64) = q)
      exact congrArg (fun z => u (ix4 p' o' t' z)) (Fin.ext (by show b.val = q.val - first; omega))
    · refine (lands p o t _).trans (congrArg (fun z => some (ix4 p o t z)) (Fin.ext ?_))
      show first + (q.val - first) = q.val; omega
  · rename_i h
    refine Routing.scatter_set_miss _ _ _ _ _ fun k hk => h ?_
    obtain ⟨p', o', t', b, rfl⟩ : ∃ (p' : Fin 8) (o' : Fin 128) (t' : Fin 256) (b : Fin n), k = ix4 p' o' t' b := ⟨k 0, k 1, k 2, k 3, eq_ix4 k⟩
    have e := Option.some.inj ((lands p' o' t' b).symm.trans hk)
    have e3 : first + b.val = q.val := congrArg Fin.val (congrFun e 3 : (⟨first + b.val, by omega⟩ : Fin 64) = q)
    omega

end Write

end Cert.Bands

end
-- ==== Proof.HostWeights.lean ====
/-
  The host operations' stretches that compute the weights, each stretch read as what it leaves in the buffers the next one reads.
-/
module

public import proofs.«01_k».proof.Proof.HostWords
public import proofs.«01_k».proof.Proof.GroupWeights
public import proofs.«01_k».proof.Proof.Take

@[expose] public section

noncomputable section

namespace Cert.KernelIdeal.Band

open Cert.KernelIdeal
open Cert.KernelIdeal.Gen
open Cert.Bands

open Idealize.ShloMosaic
open Idealize.ShloMosaic.TcCoe
open Idealize.ShloMosaic.StableHlo
open Idealize.ShloMosaic.ValueIdx

section Stretches
variable (X : Valuation τ sig (Elt Ideal))

/-! ## Filters times masks, gains, first columns, divisors -/

theorem filter0 : after hostOps0_2 X main_v14 = mulf (F := Ideal) (s := S42x31) (φ := .f32) (X main_arg5) (X main_arg6) := by after_results_simp
theorem filter1 : after hostOps0_6 X main_v47 = mulf (F := Ideal) (s := S10x61) (φ := .f32) (X main_arg9) (X main_arg10) := by after_results_simp
theorem filter2 : after hostOps1 X main_v91 = mulf (F := Ideal) (s := S7x97) (φ := .f32) (X main_arg13) (X main_arg14) := by after_results_simp
theorem filter3 : after hostOps1_4 X main_v124 = mulf (F := Ideal) (s := S5x125) (φ := .f32) (X main_arg17) (X main_arg18) := by after_results_simp

theorem gain0 : after hostOps0_2 X main_v11 = gains gather_S1025_S42x1_S42_n_0_n_n_0_1_1 bcast_S_S42 bcast_S42_S42x1_0 (X main_arg3) (X main_arg7) := by
  after_results_simp
theorem gain1 : after hostOps0_6 X main_v44 = gains gather_S1025_S10x1_S10_n_0_n_n_0_1_1 bcast_S_S10 bcast_S10_S10x1_0 (X main_arg3) (X main_arg11) := by
  after_results_simp
theorem gain2 : after hostOps1 X main_v88 = gains gather_S1025_S7x1_S7_n_0_n_n_0_1_1 bcast_S_S7 bcast_S7_S7x1_0 (X main_arg3) (X main_arg15) := by
  after_results_simp
theorem gain3 : after hostOps1_4 X main_v121 = gains gather_S1025_S5x1_S5_n_0_n_n_0_1_1 bcast_S_S5 bcast_S5_S5x1_0 (X main_arg3) (X main_arg19) := by
  after_results_simp

theorem first0 : after hostOps0_2 X main_v13 = starts42 (X main_arg4) := by after_results_simp; rfl
theorem first1 : after hostOps0_6 X main_v46 = starts10 (X main_arg8) := by after_results_simp; rfl
theorem first2 : after hostOps1 X main_v90 = starts7 (X main_arg12) := by after_results_simp; rfl
theorem first3 : after hostOps1_4 X main_v123 = starts5 (X main_arg16) := by after_results_simp; rfl

theorem divisor0 : after hostOps0_2 X main_c_2 = constantI S_ 32 128#32 := by after_results_simp
theorem divisor1 : after hostOps0_6 X main_c_5 = constantI S_ 32 128#32 := by after_results_simp
theorem divisor2 : after hostOps1 X main_c_10 = constantI S_ 32 128#32 := by after_results_simp
theorem divisor3 : after hostOps1_4 X main_c_14 = constantI S_ 32 128#32 := by after_results_simp

/-! ## Marked places and coefficients -/

theorem marks0 : after hostOps0_4 X main_v26 = marks 42 192 31 (X main_v15) := by after_results_simp
theorem marks1 : after hostOps0_8 X main_v59 = marks 10 192 61 (X main_v48) := by after_results_simp
theorem marks2 : after hostOps1_2 X main_v103 = marks 7 256 97 (X main_v92) := by after_results_simp
theorem marks3 : after hostOps1_6 X main_v136 = marks 5 256 125 (X main_v125) := by after_results_simp

theorem coefs0 : after hostOps0_4 X main_v30 = coefs 42 31 (X main_v14) (X main_v11) := by after_results_simp
theorem coefs1 : after hostOps0_8 X main_v63 = coefs 10 61 (X main_v47) (X main_v44) := by after_results_simp
theorem coefs2 : after hostOps1_2 X main_v107 = coefs 7 97 (X main_v91) (X main_v88) := by after_results_simp
theorem coefs3 : after hostOps1_6 X main_v140 = coefs 5 125 (X main_v124) (X main_v121) := by after_results_simp

theorem zero0 : after hostOps0_4 X main_cst = constant (F := Ideal) S_ .f32 0x00000000#32 := by after_results_simp
theorem zero1 : after hostOps0_8 X main_cst_6 = constant (F := Ideal) S_ .f32 0x00000000#32 := by after_results_simp
theorem zero2 : after hostOps1_2 X main_cst_11 = constant (F := Ideal) S_ .f32 0x00000000#32 := by after_results_simp
theorem zero3 : after hostOps1_6 X main_cst_15 = constant (F := Ideal) S_ .f32 0x00000000#32 := by after_results_simp

theorem placed0 : after hostOps0_5 X main_v31 = placed 42 192 31 (X main_v26) (X main_v30) (X main_cst) := by after_results_simp; rfl
theorem placed1 : after hostOps0_9 X main_v64 = placed 10 192 61 (X main_v59) (X main_v63) (X main_cst_6) := by after_results_simp; rfl
theorem placed2 : after hostOps1_3 X main_v108 = placed 7 256 97 (X main_v103) (X main_v107) (X main_cst_11) := by after_results_simp; rfl
theorem placed3 : after hostOps1_7 X main_v141 = placed 5 256 125 (X main_v136) (X main_v140) (X main_cst_15) := by after_results_simp; rfl

/-! ## Weights -/

/-- The bands' weights cut to a group's width. -/
abbrev cut31 (x : FVec Ideal S4x125x128 .f32) : FVec Ideal S4x31x128 .f32 := extractStridedSlice S4x31x128 ![0, 0, 0] x slices_S4x125x128_S4x31x128_0_0_0
@[inherit_doc cut31] abbrev cut61 (x : FVec Ideal S4x125x128 .f32) : FVec Ideal S4x61x128 .f32 := extractStridedSlice S4x61x128 ![0, 0, 0] x slices_S4x125x128_S4x61x128_0_0_0
@[inherit_doc cut31] abbrev cut97 (x : FVec Ideal S4x125x128 .f32) : FVec Ideal S4x97x128 .f32 := extractStridedSlice S4x97x128 ![0, 0, 0] x slices_S4x125x128_S4x97x128_0_0_0

theorem spread0 : after hostOps0_6 X main_v37 = spreadWeights 42 192 31 (cut31 (X main_arg1)) (X main_v31) := by after_results_simp; rfl
theorem spread1 : after hostOps0_10 X main_v70 = spreadWeights 10 192 61 (cut61 (X main_arg1)) (X main_v64) := by after_results_simp; rfl
theorem spread2 : after hostOps1_4 X main_v114 = spreadWeights 7 256 97 (cut97 (X main_arg1)) (X main_v108) := by after_results_simp; rfl
theorem spread3 : after hostOps1_8 X main_v146 = spreadWeights 5 256 125 (X main_arg1) (X main_v141) := by after_reads_simp; rfl

theorem joinedA : after hostOps0_10 X main_v71
    = concatenate S52x4x192x128 0 [⟨S42x4x192x128, X main_v37⟩, ⟨S10x4x192x128, after hostOps0_10 X main_v70⟩] concatenates_S42x4x192x128_S10x4x192x128_S52x4x192x128_d0 := by
  after_results_simp; rfl
theorem joinedB : after hostOps1_8 X main_v147
    = concatenate S12x4x256x128 0 [⟨S7x4x256x128, X main_v114⟩, ⟨S5x4x256x128, after hostOps1_8 X main_v146⟩] concatenates_S7x4x256x128_S5x4x256x128_S12x4x256x128_d0 := by
  after_reads_simp; rfl

end Stretches

end Cert.KernelIdeal.Band

end
-- ==== Proof.Tile0.lean ====
/-
  What the first call's body leaves, by index: at band `j` of its four, row `r` and output `o`, the sum over the channels and the
  192 columns from the band's tile on of the frames times the weights, and the bias.
-/
module

public import proofs.«01_k».proof.Proof.Region0
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Band

open Cert.KernelIdeal
open Cert.KernelIdeal.Gen

open Idealize.ShloMosaic
open Idealize.ShloMosaic.TcCoe
open Idealize.ShloMosaic.ValueIdx

/-- A channel's row at a column, zero past the array's end. -/
def colAt (X : FVec Ideal S4x2048x1152 .bf16) (i : Fin 4) (r : Fin 2048) (n : ℕ) : EReal := if h : n < 1152 then X (ix3 i r ⟨n, h⟩) else 0

theorem colAt_of_lt (X : FVec Ideal S4x2048x1152 .bf16) (i : Fin 4) (r : Fin 2048) (n : ℕ) (h : n < 1152) : colAt X i r n = X (ix3 i r ⟨n, h⟩) := dif_pos h

/-- One element of a call's result, of its table, frames, weights and bias. -/
def tileAt {n K : ℕ} (T : IVec ⟨1, ![n]⟩ 32) (X : FVec Ideal S4x2048x1152 .bf16) (W : FVec Ideal ⟨4, ![n, 4, K, 128]⟩ .bf16) (B : FVec Ideal S1x128 .f32)
    (b : Fin n) (r : Fin 2048) (o : Fin 128) : EReal :=
  (∑ i : Fin 4, ∑ k : Fin K, colAt X i r ((T (ValueIdx.ix1 b)).toNat * 128 + k.val) * W (ix4 b i k o)) + B (ix2 0 o)

theorem prod0_apply (x : Vec Ideal S1x2048x192 .bf16) (w : Vec Ideal S1x1x192x128 .bf16) (r : Fin 2048) (o : Fin 128) :
    (prod0 x w (ix2 r o) : EReal) = ∑ k : Fin 192, x (ix3 0 r k) * w (ix4 0 0 k o) := by
  refine (Ideal.matmul_plain_apply none _ _ _ r o).trans ?_
  rw [show constant (F := Ideal) S2048x128 .f32 0x00000000#32 (ix2 r o) = (0 : EReal) from Ideal.ofBits_zero_f32, zero_add]
  refine Finset.sum_congr rfl fun k _ => congrArg₂ (· * ·) ?_ ?_
  · exact shapeCast_apply _ _ _ (ix3 0 r k) (by rw [Shape.rowMajor_val_three, Shape.rowMajor_val_two]; simp)
  · exact shapeCast_apply _ _ _ (ix4 0 0 k o) (by rw [Shape.rowMajor_val_four, Shape.rowMajor_val_two]; simp)

theorem sum0_apply (x : Fin 4 → Vec Ideal S1x2048x192 .bf16) (w : Fin 4 → Vec Ideal S1x1x192x128 .bf16) (b : Vec Ideal S1x128 .f32) (r : Fin 2048) (o : Fin 128) :
    (sum0 (x 0) (x 1) (x 2) (x 3) (w 0) (w 1) (w 2) (w 3) b (ix3 0 r o) : EReal)
      = (∑ i : Fin 4, ∑ k : Fin 192, x i (ix3 0 r k) * w i (ix4 0 0 k o)) + b (ix2 0 o) := by
  refine (shapeCast_apply _ _ _ (ix2 r o) (by rw [Shape.rowMajor_val_three, Shape.rowMajor_val_two]; simp)).trans ?_
  simp only [Fin.sum_univ_four]
  show (((((Ideal.ofBits .f32 0x00000000#32 : EReal) + prod0 (x 0) (w 0) (ix2 r o)) + prod0 (x 1) (w 1) (ix2 r o)) + prod0 (x 2) (w 2) (ix2 r o))
    + prod0 (x 3) (w 3) (ix2 r o)) + broadcastTo S2048x128 (shapeCast S1x128 b shapeCasts_S1x128_S1x128) broadcasts_S1x128_S2048x128 (ix2 r o) = _
  rw [Ideal.ofBits_zero_f32, zero_add]
  refine congrArg₂ (· + ·) (by simp only [prod0_apply]) ?_
  rw [shapeCast_self]
  exact broadcastTo_apply _ _ _ (ix2 0 o) (by intro a; match a with | ⟨0, _⟩ => simp | ⟨1, _⟩ => simp)

theorem tile0_apply (v : BitVec 32) (hv : v.toNat < 8) (j : Fin 4) (hw) (X : FVec Ideal S4x2048x1152 .bf16) (W : FVec Ideal S4x4x192x128 .bf16) (B : FVec Ideal S1x128 .f32)
    (r : Fin 2048) (o : Fin 128) :
    (tile0 (F := Ideal) v hv j.val hw X W B (ix3 0 r o) : EReal) = (∑ i : Fin 4, ∑ k : Fin 192, colAt X i r (v.toNat * 128 + k.val) * W (ix4 j i k o)) + B (ix2 0 o) := by
  refine (sum0_apply (fun | 0 => _ | 1 => _ | 2 => _ | 3 => _) (fun | 0 => _ | 1 => _ | 2 => _ | 3 => _) _ r o).trans ?_
  have hm := word_mul v hv
  congr 1
  · refine Finset.sum_congr rfl fun i _ => Finset.sum_congr rfl fun k _ => ?_
    have hk : v.toNat * 128 + k.val < 1152 := by omega
    rw [colAt_of_lt X i r _ hk]
    refine congrArg₂ (· * ·) ?_ ?_
    · fin_cases i <;>
      · refine congrArg X (funext fun a => Fin.ext ?_)
        fin_cases a <;> simp [k0_off2, k0_off3, k0_off4, k0_off5, hm, Rect.emb_apply, Rect.unit]
    · fin_cases i <;>
      · refine congrArg W (funext fun a => Fin.ext ?_)
        fin_cases a <;> simp [Rect.emb_apply, Rect.unit]
  · refine congrArg B (funext fun a => Fin.ext ?_)
    fin_cases a <;> simp [Rect.emb_apply, Rect.unit]

theorem word0_apply (T : IVec S52 32) (off : Fin 1 → ℕ) (h) (b : Fin 52) (hb : off 0 = b.val) : word0 (F := Ideal) T off h = T (ValueIdx.ix1 b) := by
  refine congrArg T (funext fun a => Fin.ext ?_)
  fin_cases a
  simp [Rect.emb_apply, Rect.unit, Shape.Idx.first, hb]

/-- What the body leaves at grid point `i`: the tiles of the bands from `4 i` on. -/
theorem tiles0_apply (i : grid0.Coords) (T : IVec S52 32) (hT : ∀ y, (T y).toNat < 8) (X : FVec Ideal S4x2048x1152 .bf16)
    (W : FVec Ideal S4x4x192x128 .bf16) (B : FVec Ideal S1x128 .f32) (j : Fin 4) (r : Fin 2048) (o : Fin 128) :
    (View.canon (tiles0 (F := Ideal) i T hT X W B) (ix3 j r o) : EReal)
      = (∑ n : Fin 4, ∑ k : Fin 192, colAt X n r ((T (ValueIdx.ix1 ⟨4 * (i 0).val + j.val, by have : (i 0).val < 13 := (i 0).isLt; omega⟩)).toNat * 128 + k.val) * W (ix4 j n k o))
        + B (ix2 0 o) := by
  have hi : (i 0).val < 13 := (i 0).isLt
  let G : Fin 4 → Fin 2048 → Fin 128 → EReal := fun j r o =>
    (∑ n : Fin 4, ∑ k : Fin 192, colAt X n r ((T (ValueIdx.ix1 ⟨4 * (i 0).val + j.val, by omega⟩)).toNat * 128 + k.val) * W (ix4 j n k o)) + B (ix2 0 o)
  have piece (b : Fin 52) (j : Fin 4) (off) (h) (hb : off 0 = b.val) (hj : b.val = 4 * (i 0).val + j.val) (hw) (r o) :
      (tile0 (F := Ideal) (word0 (F := Ideal) T off h) (hT _) j.val hw X W B (ix3 0 r o) : EReal) = G j r o := by
    refine (tile0_apply _ _ j hw X W B r o).trans ?_
    rw [word0_apply T off h b hb, show b = ⟨4 * (i 0).val + j.val, by omega⟩ from Fin.ext hj]
  have at_ (b : Fin 52) (j : Fin 4) (off) (h) (hb : off 0 = b.val) (hj : b.val = 4 * (i 0).val + j.val) (hw)
      (hin : ∀ a, (![j.val, 0, 0] : Fin 3 → ℕ) a + S1x2048x128.size a ≤ S4x2048x128.size a) (x : S1x2048x128.Idx) :
      (tile0 (F := Ideal) (word0 (F := Ideal) T off h) (hT _) j.val hw X W B x : EReal)
        = (fun y : S4x2048x128.Idx => G (y 0) (y 1) (y 2)) ((Rect.unit (s := S4x2048x128) ![j.val, 0, 0] S1x2048x128.size hin).emb x) := by
    obtain ⟨r, o, rfl⟩ : ∃ r o, x = ix3 0 r o := ⟨x 1, x 2, (eq_ix3 x).trans (congrArg (fun z => ix3 z (x 1) (x 2)) (Subsingleton.elim (α := Fin 1) (x 0) 0))⟩
    refine (piece b j off h hb hj hw r o).trans ?_
    refine congr (congr (congrArg G (Fin.ext ?_)) (Fin.ext ?_)) (Fin.ext ?_)
    · show j.val = j.val + 1 * 0; omega
    · show r.val = 0 + 1 * r.val; omega
    · show o.val = 0 + 1 * o.val; omega
  refine View.canon_apply_of_pieces (Val := Elt Ideal) (S := S4x2048x128) (e := .bf16) (fun y => G (y 0) (y 1) (y 2)) _ ?_ (ix3 j r o) ?_
  · intro p hp x
    simp only [tiles0, List.mem_cons, List.not_mem_nil, or_false] at hp
    rcases hp with rfl | rfl | rfl | rfl
    · exact at_ ⟨4 * (i 0).val + 3, by omega⟩ 3 _ _ (by rw [k0_off16_eq]; rfl) rfl (win0_inb 3 (by decide)) inb_S4x2048x128_S1x2048x128_3_0_0 x
    · exact at_ ⟨4 * (i 0).val + 2, by omega⟩ 2 _ _ (by rw [k0_off11_eq]; rfl) rfl (win0_inb 2 (by decide)) inb_S4x2048x128_S1x2048x128_2_0_0 x
    · exact at_ ⟨4 * (i 0).val + 1, by omega⟩ 1 _ _ (by rw [k0_off6_eq]; rfl) rfl (win0_inb 1 (by decide)) inb_S4x2048x128_S1x2048x128_1_0_0 x
    · exact at_ ⟨4 * (i 0).val, by omega⟩ 0 _ _ (by rw [k0_off1_eq]; rfl) rfl (win0_inb 0 (by decide)) inb_S4x2048x128_S1x2048x128_0_0_0 x
  · have cover (j : Fin 4) (hin : ∀ a, (![j.val, 0, 0] : Fin 3 → ℕ) a + S1x2048x128.size a ≤ S4x2048x128.size a) :
        (ix3 j r o : S4x2048x128.Idx) ∈ (Rect.unit (s := S4x2048x128) ![j.val, 0, 0] S1x2048x128.size hin).set := by
      have e : (ix3 j r o : S4x2048x128.Idx) = (Rect.unit (s := S4x2048x128) ![j.val, 0, 0] S1x2048x128.size hin).emb (ix3 0 r o) := by
        refine funext fun a => Fin.ext ?_
        match a with
        | ⟨0, _⟩ => show j.val = j.val + 1 * 0; omega
        | ⟨1, _⟩ => show r.val = 0 + 1 * r.val; omega
        | ⟨2, _⟩ => show o.val = 0 + 1 * o.val; omega
      rw [e]
      exact LoadRect.idx_mem _ _
    simp only [tiles0, List.mem_cons, List.not_mem_nil, or_false, exists_eq_or_imp, exists_eq_left]
    fin_cases j
    · exact .inr (.inr (.inr (cover 0 inb_S4x2048x128_S1x2048x128_0_0_0)))
    · exact .inr (.inr (.inl (cover 1 inb_S4x2048x128_S1x2048x128_1_0_0)))
    · exact .inr (.inl (cover 2 inb_S4x2048x128_S1x2048x128_2_0_0))
    · exact .inl (cover 3 inb_S4x2048x128_S1x2048x128_3_0_0)

end Cert.KernelIdeal.Band

end
-- ==== Proof.Operands.lean ====
/-
  The operands of the two calls in closed form: the frames (zero beyond the last column), the bias row, and the four groups'
  weights.
-/
module

public import proofs.«01_k».proof.Proof.HostWeights
public import proofs.«01_k».proof.Proof.Tile0
public import Idealize.ShloMosaic.Lib.KernelVsHost

@[expose] public section

noncomputable section

namespace Cert.KernelIdeal.Band

open Cert.KernelIdeal
open Cert.KernelIdeal.Gen
open Cert.Bands

open Idealize.ShloMosaic
open Idealize.ShloMosaic.TcCoe
open Idealize.ShloMosaic.StableHlo
open Idealize.ShloMosaic.ValueIdx

variable (m : (ℓ : Loc nD τ sig) → Buf (Elt Ideal) ℓ) (o : Outs (F := Ideal)) (c : Dev nD)

/-- A buffer's launch contents. -/
abbrev arg (r : Ref sig .tc) := m ((c : Thread nD τ).loc r)

/-- An argument is at its launch contents when the stretches after the first call read it. -/
structure LaterArg (r : Ref sig .tc) : Prop where
  v13 : V13 m o c r = arg m c r
  v17 : V17 m o c r = arg m c r
  v21 : V21 m o c r = arg m c r

theorem laterArg (r : Ref sig .tc) (h : r ∉ firstWrites) (h' : r ∉ secondWrites) : LaterArg m o c r :=
  have k := keptFirst m c r h
  have l := keptSecond m o c r h'
  ⟨l.v13.trans k.v12, l.v17.trans k.v12, l.v21.trans k.v12⟩

/-! ## The four groups' weights -/

/-- The weights of the 42 bands of width 31. -/
def bandWeights0 : FVec Ideal S42x4x192x128 .bf16 :=
  groupWeights 42 192 31 (cut31 (arg m c main_arg1)) (mulf (F := Ideal) (s := S42x31) (φ := .f32) (arg m c main_arg5) (arg m c main_arg6))
    (gains gather_S1025_S42x1_S42_n_0_n_n_0_1_1 bcast_S_S42 bcast_S42_S42x1_0 (arg m c main_arg3) (arg m c main_arg7)) (starts42 (arg m c main_arg4))
/-- The weights of the 10 bands of width 61. -/
def bandWeights1 : FVec Ideal S10x4x192x128 .bf16 :=
  groupWeights 10 192 61 (cut61 (arg m c main_arg1)) (mulf (F := Ideal) (s := S10x61) (φ := .f32) (arg m c main_arg9) (arg m c main_arg10))
    (gains gather_S1025_S10x1_S10_n_0_n_n_0_1_1 bcast_S_S10 bcast_S10_S10x1_0 (arg m c main_arg3) (arg m c main_arg11)) (starts10 (arg m c main_arg8))
/-- The weights of the 7 bands of width 97. -/
def bandWeights2 : FVec Ideal S7x4x256x128 .bf16 :=
  groupWeights 7 256 97 (cut97 (arg m c main_arg1)) (mulf (F := Ideal) (s := S7x97) (φ := .f32) (arg m c main_arg13) (arg m c main_arg14))
    (gains gather_S1025_S7x1_S7_n_0_n_n_0_1_1 bcast_S_S7 bcast_S7_S7x1_0 (arg m c main_arg3) (arg m c main_arg15)) (starts7 (arg m c main_arg12))
/-- The weights of the 5 bands of width 125. -/
def bandWeights3 : FVec Ideal S5x4x256x128 .bf16 :=
  groupWeights 5 256 125 (arg m c main_arg1) (mulf (F := Ideal) (s := S5x125) (φ := .f32) (arg m c main_arg17) (arg m c main_arg18))
    (gains gather_S1025_S5x1_S5_n_0_n_n_0_1_1 bcast_S_S5 bcast_S5_S5x1_0 (arg m c main_arg3) (arg m c main_arg19)) (starts5 (arg m c main_arg16))

theorem bandWeights0_eq : V7 m c main_v37 = bandWeights0 m c :=
  groupWeights_of (n := 42) (K := 192) (W := 31) (spread0 (V6 m c)) (placed0 (V5 m c)) (marks0 (V4 m c)) (coefs0 (V4 m c)) (zero0 (V4 m c))
    (rem0 (V3 m c) (divisor0 (V2 m c))) (congrArg cut31 (keptFirst m c main_arg1 (by decide)).v6)
    ((V4_of m c main_v14 (by decide)).trans ((filter0 (V2 m c)).trans
      (congrArg₂ (mulf (F := Ideal) (s := S42x31) (φ := .f32)) (keptFirst m c main_arg5 (by decide)).v2 (keptFirst m c main_arg6 (by decide)).v2)))
    ((V4_of m c main_v11 (by decide)).trans ((gain0 (V2 m c)).trans
      (congrArg₂ (gains gather_S1025_S42x1_S42_n_0_n_n_0_1_1 bcast_S_S42 bcast_S42_S42x1_0) (keptFirst m c main_arg3 (by decide)).v2 (keptFirst m c main_arg7 (by decide)).v2)))
    ((first0 (V2 m c)).trans (congrArg starts42 (keptFirst m c main_arg4 (by decide)).v2))

theorem bandWeights1_eq : V11 m c main_v70 = bandWeights1 m c :=
  groupWeights_of (n := 10) (K := 192) (W := 61) (spread1 (V10 m c)) (placed1 (V9 m c)) (marks1 (V8 m c)) (coefs1 (V8 m c)) (zero1 (V8 m c))
    (rem1 (V7 m c) (divisor1 (V6 m c))) (congrArg cut61 (keptFirst m c main_arg1 (by decide)).v10)
    ((V8_of m c main_v47 (by decide)).trans ((filter1 (V6 m c)).trans
      (congrArg₂ (mulf (F := Ideal) (s := S10x61) (φ := .f32)) (keptFirst m c main_arg9 (by decide)).v6 (keptFirst m c main_arg10 (by decide)).v6)))
    ((V8_of m c main_v44 (by decide)).trans ((gain1 (V6 m c)).trans
      (congrArg₂ (gains gather_S1025_S10x1_S10_n_0_n_n_0_1_1 bcast_S_S10 bcast_S10_S10x1_0) (keptFirst m c main_arg3 (by decide)).v6 (keptFirst m c main_arg11 (by decide)).v6)))
    ((first1 (V6 m c)).trans (congrArg starts10 (keptFirst m c main_arg8 (by decide)).v6))

theorem bandWeights2_eq : V18 m o c main_v114 = bandWeights2 m c :=
  groupWeights_of (n := 7) (K := 256) (W := 97) (spread2 (V17 m o c)) (placed2 (V16 m o c)) (marks2 (V15 m o c)) (coefs2 (V15 m o c)) (zero2 (V15 m o c))
    (rem2 (V14 m o c) (divisor2 (V13 m o c))) (congrArg cut97 (laterArg m o c main_arg1 (by decide) (by decide)).v17)
    ((V15_of m o c main_v91 (by decide)).trans ((filter2 (V13 m o c)).trans
      (congrArg₂ (mulf (F := Ideal) (s := S7x97) (φ := .f32)) (laterArg m o c main_arg13 (by decide) (by decide)).v13 (laterArg m o c main_arg14 (by decide) (by decide)).v13)))
    ((V15_of m o c main_v88 (by decide)).trans ((gain2 (V13 m o c)).trans
      (congrArg₂ (gains gather_S1025_S7x1_S7_n_0_n_n_0_1_1 bcast_S_S7 bcast_S7_S7x1_0) (laterArg m o c main_arg3 (by decide) (by decide)).v13 (laterArg m o c main_arg15 (by decide) (by decide)).v13)))
    ((first2 (V13 m o c)).trans (congrArg starts7 (laterArg m o c main_arg12 (by decide) (by decide)).v13))

theorem bandWeights3_eq : V22 m o c main_v146 = bandWeights3 m c :=
  groupWeights_of (n := 5) (K := 256) (W := 125) (spread3 (V21 m o c)) (placed3 (V20 m o c)) (marks3 (V19 m o c)) (coefs3 (V19 m o c)) (zero3 (V19 m o c))
    (rem3 (V18 m o c) (divisor3 (V17 m o c))) (laterArg m o c main_arg1 (by decide) (by decide)).v21
    ((V19_of m o c main_v124 (by decide)).trans ((filter3 (V17 m o c)).trans
      (congrArg₂ (mulf (F := Ideal) (s := S5x125) (φ := .f32)) (laterArg m o c main_arg17 (by decide) (by decide)).v17 (laterArg m o c main_arg18 (by decide) (by decide)).v17)))
    ((V19_of m o c main_v121 (by decide)).trans ((gain3 (V17 m o c)).trans
      (congrArg₂ (gains gather_S1025_S5x1_S5_n_0_n_n_0_1_1 bcast_S_S5 bcast_S5_S5x1_0) (laterArg m o c main_arg3 (by decide) (by decide)).v17 (laterArg m o c main_arg19 (by decide) (by decide)).v17)))
    ((first3 (V17 m o c)).trans (congrArg starts5 (laterArg m o c main_arg16 (by decide) (by decide)).v17))

/-- Two groups' weights laid end to end. -/
theorem pair4_apply {n n' N K : ℕ} {α : Type} (x : (⟨4, ![n, 4, K, 128]⟩ : Shape).Idx → α) (y : (⟨4, ![n', 4, K, 128]⟩ : Shape).Idx → α) (hN : N = n + n')
    (h : Shape.Concatenates [⟨4, ![n, 4, K, 128]⟩, ⟨4, ![n', 4, K, 128]⟩] ⟨4, ![N, 4, K, 128]⟩ 0) (b : Fin N) (i : Fin 4) (k : Fin K) (o : Fin 128) :
    concatenate ⟨4, ![N, 4, K, 128]⟩ 0 [⟨⟨4, ![n, 4, K, 128]⟩, x⟩, ⟨⟨4, ![n', 4, K, 128]⟩, y⟩] h (ix4 b i k o)
      = if hb : b.val < n then x (ix4 ⟨b.val, hb⟩ i k o) else y (ix4 ⟨b.val - n, by omega⟩ i k o) := by
  by_cases hb : b.val < n
  · rw [dif_pos hb]
    exact concatenate_pair_apply_left 0 x y h _ rfl (ix4 ⟨b.val, hb⟩ i k o)
      (by intro a; match a with | ⟨0, _⟩ => rfl | ⟨1, _⟩ => rfl | ⟨2, _⟩ => rfl | ⟨3, _⟩ => rfl)
  · rw [dif_neg hb]
    exact concatenate_pair_apply_right 0 x y h _ rfl rfl (ix4 ⟨b.val - n, by omega⟩ i k o)
      (by intro a ha; match a with | ⟨0, _⟩ => exact absurd rfl ha | ⟨1, _⟩ => rfl | ⟨2, _⟩ => rfl | ⟨3, _⟩ => rfl)
      (by show b.val - n + n = b.val; omega)

theorem weightsA_apply (b : Fin 52) (i : Fin 4) (k : Fin 192) (l : Fin 128) :
    (V12 m c main_v71 : FVec Ideal S52x4x192x128 .bf16) (ix4 b i k l)
      = if hb : b.val < 42 then bandWeights0 m c (ix4 ⟨b.val, hb⟩ i k l) else bandWeights1 m c (ix4 ⟨b.val - 42, by omega⟩ i k l) := by
  have e0 : V10 m c main_v37 = bandWeights0 m c :=
    (V10_of m c main_v37 (by decide)).trans ((V9_of m c main_v37 (by decide)).trans ((V8_of m c main_v37 (by decide)).trans (bandWeights0_eq m c)))
  refine (congrFun ((V12_of m c main_v71 (by decide)).trans (joinedA (V10 m c))) _).trans ?_
  rw [show after hostOps0_10 (V10 m c) main_v70 = bandWeights1 m c from bandWeights1_eq m c, e0]
  exact pair4_apply (n := 42) (n' := 10) _ _ rfl _ b i k l

theorem weightsB_apply (b : Fin 12) (i : Fin 4) (k : Fin 256) (l : Fin 128) :
    (V23 m o c main_v147 : FVec Ideal S12x4x256x128 .bf16) (ix4 b i k l)
      = if hb : b.val < 7 then bandWeights2 m c (ix4 ⟨b.val, hb⟩ i k l) else bandWeights3 m c (ix4 ⟨b.val - 7, by omega⟩ i k l) := by
  have e0 : V21 m o c main_v114 = bandWeights2 m c :=
    (V21_of m o c main_v114 (by decide)).trans ((V20_of m o c main_v114 (by decide)).trans ((V19_of m o c main_v114 (by decide)).trans (bandWeights2_eq m o c)))
  refine (congrFun ((V23_of m o c main_v147 (by decide)).trans (joinedB (V21 m o c))) _).trans ?_
  rw [show after hostOps1_8 (V21 m o c) main_v146 = bandWeights3 m c from bandWeights3_eq m o c, e0]
  exact pair4_apply (n := 7) (n' := 5) _ _ rfl _ b i k l

/-! ## The frames and the bias -/

section Stretches
variable (X : Valuation τ sig (Elt Ideal))

theorem zeroWord : after hostOps0 X main_c = constantI S_ 32 0#32 := by after_results_simp

theorem padded : after hostOps0_1 X main_v0
    = pad S8x4x256x1152 ![0, 0, 0, 0] ![0, 0, 0, 127] ![0, 0, 0, 0] (X main_arg0) (sitofp (F := Ideal) (s := S_) .f32 (X main_c))
      pads_S8x4x256x1025_S8x4x256x1152_000_000_000_01270 h_S_ := by after_results_simp; rfl

theorem framed : after hostOps0_2 X main_v3
    = truncf (F := Ideal) (s := S4x2048x1152) (φ := .f32) .bf16 (shapeCast S4x2048x1152 (transpose S4x8x256x1152 [1, 0, 2, 3] (X main_v0 : FVec Ideal S8x4x256x1152 .f32)
      transposes_S8x4x256x1152_S4x8x256x1152_1_0_2_3) shapeCasts_S4x8x256x1152_S4x2048x1152) bitsLt_bf16_f32 := by after_results_simp; rfl

theorem biased : after hostOps0_2 X main_v4 = shapeCast S1x128 (X main_arg2 : FVec Ideal S128 .f32) shapeCasts_S128_S1x128 := by after_results_simp; rfl

end Stretches

/-- A column of the spectrum, zero beyond the last. -/
def column (x : FVec Ideal S8x4x256x1025 .f32) (p : Fin 8) (i : Fin 4) (t : Fin 256) (n : ℕ) : EReal :=
  if h : n < 1025 then x (ix4 p i t ⟨n, h⟩) else 0

/-- The row frame `t` of batch `p` has in the calls' operand. -/
abbrev row (p : Fin 8) (t : Fin 256) : Fin 2048 := ⟨p.val * 256 + t.val, by omega⟩

theorem padded_apply (p : Fin 8) (i : Fin 4) (t : Fin 256) (n : Fin 1152) :
    (V2 m c main_v0 : FVec Ideal S8x4x256x1152 .f32) (ix4 p i t n) = column (arg m c main_arg0) p i t n := by
  refine (congrFun (padded (V1 m c)) _).trans ?_
  rw [column]
  split
  · rename_i h
    refine (pad_apply_of_inside _ _ _ _ _ _ _ _ (ix4 p i t ⟨n.val, h⟩) (fun a => ?_)).trans (congrFun (V1_of m c main_arg0 (by decide)) _)
    match a with
    | ⟨0, _⟩ => show p.val = 0 + p.val * 1; omega
    | ⟨1, _⟩ => show i.val = 0 + i.val * 1; omega
    | ⟨2, _⟩ => show t.val = 0 + t.val * 1; omega
    | ⟨3, _⟩ => show n.val = 0 + n.val * 1; omega
  · rename_i h
    refine (pad_apply_of_not_inside _ _ _ _ _ _ _ _ (3 : Fin 4) (fun hin => h ?_)).trans ?_
    · have := hin.2.2
      change (n.val - 0) / (0 + 1) < 1025 at this
      omega
    · have e : (V1 m c main_c : IVec S_ 32) = constantI S_ 32 0#32 := zeroWord (V0 m c)
      show ((((V1 m c main_c : IVec S_ 32) _).toInt : ℝ) : EReal) = 0
      rw [e]
      show (((0#32 : BitVec 32).toInt : ℝ) : EReal) = 0
      simp

theorem frames_apply (p : Fin 8) (i : Fin 4) (t : Fin 256) (n : ℕ) (X : FVec Ideal S4x2048x1152 .bf16) (hX : X = V12 m c main_v3) :
    colAt X i (row p t) n = column (arg m c main_arg0) p i t n := by
  rw [colAt]
  split
  · rename_i h
    have e : V12 m c main_v3 = V3 m c main_v3 := (V12_of m c main_v3 (by decide)).trans ((V11_of m c main_v3 (by decide)).trans
      ((V10_of m c main_v3 (by decide)).trans ((V9_of m c main_v3 (by decide)).trans ((V8_of m c main_v3 (by decide)).trans
      ((V7_of m c main_v3 (by decide)).trans ((V6_of m c main_v3 (by decide)).trans ((V5_of m c main_v3 (by decide)).trans (V4_of m c main_v3 (by decide)))))))))
    subst hX
    refine (congrFun (e.trans (framed (V2 m c))) _).trans ?_
    rw [truncf_apply]
    refine (shapeCast_apply _ _ _ (ix4 i p t ⟨n, h⟩) ?_).trans ((transpose_apply _ _ _ _ (ix4 p i t ⟨n, h⟩) (fun a => ?_)).trans (padded_apply m c p i t ⟨n, h⟩))
    · rw [Shape.rowMajor_val_four, Shape.rowMajor_val_three]
      show ((i.val * 8 + p.val) * 256 + t.val) * 1152 + n = (i.val * 2048 + (p.val * 256 + t.val)) * 1152 + n
      omega
    · match a with
      | ⟨0, _⟩ => rfl
      | ⟨1, _⟩ => rfl
      | ⟨2, _⟩ => rfl
      | ⟨3, _⟩ => rfl
  · rename_i h
    rw [column, dif_neg (by omega)]

theorem bias_apply (l : Fin 128) : (V12 m c main_v4 : FVec Ideal S1x128 .f32) (ix2 0 l) = (arg m c main_arg2 : FVec Ideal S128 .f32) (ValueIdx.ix1 l) := by
  have e : V12 m c main_v4 = V3 m c main_v4 := (V12_of m c main_v4 (by decide)).trans ((V11_of m c main_v4 (by decide)).trans
    ((V10_of m c main_v4 (by decide)).trans ((V9_of m c main_v4 (by decide)).trans ((V8_of m c main_v4 (by decide)).trans
    ((V7_of m c main_v4 (by decide)).trans ((V6_of m c main_v4 (by decide)).trans ((V5_of m c main_v4 (by decide)).trans (V4_of m c main_v4 (by decide)))))))))
  refine (congrFun (e.trans (biased (V2 m c))) _).trans ?_
  refine (shapeCast_apply _ _ _ (ValueIdx.ix1 l) ?_).trans (congrFun (keptFirst m c main_arg2 (by decide)).v2 _)
  rw [Shape.rowMajor_val_two, Shape.rowMajor_val_one]
  show l.val = 0 * 128 + l.val; omega

end Cert.KernelIdeal.Band

end
-- ==== Proof.PlainBand.lean ====
/-
  One group of bands as the plain reference computes it, and the reference's value at an index: the sum, over features and
  places, of the column taken at the band's table times the filter, mask, weight, mask and gain of that place, plus the bias.
-/
module

public import proofs.«01_k».proof.Proof.Take
public import proofs.«01_k».proof.Proof.Weights

@[expose] public section

noncomputable section

namespace Cert.Bands

open Idealize.ShloMosaic Idealize.ShloMosaic.ValueIdx

theorem inj0123 : Function.Injective (![0, 1, 2, 3] : Fin 4 → Fin 4) := by decide
theorem inj01234 : Function.Injective (![0, 1, 2, 3, 4] : Fin 5 → Fin 5) := by decide

section Arrays
variable (n W : ℕ)

/-- A table of the group, repeated for every batch, feature and frame. -/
abbrev overFrames (e : FVec Ideal ⟨2, ![n, W]⟩ .f32) : FVec Ideal ⟨5, ![8, 4, 256, n, W]⟩ .f32 :=
  broadcastInDim ⟨5, ![8, 4, 256, n, W]⟩ ![0, 1, 2, 3, 4] ⟨inj01234, fun a => by fin_cases a <;> simp⟩
    (broadcastInDim ⟨5, ![1, 1, 1, n, W]⟩ ![3, 4] ⟨(by decide : Function.Injective (![3, 4] : Fin 2 → Fin 5)), fun a => by fin_cases a <;> simp⟩ e)

/-- The bands' columns times their filters and masks. -/
abbrev filtered (wf : GatherDims.WF ⟨4, ![8, 4, 256, 1025]⟩ ⟨3, ![n, W, 1]⟩ ⟨5, ![8, 4, 256, n, W]⟩ [0, 1, 2] [3] [] [3] [] 2 ![8, 4, 256, 1])
    (x : FVec Ideal ⟨4, ![8, 4, 256, 1025]⟩ .f32) (idx : IVec ⟨2, ![n, W]⟩ 32) (e u : FVec Ideal ⟨2, ![n, W]⟩ .f32) : FVec Ideal ⟨5, ![8, 4, 256, n, W]⟩ .f32 :=
  mulf (mulf (Host.gather (columnDims wf) x
    (broadcastInDim ⟨3, ![n, W, 1]⟩ ![0, 1] ⟨(by decide : Function.Injective (![0, 1] : Fin 2 → Fin 3)), fun a => by fin_cases a <;> simp⟩
      (normal ⟨fun a => a.elim0, fun a => a.elim0⟩ 1025#32 idx))) (overFrames n W e)) (overFrames n W u)

/-- The bands' weights times their masks and gains. -/
abbrev weighted (pw : FVec Ideal ⟨3, ![4, W, 128]⟩ .f32) (u : FVec Ideal ⟨2, ![n, W]⟩ .f32) (g : FVec Ideal ⟨1, ![n]⟩ .f32) : FVec Ideal ⟨4, ![4, n, W, 128]⟩ .f32 :=
  mulf (mulf
    (broadcastInDim ⟨4, ![4, n, W, 128]⟩ ![0, 1, 2, 3] ⟨inj0123, fun a => by fin_cases a <;> simp⟩
      (broadcastInDim ⟨4, ![4, 1, W, 128]⟩ ![0, 2, 3] ⟨(by decide : Function.Injective (![0, 2, 3] : Fin 3 → Fin 4)), fun a => by fin_cases a <;> simp⟩ pw))
    (broadcastInDim ⟨4, ![4, n, W, 128]⟩ ![0, 1, 2, 3] ⟨inj0123, fun a => by fin_cases a <;> simp⟩
      (broadcastInDim ⟨4, ![1, n, W, 1]⟩ ![1, 2] ⟨(by decide : Function.Injective (![1, 2] : Fin 2 → Fin 4)), fun a => by fin_cases a <;> simp⟩ u)))
    (broadcastInDim ⟨4, ![4, n, W, 128]⟩ ![0, 1, 2, 3] ⟨inj0123, fun a => by fin_cases a <;> simp⟩
      (broadcastInDim ⟨4, ![1, n, 1, 1]⟩ ![1] ⟨inj1 _, fun a => by fin_cases a; simp⟩ g))

/-- The group's product with the bias added, laid out [batch, channel, frame, band]. -/
abbrev biasedProduct (wf : DotDims.WF ⟨4, ![4, n, W, 128]⟩ ⟨5, ![8, 4, 256, n, W]⟩ ⟨4, ![n, 128, 8, 256]⟩ [0, 2] [1, 4] [3] [0, 2] [1] [3])
    (L : FVec Ideal ⟨4, ![4, n, W, 128]⟩ .f32) (R : FVec Ideal ⟨5, ![8, 4, 256, n, W]⟩ .f32) (bias : FVec Ideal ⟨1, ![128]⟩ .f32) : FVec Ideal ⟨4, ![8, 128, 256, n]⟩ .f32 :=
  transpose ⟨4, ![8, 128, 256, n]⟩ [0, 3, 1, 2]
    (addf (transpose ⟨4, ![8, 256, n, 128]⟩ [2, 3, 0, 1] (Host.dotGeneral (productDims wf) none L R)
        ⟨(by decide : ([2, 3, 0, 1] : List (Fin 4)).Perm (List.finRange 4)), rfl, fun a => by fin_cases a <;> rfl⟩)
      (broadcastInDim ⟨4, ![8, 256, n, 128]⟩ ![0, 1, 2, 3] ⟨inj0123, fun a => by fin_cases a <;> simp⟩
        (broadcastInDim ⟨4, ![1, 1, 1, 128]⟩ ![3] ⟨inj1 _, fun a => by fin_cases a; simp⟩ bias)))
    ⟨(by decide : ([0, 3, 1, 2] : List (Fin 4)).Perm (List.finRange 4)), rfl, fun a => by fin_cases a <;> rfl⟩

end Arrays

variable {n W : ℕ}

theorem overFrames_apply (e : FVec Ideal ⟨2, ![n, W]⟩ .f32) (p : Fin 8) (i : Fin 4) (t : Fin 256) (b : Fin n) (w : Fin W) :
    overFrames n W e (ix5 p i t b w) = e (ix2 b w) := by
  refine (broadcastInDim_apply _ _ _ _ (ix5 0 0 0 b w) (fun a => ?_)).trans (broadcastInDim_apply _ _ _ _ (ix2 b w) (fun a => ?_))
  · match a with
    | ⟨0, _⟩ => rfl
    | ⟨1, _⟩ => rfl
    | ⟨2, _⟩ => rfl
    | ⟨3, _⟩ => exact coord_eq b
    | ⟨4, _⟩ => exact coord_eq w
  · match a with
    | ⟨0, _⟩ => exact coord_eq b
    | ⟨1, _⟩ => exact coord_eq w

theorem filtered_apply (wf : GatherDims.WF ⟨4, ![8, 4, 256, 1025]⟩ ⟨3, ![n, W, 1]⟩ ⟨5, ![8, 4, 256, n, W]⟩ [0, 1, 2] [3] [] [3] [] 2 ![8, 4, 256, 1])
    (x : FVec Ideal ⟨4, ![8, 4, 256, 1025]⟩ .f32) (idx : IVec ⟨2, ![n, W]⟩ 32) (e u : FVec Ideal ⟨2, ![n, W]⟩ .f32)
    (p : Fin 8) (i : Fin 4) (t : Fin 256) (b : Fin n) (w : Fin W) (h : (idx (ix2 b w)).toNat < 1025) :
    filtered n W wf x idx e u (ix5 p i t b w) = ((x (ix4 p i t ⟨(idx (ix2 b w)).toNat, h⟩) * e (ix2 b w)) * u (ix2 b w) : EReal) := by
  refine congrArg₂ (fun r s : EReal => r * s) (congrArg₂ (fun r s : EReal => r * s) ?_ (overFrames_apply e p i t b w)) (overFrames_apply u p i t b w)
  refine columns_apply wf x _ p i t b w ⟨(idx (ix2 b w)).toNat, h⟩ (congrArg BitVec.toNat ?_)
  refine (broadcastInDim_apply _ _ _ _ (ix2 b w) (fun a => ?_)).trans (normal_apply _ _ _ _ (by omega))
  match a with
  | ⟨0, _⟩ => exact coord_eq b
  | ⟨1, _⟩ => exact coord_eq w

theorem weighted_apply (pw : FVec Ideal ⟨3, ![4, W, 128]⟩ .f32) (u : FVec Ideal ⟨2, ![n, W]⟩ .f32) (g : FVec Ideal ⟨1, ![n]⟩ .f32)
    (i : Fin 4) (b : Fin n) (w : Fin W) (l : Fin 128) :
    weighted n W pw u g (ix4 i b w l) = ((pw (ix3 i w l) * u (ix2 b w)) * g (ix1 b) : EReal) := by
  refine congrArg₂ (fun r s : EReal => r * s) (congrArg₂ (fun r s : EReal => r * s) ?_ ?_) ?_
  · refine (broadcastInDim_apply _ _ _ _ (ix4 i 0 w l) (fun a => ?_)).trans (broadcastInDim_apply _ _ _ _ (ix3 i w l) (fun a => ?_))
    · match a with
      | ⟨0, _⟩ => rfl
      | ⟨1, _⟩ => rfl
      | ⟨2, _⟩ => exact coord_eq w
      | ⟨3, _⟩ => rfl
    · match a with
      | ⟨0, _⟩ => rfl
      | ⟨1, _⟩ => exact coord_eq w
      | ⟨2, _⟩ => rfl
  · refine (broadcastInDim_apply _ _ _ _ (ix4 0 b w 0) (fun a => ?_)).trans (broadcastInDim_apply _ _ _ _ (ix2 b w) (fun a => ?_))
    · match a with
      | ⟨0, _⟩ => rfl
      | ⟨1, _⟩ => exact coord_eq b
      | ⟨2, _⟩ => exact coord_eq w
      | ⟨3, _⟩ => rfl
    · match a with
      | ⟨0, _⟩ => exact coord_eq b
      | ⟨1, _⟩ => exact coord_eq w
  · refine (broadcastInDim_apply _ _ _ _ (ix4 0 b 0 0) (fun a => ?_)).trans (broadcastInDim_apply _ _ _ _ (ix1 b) (fun a => ?_))
    · match a with
      | ⟨0, _⟩ => rfl
      | ⟨1, _⟩ => exact coord_eq b
      | ⟨2, _⟩ => rfl
      | ⟨3, _⟩ => rfl
    · match a with | ⟨0, _⟩ => exact coord_eq b

theorem biasedProduct_apply (wf : DotDims.WF ⟨4, ![4, n, W, 128]⟩ ⟨5, ![8, 4, 256, n, W]⟩ ⟨4, ![n, 128, 8, 256]⟩ [0, 2] [1, 4] [3] [0, 2] [1] [3])
    (L : FVec Ideal ⟨4, ![4, n, W, 128]⟩ .f32) (R : FVec Ideal ⟨5, ![8, 4, 256, n, W]⟩ .f32) (bias : FVec Ideal ⟨1, ![128]⟩ .f32)
    (p : Fin 8) (l : Fin 128) (t : Fin 256) (b : Fin n) :
    biasedProduct n W wf L R bias (ix4 p l t b) = ((∑ i : Fin 4, ∑ w : Fin W, (L (ix4 i b w l) * R (ix5 p i t b w) : EReal)) + bias (ix1 l) : EReal) := by
  refine (transpose_apply _ _ _ _ (ix4 p t b l) (fun a => ?_)).trans (congrArg₂ (fun r s : EReal => r + s) ?_ ?_)
  · match a with
    | ⟨0, _⟩ => rfl
    | ⟨1, _⟩ => rfl
    | ⟨2, _⟩ => rfl
    | ⟨3, _⟩ => rfl
  · refine (transpose_apply _ _ _ _ (ix4 b l p t) (fun a => ?_)).trans (product_apply wf L R b l p t)
    match a with
    | ⟨0, _⟩ => rfl
    | ⟨1, _⟩ => rfl
    | ⟨2, _⟩ => rfl
    | ⟨3, _⟩ => rfl
  · refine (broadcastInDim_apply _ _ _ _ (ix4 0 0 0 l) (fun a => ?_)).trans (broadcastInDim_apply _ _ _ _ (ix1 l) (fun a => ?_))
    · match a with
      | ⟨0, _⟩ => rfl
      | ⟨1, _⟩ => rfl
      | ⟨2, _⟩ => rfl
      | ⟨3, _⟩ => rfl
    · match a with | ⟨0, _⟩ => rfl

end Cert.Bands

end
-- ==== Proof.BandValue.lean ====
/-
  A band's value both ways: the tile's product with the group's weights is the reference's product of the band's columns
  with the band's weights, when the group is as built.
-/
module

public import proofs.«01_k».proof.Proof.Operands
public import proofs.«01_k».proof.Proof.PlainBand
public import proofs.«01_k».proof.Proof.Precondition
public import Idealize.ShloMosaic.Lib.IdealHost

@[expose] public section

noncomputable section

namespace Cert.Bands

open Idealize.ShloMosaic Idealize.ShloMosaic.ValueIdx
open Cert.KernelIdeal.Band (colAt tileAt column row)

variable {n W first : ℕ} [NeZero W]

/-- The group's bands as the reference computes them. -/
def plainBands (n W : ℕ) (wf : GatherDims.WF ⟨4, ![8, 4, 256, 1025]⟩ ⟨3, ![n, W, 1]⟩ ⟨5, ![8, 4, 256, n, W]⟩ [0, 1, 2] [3] [] [3] [] 2 ![8, 4, 256, 1])
    (wf' : DotDims.WF ⟨4, ![4, n, W, 128]⟩ ⟨5, ![8, 4, 256, n, W]⟩ ⟨4, ![n, 128, 8, 256]⟩ [0, 2] [1, 4] [3] [0, 2] [1] [3])
    (x : FVec Ideal ⟨4, ![8, 4, 256, 1025]⟩ .f32) (pw : FVec Ideal ⟨3, ![4, W, 128]⟩ .f32) (bias : FVec Ideal ⟨1, ![128]⟩ .f32)
    (idx : IVec ⟨2, ![n, W]⟩ 32) (e u : FVec Ideal ⟨2, ![n, W]⟩ .f32) (g : FVec Ideal ⟨1, ![n]⟩ .f32) : FVec Ideal ⟨4, ![8, 128, 256, n]⟩ .f32 :=
  biasedProduct n W wf' (weighted n W pw u g) (filtered n W wf x idx e u) bias

/-- A word equal as a float to zero or one is that number. -/
theorem eq_of_oeq (a b : EReal) (h : Ideal.cmp .oeq a b = 1#1) : a = b := by
  have key (p : Bool) : BitVec.ofBool p = 1#1 → p = true := by cases p <;> decide
  exact of_decide_eq_true (key _ h)

/-- A place of a band as built is masked off, or reads the column as far along the band. -/
theorem AsBuilt.column_place {idx : IVec ⟨2, ![n, W]⟩ 32} {u : FVec Ideal ⟨2, ![n, W]⟩ .f32} {sub : IVec ⟨1, ![n]⟩ 32} (hb : AsBuilt (F := Ideal) n W first idx u sub)
    (hW : W ≤ 125) (x : FVec Ideal ⟨4, ![8, 4, 256, 1025]⟩ .f32) (p : Fin 8) (i : Fin 4) (t : Fin 256) (b : Fin n) (w : Fin W) :
    (u (ix2 b w) : EReal) = 0 ∨ ((u (ix2 b w) : EReal) = 1 ∧ column x p i t ((idx (ix2 b 0)).toNat + w.val) = x (ix4 p i t ⟨(idx (ix2 b w)).toNat, hb.range b w⟩)) := by
  rcases hb.place b w with h | ⟨h, hi⟩
  · exact .inl ((eq_of_oeq _ _ h).trans Ideal.ofBits_zero_f32)
  · refine .inr ⟨(eq_of_oeq _ _ h).trans Ideal.ofBits_one_f32, ?_⟩
    have hs := hb.start b
    have hr := hb.range b w
    have e : (idx (ix2 b 0)).toNat + w.val = (idx (ix2 b w)).toNat := by
      rw [hi, BitVec.toNat_add, BitVec.toNat_ofNat]; omega
    rw [column, dif_pos (by omega)]
    exact congrArg x (congrArg (ix4 p i t) (Fin.ext e))

theorem band_value {idx : IVec ⟨2, ![n, W]⟩ 32} {u : FVec Ideal ⟨2, ![n, W]⟩ .f32} {sub : IVec ⟨1, ![n]⟩ 32} (hb : AsBuilt (F := Ideal) n W first idx u sub) (hW : W ≤ 125)
    (wf wf') (x : FVec Ideal ⟨4, ![8, 4, 256, 1025]⟩ .f32) (pw : FVec Ideal ⟨3, ![4, W, 128]⟩ .f32) (bias : FVec Ideal ⟨1, ![128]⟩ .f32)
    (e : FVec Ideal ⟨2, ![n, W]⟩ .f32) (g : FVec Ideal ⟨1, ![n]⟩ .f32) (p : Fin 8) (l : Fin 128) (t : Fin 256) (b : Fin n) :
    (∑ i : Fin 4, ∑ w : Fin W, column x p i t ((idx (ix2 b 0)).toNat + w.val) * (pw (ix3 i w l) * ((e (ix2 b w) * u (ix2 b w)) * g (ix1 b)) : EReal)) + (bias (ix1 l) : EReal)
      = plainBands n W wf wf' x pw bias idx e u g (ix4 p l t b) := by
  rw [plainBands, biasedProduct_apply]
  refine congrArg (· + (bias (ix1 l) : EReal)) (Finset.sum_congr rfl fun i _ => Finset.sum_congr rfl fun w _ => ?_)
  rw [weighted_apply, filtered_apply wf x idx e u p i t b w (hb.range b w)]
  exact (place_eq _ _ _ _ _ _ (hb.column_place hW x p i t b w)).trans (mul_comm _ _)

/-- An element of a call's result is the reference's element of the band. -/
theorem tile_value {N K : ℕ} {idx : IVec ⟨2, ![n, W]⟩ 32} {u : FVec Ideal ⟨2, ![n, W]⟩ .f32} {sub : IVec ⟨1, ![n]⟩ 32} (hb : AsBuilt (F := Ideal) n W first idx u sub)
    (hK : K ≤ 256) (hW : W ≤ 125) (hKW : 127 + W ≤ K) (wf wf') {x : FVec Ideal ⟨4, ![8, 4, 256, 1025]⟩ .f32} {pw : FVec Ideal ⟨3, ![4, W, 128]⟩ .f32} {bias : FVec Ideal ⟨1, ![128]⟩ .f32}
    {e : FVec Ideal ⟨2, ![n, W]⟩ .f32} {g : FVec Ideal ⟨1, ![n]⟩ .f32} {st : IVec ⟨1, ![n]⟩ 32} {T : IVec ⟨1, ![N]⟩ 32} {X : FVec Ideal ⟨3, ![4, 2048, 1152]⟩ .bf16}
    {V : FVec Ideal ⟨4, ![N, 4, K, 128]⟩ .bf16} {B : FVec Ideal ⟨2, ![1, 128]⟩ .f32} {c : Fin N} (b : Fin n)
    (hst : st (ix1 b) = idx (ix2 b 0)) (hT : T (ix1 c) = divWord (idx (ix2 b 0))) (hV : ∀ i k l, V (ix4 c i k l) = groupWeights n K W pw (mulf e u) g st (ix4 b i k l))
    (hX : ∀ p i t k, colAt X i (row p t) k = column x p i t k) (hB : ∀ l, B (ix2 0 l) = bias (ix1 l)) (p : Fin 8) (l : Fin 128) (t : Fin 256) :
    tileAt T X V B c (row p t) l = plainBands n W wf wf' x pw bias idx e u g (ix4 p l t b) := by
  rw [tileAt, ← band_value hb hW, hB]
  refine congrArg (· + (bias (ix1 l) : EReal)) (Finset.sum_congr rfl fun i _ => ?_)
  have h := window_group hK hW hKW pw (mulf e u) g st b (by rw [hst]; exact hb.start b) i l fun k => column x p i t k
  rw [hst] at h
  refine Eq.trans (Finset.sum_congr rfl fun k _ => ?_) h
  rw [hX, hT, hV]

end Cert.Bands

end
-- ==== Proof.Array0.lean ====
/-
  What the first call leaves in its result's array, by index: at band `b`, row `r` and output `o`, the band's tile.
-/
module

public import proofs.«01_k».proof.Proof.Tile0
public import proofs.«01_k».proof.Proof.Records
public import Idealize.ShloMosaic.Lib.Pipeline.ValueKit.Basic

@[expose] public section

noncomputable section

namespace Cert.KernelIdeal.Band

open Cert.KernelIdeal
open Cert.KernelIdeal.Gen

open Idealize.ShloMosaic
open Idealize.ShloMosaic.TcCoe
open Idealize.ShloMosaic.ValueIdx

/-- The blocks' places: the frames and the bias whole, four bands of the weights and of the result a point. -/
theorem place0_0 : ∀ t : Fin grid0.N, cc0_transform_0 (grid0.coords t) = ![0, 0, 0] := by decide +kernel
theorem place0_1 : ∀ t : Fin grid0.N, cc0_transform_1 (grid0.coords t) = ![t.val, 0, 0, 0] := by decide +kernel
theorem place0_2 : ∀ t : Fin grid0.N, cc0_transform_2 (grid0.coords t) = ![0, 0] := by decide +kernel
theorem place0_3 : ∀ t : Fin grid0.N, cc0_transform_3 (grid0.coords t) = ![t.val, 0, 0] := by decide +kernel
theorem point0 : ∀ t : Fin grid0.N, (grid0.coords t 0).val = t.val := by decide +kernel
theorem flush0 : ∀ t : Fin grid0.N, Pipeline.Window.flushOf grid0 true cc0_transform_3 t = true := by decide +kernel

variable (T0 : IVec S52 32) (T1 : IVec S12 32) (hT0 : ∀ y, (T0 y).toNat < 8) (A : Dev nD → Valuation τ sig (Elt Ideal)) (c : Dev nD)

theorem frames0 (t : Fin grid0.N) : (blk0 T0 T1 A c 0 t : FVec Ideal S4x2048x1152 .bf16) = A c main_v3 := by
  funext j
  refine congrArg (A c main_v3) (funext fun a => Fin.ext ?_)
  have e := place0_0 t
  match a with
  | ⟨0, _⟩ => show cc0_transform_0 (grid0.coords t) 0 * 4 + 1 * (j 0).val = (j 0).val; rw [e]; show 0 * 4 + 1 * (j 0).val = (j 0).val; omega
  | ⟨1, _⟩ => show cc0_transform_0 (grid0.coords t) 1 * 2048 + 1 * (j 1).val = (j 1).val; rw [e]; show 0 * 2048 + 1 * (j 1).val = (j 1).val; omega
  | ⟨2, _⟩ => show cc0_transform_0 (grid0.coords t) 2 * 1152 + 1 * (j 2).val = (j 2).val; rw [e]; show 0 * 1152 + 1 * (j 2).val = (j 2).val; omega

theorem bias0 (t : Fin grid0.N) : (blk0 T0 T1 A c 2 t : FVec Ideal S1x128 .f32) = A c main_v4 := by
  funext j
  refine congrArg (A c main_v4) (funext fun a => Fin.ext ?_)
  have e := place0_2 t
  match a with
  | ⟨0, _⟩ => show cc0_transform_2 (grid0.coords t) 0 * 1 + 1 * (j 0).val = (j 0).val; rw [e]; show 0 * 1 + 1 * (j 0).val = (j 0).val; omega
  | ⟨1, _⟩ => show cc0_transform_2 (grid0.coords t) 1 * 128 + 1 * (j 1).val = (j 1).val; rw [e]; show 0 * 128 + 1 * (j 1).val = (j 1).val; omega

theorem weights0 (t : Fin grid0.N) (j i : Fin 4) (k : Fin 192) (o : Fin 128) (b : Fin 52) (hb : b.val = 4 * t.val + j.val) :
    (blk0 T0 T1 A c 1 t : FVec Ideal S4x4x192x128 .bf16) (ix4 j i k o) = (A c main_v71 : FVec Ideal S52x4x192x128 .bf16) (ix4 b i k o) := by
  refine congrArg (A c main_v71) (funext fun a => Fin.ext ?_)
  have e := place0_1 t
  match a with
  | ⟨0, _⟩ => show cc0_transform_1 (grid0.coords t) 0 * 4 + 1 * j.val = b.val; rw [e]; show t.val * 4 + 1 * j.val = b.val; omega
  | ⟨1, _⟩ => show cc0_transform_1 (grid0.coords t) 1 * 4 + 1 * i.val = i.val; rw [e]; show 0 * 4 + 1 * i.val = i.val; omega
  | ⟨2, _⟩ => show cc0_transform_1 (grid0.coords t) 2 * 192 + 1 * k.val = k.val; rw [e]; show 0 * 192 + 1 * k.val = k.val; omega
  | ⟨3, _⟩ => show cc0_transform_1 (grid0.coords t) 3 * 128 + 1 * o.val = o.val; rw [e]; show 0 * 128 + 1 * o.val = o.val; omega

theorem left0_apply (t : Fin grid0.N) (j : Fin 4) (r : Fin 2048) (o : Fin 128) (b : Fin 52) (hb : b.val = 4 * t.val + j.val) :
    (left0 T0 T1 hT0 A c t (ix3 j r o) : EReal) = tileAt T0 (A c main_v3) (A c main_v71) (A c main_v4) b r o := by
  refine (tiles0_apply (grid0.coords t) T0 hT0 _ _ _ j r o).trans ?_
  have e : (⟨4 * (grid0.coords t 0).val + j.val, by have : (grid0.coords t 0).val < 13 := (grid0.coords t 0).isLt; omega⟩ : Fin 52) = b :=
    Fin.ext (by show 4 * (grid0.coords t 0).val + j.val = b.val; rw [point0, hb])
  rw [e, frames0, bias0, tileAt]
  refine congrArg (· + _) (Finset.sum_congr rfl fun i _ => Finset.sum_congr rfl fun k _ => congrArg (_ * ·) ?_)
  exact weights0 T0 T1 A c t j i k o b hb

theorem out0_eq : (out0 T0 T1 hT0 A c : FVec Ideal S52x2048x128 .bf16)
    = fun y => tileAt T0 (A c main_v3) (A c main_v71) (A c main_v4) (y 0) (y 1) (y 2) := by
  refine Pipeline.Dat.arrAt_eq_of_cover (dat0 T0 T1 hT0 A c) 3 _ (fun t _ => ?_) fun (i : S52x2048x128.Idx) => ?_
  · show ((cfg0 (adm T0 T1 0)).win 3).cut ((cfg0 (adm T0 T1 0)).grid.coords t) ((dat0 T0 T1 hT0 A c).after (3 : Fin 4) t) = _
    rw [after0_3]
    refine funext fun (x : S4x2048x128.Idx) => ?_
    obtain ⟨j, r, o, rfl⟩ : ∃ j r o, x = (ix3 j r o : S4x2048x128.Idx) := ⟨x 0, x 1, x 2, eq_ix3 x⟩
    have hj : 4 * t.val + j.val < 52 := by have : t.val < 13 := t.isLt; omega
    refine (left0_apply T0 T1 hT0 A c t j r o ⟨4 * t.val + j.val, hj⟩ rfl).trans ?_
    have e := place0_3 t
    refine congr (congr (congrArg (tileAt T0 _ _ _) (Fin.ext ?_)) (Fin.ext ?_)) (Fin.ext ?_)
    · show 4 * t.val + j.val = cc0_transform_3 (grid0.coords t) 0 * 4 + 1 * j.val; rw [e]; show 4 * t.val + j.val = t.val * 4 + 1 * j.val; omega
    · show r.val = cc0_transform_3 (grid0.coords t) 1 * 2048 + 1 * r.val; rw [e]; show r.val = 0 * 2048 + 1 * r.val; omega
    · show o.val = cc0_transform_3 (grid0.coords t) 2 * 128 + 1 * o.val; rw [e]; show o.val = 0 * 128 + 1 * o.val; omega
  · have h0 : (i 0).val < 52 := (i 0).isLt
    have h1 : (i 1).val < 2048 := (i 1).isLt
    have h2 : (i 2).val < 128 := (i 2).isLt
    have ht : (i 0).val / 4 < 13 := by omega
    refine ⟨(⟨(i 0).val / 4, ht⟩ : Fin grid0.N), flush0 _, ?_⟩
    show i ∈ ((View.whole main_v78).slice (((cfg0 (F := Ideal) (adm T0 T1 0)).win 3).rect (⟨(i 0).val / 4, ht⟩ : Fin grid0.N))).set
    erw [View.set_slice_whole]
    refine (Pipeline.Window.mem_rect_iff ((cfg0 (F := Ideal) (adm T0 T1 0)).win 3) (⟨(i 0).val / 4, ht⟩ : Fin grid0.N) i (by rfl)).mpr fun a => ?_
    have e := place0_3 ⟨(i 0).val / 4, ht⟩
    match a with
    | ⟨0, _⟩ =>
      show cc0_transform_3 (grid0.coords (⟨(i 0).val / 4, ht⟩ : Fin grid0.N)) 0 * 4 ≤ (i 0).val ∧ (i 0).val < cc0_transform_3 (grid0.coords (⟨(i 0).val / 4, ht⟩ : Fin grid0.N)) 0 * 4 + 4
      rw [e]; show (i 0).val / 4 * 4 ≤ (i 0).val ∧ (i 0).val < (i 0).val / 4 * 4 + 4; omega
    | ⟨1, _⟩ =>
      show cc0_transform_3 (grid0.coords (⟨(i 0).val / 4, ht⟩ : Fin grid0.N)) 1 * 2048 ≤ (i 1).val ∧ (i 1).val < cc0_transform_3 (grid0.coords (⟨(i 0).val / 4, ht⟩ : Fin grid0.N)) 1 * 2048 + 2048
      rw [e]; show 0 * 2048 ≤ (i 1).val ∧ (i 1).val < 0 * 2048 + 2048; omega
    | ⟨2, _⟩ =>
      show cc0_transform_3 (grid0.coords (⟨(i 0).val / 4, ht⟩ : Fin grid0.N)) 2 * 128 ≤ (i 2).val ∧ (i 2).val < cc0_transform_3 (grid0.coords (⟨(i 0).val / 4, ht⟩ : Fin grid0.N)) 2 * 128 + 128
      rw [e]; show 0 * 128 ≤ (i 2).val ∧ (i 2).val < 0 * 128 + 128; omega

end Cert.KernelIdeal.Band

end
-- ==== Proof.Tile1.lean ====
/-
  What the second call's body leaves, by index: at band `j` of its four, row `r` and output `o`, the sum over the channels and the
  256 columns from the band's tile on of the frames times the weights, and the bias.
-/
module

public import proofs.«01_k».proof.Proof.Tile0
public import proofs.«01_k».proof.Proof.Region1
public import Idealize.ShloMosaic.Lib.MatmulPlain
public import Idealize.ShloMosaic.Lib.ValueIdx
public import Idealize.ShloMosaic.Lib.Pipeline.Value
public import Idealize.ShloMosaic.PureOps.Ideal.Laws

@[expose] public section

noncomputable section

namespace Cert.KernelIdeal.Band

open Cert.KernelIdeal
open Cert.KernelIdeal.Gen

open Idealize.ShloMosaic
open Idealize.ShloMosaic.TcCoe
open Idealize.ShloMosaic.ValueIdx

theorem prod1_apply (x : Vec Ideal S1x2048x256 .bf16) (w : Vec Ideal S1x1x256x128 .bf16) (r : Fin 2048) (o : Fin 128) :
    (prod1 x w (ix2 r o) : EReal) = ∑ k : Fin 256, x (ix3 0 r k) * w (ix4 0 0 k o) := by
  refine (Ideal.matmul_plain_apply none _ _ _ r o).trans ?_
  rw [show constant (F := Ideal) S2048x128 .f32 0x00000000#32 (ix2 r o) = (0 : EReal) from Ideal.ofBits_zero_f32, zero_add]
  refine Finset.sum_congr rfl fun k _ => congrArg₂ (· * ·) ?_ ?_
  · exact shapeCast_apply _ _ _ (ix3 0 r k) (by rw [Shape.rowMajor_val_three, Shape.rowMajor_val_two]; simp)
  · exact shapeCast_apply _ _ _ (ix4 0 0 k o) (by rw [Shape.rowMajor_val_four, Shape.rowMajor_val_two]; simp)

theorem sum1_apply (x : Fin 4 → Vec Ideal S1x2048x256 .bf16) (w : Fin 4 → Vec Ideal S1x1x256x128 .bf16) (b : Vec Ideal S1x128 .f32) (r : Fin 2048) (o : Fin 128) :
    (sum1 (x 0) (x 1) (x 2) (x 3) (w 0) (w 1) (w 2) (w 3) b (ix3 0 r o) : EReal)
      = (∑ i : Fin 4, ∑ k : Fin 256, x i (ix3 0 r k) * w i (ix4 0 0 k o)) + b (ix2 0 o) := by
  refine (shapeCast_apply _ _ _ (ix2 r o) (by rw [Shape.rowMajor_val_three, Shape.rowMajor_val_two]; simp)).trans ?_
  simp only [Fin.sum_univ_four]
  show (((((Ideal.ofBits .f32 0x00000000#32 : EReal) + prod1 (x 0) (w 0) (ix2 r o)) + prod1 (x 1) (w 1) (ix2 r o)) + prod1 (x 2) (w 2) (ix2 r o))
    + prod1 (x 3) (w 3) (ix2 r o)) + broadcastTo S2048x128 (shapeCast S1x128 b shapeCasts_S1x128_S1x128) broadcasts_S1x128_S2048x128 (ix2 r o) = _
  rw [Ideal.ofBits_zero_f32, zero_add]
  refine congrArg₂ (· + ·) (by simp only [prod1_apply]) ?_
  rw [shapeCast_self]
  exact broadcastTo_apply _ _ _ (ix2 0 o) (by intro a; match a with | ⟨0, _⟩ => simp | ⟨1, _⟩ => simp)

theorem tile1_apply (v : BitVec 32) (hv : v.toNat < 8) (j : Fin 4) (hw) (X : FVec Ideal S4x2048x1152 .bf16) (W : FVec Ideal S4x4x256x128 .bf16) (B : FVec Ideal S1x128 .f32)
    (r : Fin 2048) (o : Fin 128) :
    (tile1 (F := Ideal) v hv j.val hw X W B (ix3 0 r o) : EReal) = (∑ i : Fin 4, ∑ k : Fin 256, colAt X i r (v.toNat * 128 + k.val) * W (ix4 j i k o)) + B (ix2 0 o) := by
  refine (sum1_apply (fun | 0 => _ | 1 => _ | 2 => _ | 3 => _) (fun | 0 => _ | 1 => _ | 2 => _ | 3 => _) _ r o).trans ?_
  have hm := word_mul v hv
  congr 1
  · refine Finset.sum_congr rfl fun i _ => Finset.sum_congr rfl fun k _ => ?_
    have hk : v.toNat * 128 + k.val < 1152 := by omega
    rw [colAt_of_lt X i r _ hk]
    refine congrArg₂ (· * ·) ?_ ?_
    · fin_cases i <;>
      · refine congrArg X (funext fun a => Fin.ext ?_)
        fin_cases a <;> simp [k1_off2, k1_off3, k1_off4, k1_off5, hm, Rect.emb_apply, Rect.unit]
    · fin_cases i <;>
      · refine congrArg W (funext fun a => Fin.ext ?_)
        fin_cases a <;> simp [Rect.emb_apply, Rect.unit]
  · refine congrArg B (funext fun a => Fin.ext ?_)
    fin_cases a <;> simp [Rect.emb_apply, Rect.unit]

theorem word1_apply (T : IVec S12 32) (off : Fin 1 → ℕ) (h) (b : Fin 12) (hb : off 0 = b.val) : word1 (F := Ideal) T off h = T (ValueIdx.ix1 b) := by
  refine congrArg T (funext fun a => Fin.ext ?_)
  fin_cases a
  simp [Rect.emb_apply, Rect.unit, Shape.Idx.first, hb]

/-- What the body leaves at grid point `i`: the tiles of the bands from `4 i` on. -/
theorem tiles1_apply (i : grid1.Coords) (T : IVec S12 32) (hT : ∀ y, (T y).toNat < 8) (X : FVec Ideal S4x2048x1152 .bf16)
    (W : FVec Ideal S4x4x256x128 .bf16) (B : FVec Ideal S1x128 .f32) (j : Fin 4) (r : Fin 2048) (o : Fin 128) :
    (View.canon (tiles1 (F := Ideal) i T hT X W B) (ix3 j r o) : EReal)
      = (∑ n : Fin 4, ∑ k : Fin 256, colAt X n r ((T (ValueIdx.ix1 ⟨4 * (i 0).val + j.val, by have : (i 0).val < 3 := (i 0).isLt; omega⟩)).toNat * 128 + k.val) * W (ix4 j n k o))
        + B (ix2 0 o) := by
  have hi : (i 0).val < 3 := (i 0).isLt
  let G : Fin 4 → Fin 2048 → Fin 128 → EReal := fun j r o =>
    (∑ n : Fin 4, ∑ k : Fin 256, colAt X n r ((T (ValueIdx.ix1 ⟨4 * (i 0).val + j.val, by omega⟩)).toNat * 128 + k.val) * W (ix4 j n k o)) + B (ix2 0 o)
  have piece (b : Fin 12) (j : Fin 4) (off) (h) (hb : off 0 = b.val) (hj : b.val = 4 * (i 0).val + j.val) (hw) (r o) :
      (tile1 (F := Ideal) (word1 (F := Ideal) T off h) (hT _) j.val hw X W B (ix3 0 r o) : EReal) = G j r o := by
    refine (tile1_apply _ _ j hw X W B r o).trans ?_
    rw [word1_apply T off h b hb, show b = ⟨4 * (i 0).val + j.val, by omega⟩ from Fin.ext hj]
  have at_ (b : Fin 12) (j : Fin 4) (off) (h) (hb : off 0 = b.val) (hj : b.val = 4 * (i 0).val + j.val) (hw)
      (hin : ∀ a, (![j.val, 0, 0] : Fin 3 → ℕ) a + S1x2048x128.size a ≤ S4x2048x128.size a) (x : S1x2048x128.Idx) :
      (tile1 (F := Ideal) (word1 (F := Ideal) T off h) (hT _) j.val hw X W B x : EReal)
        = (fun y : S4x2048x128.Idx => G (y 0) (y 1) (y 2)) ((Rect.unit (s := S4x2048x128) ![j.val, 0, 0] S1x2048x128.size hin).emb x) := by
    obtain ⟨r, o, rfl⟩ : ∃ r o, x = ix3 0 r o := ⟨x 1, x 2, (eq_ix3 x).trans (congrArg (fun z => ix3 z (x 1) (x 2)) (Subsingleton.elim (α := Fin 1) (x 0) 0))⟩
    refine (piece b j off h hb hj hw r o).trans ?_
    refine congr (congr (congrArg G (Fin.ext ?_)) (Fin.ext ?_)) (Fin.ext ?_)
    · show j.val = j.val + 1 * 0; omega
    · show r.val = 0 + 1 * r.val; omega
    · show o.val = 0 + 1 * o.val; omega
  refine View.canon_apply_of_pieces (Val := Elt Ideal) (S := S4x2048x128) (e := .bf16) (fun y => G (y 0) (y 1) (y 2)) _ ?_ (ix3 j r o) ?_
  · intro p hp x
    simp only [tiles1, List.mem_cons, List.not_mem_nil, or_false] at hp
    rcases hp with rfl | rfl | rfl | rfl
    · exact at_ ⟨4 * (i 0).val + 3, by omega⟩ 3 _ _ (by rw [k1_off16_eq]; rfl) rfl (win1_inb 3 (by decide)) inb_S4x2048x128_S1x2048x128_3_0_0 x
    · exact at_ ⟨4 * (i 0).val + 2, by omega⟩ 2 _ _ (by rw [k1_off11_eq]; rfl) rfl (win1_inb 2 (by decide)) inb_S4x2048x128_S1x2048x128_2_0_0 x
    · exact at_ ⟨4 * (i 0).val + 1, by omega⟩ 1 _ _ (by rw [k1_off6_eq]; rfl) rfl (win1_inb 1 (by decide)) inb_S4x2048x128_S1x2048x128_1_0_0 x
    · exact at_ ⟨4 * (i 0).val, by omega⟩ 0 _ _ (by rw [k1_off1_eq]; rfl) rfl (win1_inb 0 (by decide)) inb_S4x2048x128_S1x2048x128_0_0_0 x
  · have cover (j : Fin 4) (hin : ∀ a, (![j.val, 0, 0] : Fin 3 → ℕ) a + S1x2048x128.size a ≤ S4x2048x128.size a) :
        (ix3 j r o : S4x2048x128.Idx) ∈ (Rect.unit (s := S4x2048x128) ![j.val, 0, 0] S1x2048x128.size hin).set := by
      have e : (ix3 j r o : S4x2048x128.Idx) = (Rect.unit (s := S4x2048x128) ![j.val, 0, 0] S1x2048x128.size hin).emb (ix3 0 r o) := by
        refine funext fun a => Fin.ext ?_
        match a with
        | ⟨0, _⟩ => show j.val = j.val + 1 * 0; omega
        | ⟨1, _⟩ => show r.val = 0 + 1 * r.val; omega
        | ⟨2, _⟩ => show o.val = 0 + 1 * o.val; omega
      rw [e]
      exact LoadRect.idx_mem _ _
    simp only [tiles1, List.mem_cons, List.not_mem_nil, or_false, exists_eq_or_imp, exists_eq_left]
    fin_cases j
    · exact .inr (.inr (.inr (cover 0 inb_S4x2048x128_S1x2048x128_0_0_0)))
    · exact .inr (.inr (.inl (cover 1 inb_S4x2048x128_S1x2048x128_1_0_0)))
    · exact .inr (.inl (cover 2 inb_S4x2048x128_S1x2048x128_2_0_0))
    · exact .inl (cover 3 inb_S4x2048x128_S1x2048x128_3_0_0)

end Cert.KernelIdeal.Band

end
-- ==== Proof.Array1.lean ====
/-
  What the second call leaves in its result's array, by index: at band `b`, row `r` and output `o`, the band's tile.
-/
module

public import proofs.«01_k».proof.Proof.Tile1
public import proofs.«01_k».proof.Proof.Records
public import Idealize.ShloMosaic.Lib.Pipeline.ValueKit.Basic

@[expose] public section

noncomputable section

namespace Cert.KernelIdeal.Band

open Cert.KernelIdeal
open Cert.KernelIdeal.Gen

open Idealize.ShloMosaic
open Idealize.ShloMosaic.TcCoe
open Idealize.ShloMosaic.ValueIdx

/-- The blocks' places: the frames and the bias whole, four bands of the weights and of the result a point. -/
theorem place1_0 : ∀ t : Fin grid1.N, cc1_transform_0 (grid1.coords t) = ![0, 0, 0] := by decide +kernel
theorem place1_1 : ∀ t : Fin grid1.N, cc1_transform_1 (grid1.coords t) = ![t.val, 0, 0, 0] := by decide +kernel
theorem place1_2 : ∀ t : Fin grid1.N, cc1_transform_2 (grid1.coords t) = ![0, 0] := by decide +kernel
theorem place1_3 : ∀ t : Fin grid1.N, cc1_transform_3 (grid1.coords t) = ![t.val, 0, 0] := by decide +kernel
theorem point1 : ∀ t : Fin grid1.N, (grid1.coords t 0).val = t.val := by decide +kernel
theorem flush1 : ∀ t : Fin grid1.N, Pipeline.Window.flushOf grid1 true cc1_transform_3 t = true := by decide +kernel

variable (T0 : IVec S52 32) (T1 : IVec S12 32) (hT1 : ∀ y, (T1 y).toNat < 8) (A : Dev nD → Valuation τ sig (Elt Ideal)) (c : Dev nD)

theorem frames1 (t : Fin grid1.N) : (blk1 T0 T1 A c 0 t : FVec Ideal S4x2048x1152 .bf16) = A c main_v3 := by
  funext j
  refine congrArg (A c main_v3) (funext fun a => Fin.ext ?_)
  have e := place1_0 t
  match a with
  | ⟨0, _⟩ => show cc1_transform_0 (grid1.coords t) 0 * 4 + 1 * (j 0).val = (j 0).val; rw [e]; show 0 * 4 + 1 * (j 0).val = (j 0).val; omega
  | ⟨1, _⟩ => show cc1_transform_0 (grid1.coords t) 1 * 2048 + 1 * (j 1).val = (j 1).val; rw [e]; show 0 * 2048 + 1 * (j 1).val = (j 1).val; omega
  | ⟨2, _⟩ => show cc1_transform_0 (grid1.coords t) 2 * 1152 + 1 * (j 2).val = (j 2).val; rw [e]; show 0 * 1152 + 1 * (j 2).val = (j 2).val; omega

theorem bias1 (t : Fin grid1.N) : (blk1 T0 T1 A c 2 t : FVec Ideal S1x128 .f32) = A c main_v4 := by
  funext j
  refine congrArg (A c main_v4) (funext fun a => Fin.ext ?_)
  have e := place1_2 t
  match a with
  | ⟨0, _⟩ => show cc1_transform_2 (grid1.coords t) 0 * 1 + 1 * (j 0).val = (j 0).val; rw [e]; show 0 * 1 + 1 * (j 0).val = (j 0).val; omega
  | ⟨1, _⟩ => show cc1_transform_2 (grid1.coords t) 1 * 128 + 1 * (j 1).val = (j 1).val; rw [e]; show 0 * 128 + 1 * (j 1).val = (j 1).val; omega

theorem weights1 (t : Fin grid1.N) (j i : Fin 4) (k : Fin 256) (o : Fin 128) (b : Fin 12) (hb : b.val = 4 * t.val + j.val) :
    (blk1 T0 T1 A c 1 t : FVec Ideal S4x4x256x128 .bf16) (ix4 j i k o) = (A c main_v147 : FVec Ideal S12x4x256x128 .bf16) (ix4 b i k o) := by
  refine congrArg (A c main_v147) (funext fun a => Fin.ext ?_)
  have e := place1_1 t
  match a with
  | ⟨0, _⟩ => show cc1_transform_1 (grid1.coords t) 0 * 4 + 1 * j.val = b.val; rw [e]; show t.val * 4 + 1 * j.val = b.val; omega
  | ⟨1, _⟩ => show cc1_transform_1 (grid1.coords t) 1 * 4 + 1 * i.val = i.val; rw [e]; show 0 * 4 + 1 * i.val = i.val; omega
  | ⟨2, _⟩ => show cc1_transform_1 (grid1.coords t) 2 * 256 + 1 * k.val = k.val; rw [e]; show 0 * 256 + 1 * k.val = k.val; omega
  | ⟨3, _⟩ => show cc1_transform_1 (grid1.coords t) 3 * 128 + 1 * o.val = o.val; rw [e]; show 0 * 128 + 1 * o.val = o.val; omega

theorem left1_apply (t : Fin grid1.N) (j : Fin 4) (r : Fin 2048) (o : Fin 128) (b : Fin 12) (hb : b.val = 4 * t.val + j.val) :
    (left1 T0 T1 hT1 A c t (ix3 j r o) : EReal) = tileAt T1 (A c main_v3) (A c main_v147) (A c main_v4) b r o := by
  refine (tiles1_apply (grid1.coords t) T1 hT1 _ _ _ j r o).trans ?_
  have e : (⟨4 * (grid1.coords t 0).val + j.val, by have : (grid1.coords t 0).val < 3 := (grid1.coords t 0).isLt; omega⟩ : Fin 12) = b :=
    Fin.ext (by show 4 * (grid1.coords t 0).val + j.val = b.val; rw [point1, hb])
  rw [e, frames1, bias1, tileAt]
  refine congrArg (· + _) (Finset.sum_congr rfl fun i _ => Finset.sum_congr rfl fun k _ => congrArg (_ * ·) ?_)
  exact weights1 T0 T1 A c t j i k o b hb

theorem out1_eq : (out1 T0 T1 hT1 A c : FVec Ideal S12x2048x128 .bf16)
    = fun y => tileAt T1 (A c main_v3) (A c main_v147) (A c main_v4) (y 0) (y 1) (y 2) := by
  refine Pipeline.Dat.arrAt_eq_of_cover (dat1 T0 T1 hT1 A c) 3 _ (fun t _ => ?_) fun (i : S12x2048x128.Idx) => ?_
  · show ((cfg1 (adm T0 T1 1)).win 3).cut ((cfg1 (adm T0 T1 1)).grid.coords t) ((dat1 T0 T1 hT1 A c).after (3 : Fin 4) t) = _
    rw [after1_3]
    refine funext fun (x : S4x2048x128.Idx) => ?_
    obtain ⟨j, r, o, rfl⟩ : ∃ j r o, x = (ix3 j r o : S4x2048x128.Idx) := ⟨x 0, x 1, x 2, eq_ix3 x⟩
    have hj : 4 * t.val + j.val < 12 := by have : t.val < 3 := t.isLt; omega
    refine (left1_apply T0 T1 hT1 A c t j r o ⟨4 * t.val + j.val, hj⟩ rfl).trans ?_
    have e := place1_3 t
    refine congr (congr (congrArg (tileAt T1 _ _ _) (Fin.ext ?_)) (Fin.ext ?_)) (Fin.ext ?_)
    · show 4 * t.val + j.val = cc1_transform_3 (grid1.coords t) 0 * 4 + 1 * j.val; rw [e]; show 4 * t.val + j.val = t.val * 4 + 1 * j.val; omega
    · show r.val = cc1_transform_3 (grid1.coords t) 1 * 2048 + 1 * r.val; rw [e]; show r.val = 0 * 2048 + 1 * r.val; omega
    · show o.val = cc1_transform_3 (grid1.coords t) 2 * 128 + 1 * o.val; rw [e]; show o.val = 0 * 128 + 1 * o.val; omega
  · have h0 : (i 0).val < 12 := (i 0).isLt
    have h1 : (i 1).val < 2048 := (i 1).isLt
    have h2 : (i 2).val < 128 := (i 2).isLt
    have ht : (i 0).val / 4 < 3 := by omega
    refine ⟨(⟨(i 0).val / 4, ht⟩ : Fin grid1.N), flush1 _, ?_⟩
    show i ∈ ((View.whole main_v154).slice (((cfg1 (F := Ideal) (adm T0 T1 1)).win 3).rect (⟨(i 0).val / 4, ht⟩ : Fin grid1.N))).set
    erw [View.set_slice_whole]
    refine (Pipeline.Window.mem_rect_iff ((cfg1 (F := Ideal) (adm T0 T1 1)).win 3) (⟨(i 0).val / 4, ht⟩ : Fin grid1.N) i (by rfl)).mpr fun a => ?_
    have e := place1_3 ⟨(i 0).val / 4, ht⟩
    match a with
    | ⟨0, _⟩ =>
      show cc1_transform_3 (grid1.coords (⟨(i 0).val / 4, ht⟩ : Fin grid1.N)) 0 * 4 ≤ (i 0).val ∧ (i 0).val < cc1_transform_3 (grid1.coords (⟨(i 0).val / 4, ht⟩ : Fin grid1.N)) 0 * 4 + 4
      rw [e]; show (i 0).val / 4 * 4 ≤ (i 0).val ∧ (i 0).val < (i 0).val / 4 * 4 + 4; omega
    | ⟨1, _⟩ =>
      show cc1_transform_3 (grid1.coords (⟨(i 0).val / 4, ht⟩ : Fin grid1.N)) 1 * 2048 ≤ (i 1).val ∧ (i 1).val < cc1_transform_3 (grid1.coords (⟨(i 0).val / 4, ht⟩ : Fin grid1.N)) 1 * 2048 + 2048
      rw [e]; show 0 * 2048 ≤ (i 1).val ∧ (i 1).val < 0 * 2048 + 2048; omega
    | ⟨2, _⟩ =>
      show cc1_transform_3 (grid1.coords (⟨(i 0).val / 4, ht⟩ : Fin grid1.N)) 2 * 128 ≤ (i 2).val ∧ (i 2).val < cc1_transform_3 (grid1.coords (⟨(i 0).val / 4, ht⟩ : Fin grid1.N)) 2 * 128 + 128
      rw [e]; show 0 * 128 ≤ (i 2).val ∧ (i 2).val < 0 * 128 + 128; omega

end Cert.KernelIdeal.Band

end
-- ==== Proof.KernelValue.lean ====
/-
  The kernel's result at an index: the two calls' results, laid out [batch, channel, frame, band] and put end to end.
-/
module

public import proofs.«01_k».proof.Proof.BandValue
public import proofs.«01_k».proof.Proof.Array0
public import proofs.«01_k».proof.Proof.Array1
public import proofs.«01_k».proof.Proof.Run
public import proofs.«01_k».proof.Proof.HostWords

@[expose] public section

noncomputable section

namespace Cert.KernelIdeal.Band

open Cert.KernelIdeal
open Cert.KernelIdeal.Gen
open Cert.Bands

open Idealize.ShloMosaic
open Idealize.ShloMosaic.TcCoe
open Idealize.ShloMosaic.StableHlo
open Idealize.ShloMosaic.ValueIdx

section Stretches
variable (X : Valuation τ sig (Elt Ideal))

/-- The first call's result laid out by frames. -/
theorem laidA : after hostOps1 X main_v81
    = extf (F := Ideal) (s := S8x128x256x52) (φ := .bf16) .f32 (transpose S8x128x256x52 [1, 3, 2, 0] (shapeCast S52x8x256x128 (X main_v78 : FVec Ideal S52x2048x128 .bf16)
      shapeCasts_S52x2048x128_S52x8x256x128) transposes_S52x8x256x128_S8x128x256x52_1_3_2_0) bitsLt_bf16_f32 := by after_results_simp; rfl

/-- The second call's result laid out by frames, after the first's. -/
theorem laidB : after hostOps2 X main_v158
    = concatenate S8x128x256x64 3 [⟨S8x128x256x52, X main_v81⟩, ⟨S8x128x256x12, extf (F := Ideal) (s := S8x128x256x12) (φ := .bf16) .f32
      (transpose S8x128x256x12 [1, 3, 2, 0] (shapeCast S12x8x256x128 (X main_v154 : FVec Ideal S12x2048x128 .bf16)
      shapeCasts_S12x2048x128_S12x8x256x128) transposes_S12x8x256x128_S8x128x256x12_1_3_2_0) bitsLt_bf16_f32⟩]
      concatenates_S8x128x256x52_S8x128x256x12_S8x128x256x64_d3 := by after_reads_simp; rfl

end Stretches

/-- A call's result laid out by frames, at an index. -/
theorem laid_apply {n : ℕ} (Y : FVec Ideal ⟨3, ![n, 2048, 128]⟩ .bf16) (hc : (⟨3, ![n, 2048, 128]⟩ : Shape).ShapeCasts ⟨4, ![n, 8, 256, 128]⟩)
    (ht : (⟨4, ![n, 8, 256, 128]⟩ : Shape).Transposes [1, 3, 2, 0] ⟨4, ![8, 128, 256, n]⟩) (hb : FTy.bits .bf16 < FTy.bits .f32)
    (p : Fin 8) (l : Fin 128) (t : Fin 256) (q : Fin n) :
    extf (F := Ideal) (s := ⟨4, ![8, 128, 256, n]⟩) (φ := .bf16) .f32 (transpose ⟨4, ![8, 128, 256, n]⟩ [1, 3, 2, 0] (shapeCast ⟨4, ![n, 8, 256, 128]⟩ Y hc) ht) hb (ix4 p l t q)
      = Y (ix3 q (row p t) l) := by
  refine (transpose_apply _ _ _ _ (ix4 q p t l) (fun a => ?_)).trans (shapeCast_apply _ _ _ (ix3 q (row p t) l) ?_)
  · match a with
    | ⟨0, _⟩ => rfl
    | ⟨1, _⟩ => rfl
    | ⟨2, _⟩ => rfl
    | ⟨3, _⟩ => rfl
  · rw [Shape.rowMajor_val_four, Shape.rowMajor_val_three]
    show (q.val * 2048 + (p.val * 256 + t.val)) * 128 + l.val = ((q.val * 8 + p.val) * 256 + t.val) * 128 + l.val
    omega

/-- The two calls' bands end to end, at an index. -/
theorem sides_apply (x : FVec Ideal S8x128x256x52 .f32) (y : FVec Ideal S8x128x256x12 .f32) (h : Shape.Concatenates [S8x128x256x52, S8x128x256x12] S8x128x256x64 3)
    (p : Fin 8) (l : Fin 128) (t : Fin 256) (q : Fin 64) :
    concatenate S8x128x256x64 3 [⟨S8x128x256x52, x⟩, ⟨S8x128x256x12, y⟩] h (ix4 p l t q)
      = if hq : q.val < 52 then x (ix4 p l t ⟨q.val, hq⟩) else y (ix4 p l t ⟨q.val - 52, by omega⟩) := by
  by_cases hq : q.val < 52
  · rw [dif_pos hq]
    exact concatenate_pair_apply_left 3 x y h _ rfl (ix4 p l t ⟨q.val, hq⟩)
      (by intro a; match a with | ⟨0, _⟩ => rfl | ⟨1, _⟩ => rfl | ⟨2, _⟩ => rfl | ⟨3, _⟩ => rfl)
  · rw [dif_neg hq]
    exact concatenate_pair_apply_right 3 x y h _ rfl rfl (ix4 p l t ⟨q.val - 52, by omega⟩)
      (by intro a ha; match a with | ⟨0, _⟩ => rfl | ⟨1, _⟩ => rfl | ⟨2, _⟩ => rfl | ⟨3, _⟩ => exact absurd rfl ha)
      (by show q.val - 52 + 52 = q.val; omega)

variable (m : (ℓ : Loc nD τ sig) → Buf (Elt Ideal) ℓ) (h : TablesBelow m)

/-- What the first call leaves reaches the last stretch. -/
theorem laidA_kept (c : Dev nD) (o : Outs (F := Ideal)) : V24 m o c main_v81 = V14 m o c main_v81 :=
  (V24_of m o c main_v81 (by decide)).trans ((V23_of m o c main_v81 (by decide)).trans ((V22_of m o c main_v81 (by decide)).trans
    ((V21_of m o c main_v81 (by decide)).trans ((V20_of m o c main_v81 (by decide)).trans ((V19_of m o c main_v81 (by decide)).trans
    ((V18_of m o c main_v81 (by decide)).trans ((V17_of m o c main_v81 (by decide)).trans ((V16_of m o c main_v81 (by decide)).trans (V15_of m o c main_v81 (by decide))))))))))

theorem result_apply (c : Dev nD) (p : Fin 8) (l : Fin 128) (t : Fin 256) (q : Fin 64) :
    (V25 m (outs m h) c main_v158 : FVec Ideal S8x128x256x64 .f32) (ix4 p l t q)
      = if hq : q.val < 52 then tileAt (n := 52) (K := 192) (table0 m) (V12 m c main_v3) (V12 m c main_v71) (V12 m c main_v4) ⟨q.val, hq⟩ (row p t) l
        else tileAt (n := 12) (K := 256) (table1 m h) (V23 m (outsA m h) c main_v3) (V23 m (outsA m h) c main_v147) (V23 m (outsA m h) c main_v4) ⟨q.val - 52, by omega⟩ (row p t) l := by
  refine (congrFun (laidB (V24 m (outs m h) c)) _).trans ((sides_apply _ _ _ p l t q).trans (dite_congr rfl (fun hq => ?_) fun hq => ?_))
  · refine (congrFun ((laidA_kept m c (outs m h)).trans (laidA (V13 m (outs m h) c))) _).trans ?_
    refine (laid_apply (n := 52) _ _ _ _ p l t ⟨q.val, hq⟩).trans ?_
    exact congrFun ((first_left m h c).trans (out0_eq _ _ _ _ c)) _
  · refine (laid_apply (n := 12) _ _ _ _ p l t ⟨q.val - 52, by omega⟩).trans ?_
    exact congrFun ((second_left m h c).trans (out1_eq _ _ _ _ c)) _

end Cert.KernelIdeal.Band

end
-- ==== Proof.ReferenceValue.lean ====
/-
  The reference's result at an index: the band's group as the reference computes it.
-/
module

public import proofs.«01_k».proof.Proof.BandValue
public import proofs.«01_k».proof.Proof.Gen.ReferenceIdeal.Read

@[expose] public section

noncomputable section

namespace Cert.ReferenceIdeal.Band

open Cert.ReferenceIdeal Cert.ReferenceIdeal.Gen Cert.ReferenceIdeal.Read
open Cert.Bands

open Idealize.ShloMosaic Idealize.ShloMosaic.ValueIdx

variable (x0 : FVec Ideal S8x4x256x1025 .f32) (x1 : FVec Ideal S4x125x128 .f32) (x2 : FVec Ideal S128 .f32) (x3 : FVec Ideal S1025 .f32)
  (x4 : IVec S42x31 32) (x5 x6 : FVec Ideal S42x31 .f32) (x7 : IVec S42 32) (x8 : IVec S10x61 32) (x9 x10 : FVec Ideal S10x61 .f32) (x11 : IVec S10 32)
  (x12 : IVec S7x97 32) (x13 x14 : FVec Ideal S7x97 .f32) (x15 : IVec S7 32) (x16 : IVec S5x125 32) (x17 x18 : FVec Ideal S5x125 .f32) (x19 : IVec S5 32)

/-- The 42 bands of width 31. -/
def bands0 : FVec Ideal S8x128x256x42 .f32 :=
  plainBands 42 31 gather_S8x4x256x1025_S42x31x1_S8x4x256x42x31_012_3_n_n_3_2_842561_wf dot_S4x42x31x128_S8x4x256x42x31_S42x128x8x256_02_14_3_02_1_3_wf
    x0 (extractStridedSlice S4x31x128 ![0, 0, 0] x1 slices_S4x125x128_S4x31x128_0_0_0) x2 x4 x5 x6 (gains gather_S1025_S42x1_S42_n_0_n_n_0_1_1 bcast_S_S42 bcast_S42_S42x1_0 x3 x7)
/-- The 10 bands of width 61. -/
def bands1 : FVec Ideal S8x128x256x10 .f32 :=
  plainBands 10 61 gather_S8x4x256x1025_S10x61x1_S8x4x256x10x61_012_3_n_n_3_2_842561_wf dot_S4x10x61x128_S8x4x256x10x61_S10x128x8x256_02_14_3_02_1_3_wf
    x0 (extractStridedSlice S4x61x128 ![0, 0, 0] x1 slices_S4x125x128_S4x61x128_0_0_0) x2 x8 x9 x10 (gains gather_S1025_S10x1_S10_n_0_n_n_0_1_1 bcast_S_S10 bcast_S10_S10x1_0 x3 x11)
/-- The 7 bands of width 97. -/
def bands2 : FVec Ideal S8x128x256x7 .f32 :=
  plainBands 7 97 gather_S8x4x256x1025_S7x97x1_S8x4x256x7x97_012_3_n_n_3_2_842561_wf dot_S4x7x97x128_S8x4x256x7x97_S7x128x8x256_02_14_3_02_1_3_wf
    x0 (extractStridedSlice S4x97x128 ![0, 0, 0] x1 slices_S4x125x128_S4x97x128_0_0_0) x2 x12 x13 x14 (gains gather_S1025_S7x1_S7_n_0_n_n_0_1_1 bcast_S_S7 bcast_S7_S7x1_0 x3 x15)
/-- The 5 bands of width 125. -/
def bands3 : FVec Ideal S8x128x256x5 .f32 :=
  plainBands 5 125 gather_S8x4x256x1025_S5x125x1_S8x4x256x5x125_012_3_n_n_3_2_842561_wf dot_S4x5x125x128_S8x4x256x5x125_S5x128x8x256_02_14_3_02_1_3_wf
    x0 x1 x2 x16 x17 x18 (gains gather_S1025_S5x1_S5_n_0_n_n_0_1_1 bcast_S_S5 bcast_S5_S5x1_0 x3 x19)

theorem bands0_eq : val_main_v35 (F := Ideal) x0 x1 x2 x3 x4 x5 x6 x7 = bands0 x0 x1 x2 x3 x4 x5 x6 x7 := rfl
theorem bands1_eq : val_main_v77 (F := Ideal) x0 x1 x2 x3 x8 x9 x10 x11 = bands1 x0 x1 x2 x3 x8 x9 x10 x11 := rfl
theorem bands2_eq : val_main_v119 (F := Ideal) x0 x1 x2 x3 x12 x13 x14 x15 = bands2 x0 x1 x2 x3 x12 x13 x14 x15 := rfl
theorem bands3_eq : val_main_v160 (F := Ideal) x0 x1 x2 x3 x16 x17 x18 x19 = bands3 x0 x1 x2 x3 x16 x17 x18 x19 := rfl

/-- The reference's result at an index, from its bands numbered in order. -/
theorem result_apply (h0 : ∀ b : Fin 42, x7 (ix1 b) = BitVec.ofNat 32 b + BitVec.ofNat 32 0) (h1 : ∀ b : Fin 10, x11 (ix1 b) = BitVec.ofNat 32 b + BitVec.ofNat 32 42)
    (h2 : ∀ b : Fin 7, x15 (ix1 b) = BitVec.ofNat 32 b + BitVec.ofNat 32 52) (h3 : ∀ b : Fin 5, x19 (ix1 b) = BitVec.ofNat 32 b + BitVec.ofNat 32 59)
    (p : Fin 8) (l : Fin 128) (t : Fin 256) (q : Fin 64) :
    val_main_v167 (F := Ideal) x0 x1 x2 x3 x4 x5 x6 x7 x8 x9 x10 x11 x12 x13 x14 x15 x16 x17 x18 x19 (ix4 p l t q)
      = if h : 59 ≤ q.val ∧ q.val < 59 + 5 then bands3 x0 x1 x2 x3 x16 x17 x18 x19 (ix4 p l t ⟨q.val - 59, by omega⟩)
        else if h : 52 ≤ q.val ∧ q.val < 52 + 7 then bands2 x0 x1 x2 x3 x12 x13 x14 x15 (ix4 p l t ⟨q.val - 52, by omega⟩)
        else if h : 42 ≤ q.val ∧ q.val < 42 + 10 then bands1 x0 x1 x2 x3 x8 x9 x10 x11 (ix4 p l t ⟨q.val - 42, by omega⟩)
        else if h : 0 ≤ q.val ∧ q.val < 0 + 42 then bands0 x0 x1 x2 x3 x4 x5 x6 x7 (ix4 p l t ⟨q.val - 0, by omega⟩)
        else val_main_v0 (F := Ideal) (ix4 p l t q) := by
  have e0 := write_apply (n := 42) (first := 0) (by decide) scatter_S8x128x256x64_S42x1_S8x128x256x42_012_3_3_1_wf (val_main_v0 (F := Ideal)) (val_main_v41 (F := Ideal) x7)
    (normal_column (by decide) bcast_S_S42 bcast_S42_S42x1_0 64#32 x7 h0) (val_main_v35 (F := Ideal) x0 x1 x2 x3 x4 x5 x6 x7) p l t q
  have e1 := write_apply (n := 10) (first := 42) (by decide) scatter_S8x128x256x64_S10x1_S8x128x256x10_012_3_3_1_wf (val_main_v42 (F := Ideal) x0 x1 x2 x3 x4 x5 x6 x7) (val_main_v83 (F := Ideal) x11)
    (normal_column (by decide) bcast_S_S10 bcast_S10_S10x1_0 64#32 x11 h1) (val_main_v77 (F := Ideal) x0 x1 x2 x3 x8 x9 x10 x11) p l t q
  have e2 := write_apply (n := 7) (first := 52) (by decide) scatter_S8x128x256x64_S7x1_S8x128x256x7_012_3_3_1_wf (val_main_v84 (F := Ideal) x0 x1 x2 x3 x4 x5 x6 x7 x8 x9 x10 x11) (val_main_v125 (F := Ideal) x15)
    (normal_column (by decide) bcast_S_S7 bcast_S7_S7x1_0 64#32 x15 h2) (val_main_v119 (F := Ideal) x0 x1 x2 x3 x12 x13 x14 x15) p l t q
  have e3 := write_apply (n := 5) (first := 59) (by decide) scatter_S8x128x256x64_S5x1_S8x128x256x5_012_3_3_1_wf (val_main_v126 (F := Ideal) x0 x1 x2 x3 x4 x5 x6 x7 x8 x9 x10 x11 x12 x13 x14 x15) (val_main_v166 (F := Ideal) x19)
    (normal_column (by decide) bcast_S_S5 bcast_S5_S5x1_0 64#32 x19 h3) (val_main_v160 (F := Ideal) x0 x1 x2 x3 x16 x17 x18 x19) p l t q
  rw [bands0_eq] at e0
  rw [bands1_eq] at e1
  rw [bands2_eq] at e2
  rw [bands3_eq] at e3
  refine e3.trans (dite_congr rfl (fun _ => rfl) fun _ => e2.trans (dite_congr rfl (fun _ => rfl) fun _ => e1.trans (dite_congr rfl (fun _ => rfl) fun _ => e0)))

end Cert.ReferenceIdeal.Band

end
-- ==== Proof.Value.lean ====
/-
  The kernel's result is the reference's: band by band, from groups as built.
-/
module

public import proofs.«01_k».proof.Proof.KernelValue
public import proofs.«01_k».proof.Proof.ReferenceValue
public import proofs.«01_k».proof.Proof.Args

@[expose] public section

noncomputable section

namespace Cert.KernelIdeal.Band

open Cert.KernelIdeal
open Cert.KernelIdeal.Gen
open Cert.Bands

open Idealize.ShloMosaic
open Idealize.ShloMosaic.TcCoe
open Idealize.ShloMosaic.ValueIdx

variable (m : (ℓ : Loc nD τ sig) → Buf (Elt Ideal) ℓ)

/-- The groups the launch holds are as built. -/
abbrev Built : Prop := AllBuilt (F := Ideal) (arg m 0 main_arg4) (arg m 0 main_arg6) (arg m 0 main_arg7) (arg m 0 main_arg8) (arg m 0 main_arg10) (arg m 0 main_arg11)
  (arg m 0 main_arg12) (arg m 0 main_arg14) (arg m 0 main_arg15) (arg m 0 main_arg16) (arg m 0 main_arg18) (arg m 0 main_arg19)

variable (h : TablesBelow m) (hb : Built m) (p : Fin 8) (l : Fin 128) (t : Fin 256)

include hb

theorem first_bands (q : Fin 52) :
    tileAt (n := 52) (K := 192) (table0 m) (V12 m 0 main_v3) (V12 m 0 main_v71) (V12 m 0 main_v4) q (row p t) l
      = if hq : q.val < 42 then Cert.ReferenceIdeal.Band.bands0 (arg m 0 main_arg0) (arg m 0 main_arg1) (arg m 0 main_arg2) (arg m 0 main_arg3)
          (arg m 0 main_arg4) (arg m 0 main_arg5) (arg m 0 main_arg6) (arg m 0 main_arg7) (ix4 p l t ⟨q.val, hq⟩)
        else Cert.ReferenceIdeal.Band.bands1 (arg m 0 main_arg0) (arg m 0 main_arg1) (arg m 0 main_arg2) (arg m 0 main_arg3)
          (arg m 0 main_arg8) (arg m 0 main_arg9) (arg m 0 main_arg10) (arg m 0 main_arg11) (ix4 p l t ⟨q.val - 42, by omega⟩) := by
  have hT := table0_apply m q
  rw [start0] at hT
  split
  · rename_i hq
    rw [dif_pos hq] at hT
    exact tile_value hb.g0 (by decide) (by decide) (by decide) _ _ ⟨q.val, hq⟩ (column_apply (hW := by decide) ..) hT
      (fun i k l => (weightsA_apply m 0 q i k l).trans (dif_pos hq)) (fun p i t k => frames_apply m 0 p i t k _ rfl) (bias_apply m 0) p l t
  · rename_i hq
    rw [dif_neg hq] at hT
    exact tile_value hb.g1 (by decide) (by decide) (by decide) _ _ ⟨q.val - 42, by omega⟩ (column_apply (hW := by decide) ..) hT
      (fun i k l => (weightsA_apply m 0 q i k l).trans (dif_neg hq)) (fun p i t k => frames_apply m 0 p i t k _ rfl) (bias_apply m 0) p l t

theorem second_bands (o : Outs (F := Ideal)) (q : Fin 12) :
    tileAt (n := 12) (K := 256) (V23 m o 0 main_v153) (V23 m o 0 main_v3) (V23 m o 0 main_v147) (V23 m o 0 main_v4) q (row p t) l
      = if hq : q.val < 7 then Cert.ReferenceIdeal.Band.bands2 (arg m 0 main_arg0) (arg m 0 main_arg1) (arg m 0 main_arg2) (arg m 0 main_arg3)
          (arg m 0 main_arg12) (arg m 0 main_arg13) (arg m 0 main_arg14) (arg m 0 main_arg15) (ix4 p l t ⟨q.val, hq⟩)
        else Cert.ReferenceIdeal.Band.bands3 (arg m 0 main_arg0) (arg m 0 main_arg1) (arg m 0 main_arg2) (arg m 0 main_arg3)
          (arg m 0 main_arg16) (arg m 0 main_arg17) (arg m 0 main_arg18) (arg m 0 main_arg19) (ix4 p l t ⟨q.val - 7, by omega⟩) := by
  have hX : V23 m o 0 main_v3 = V12 m 0 main_v3 := (keptSecond m o 0 main_v3 (by decide)).v23
  have hB : V23 m o 0 main_v4 = V12 m 0 main_v4 := (keptSecond m o 0 main_v4 (by decide)).v23
  have hT := table1_apply m o q
  rw [start1] at hT
  split
  · rename_i hq
    rw [dif_pos hq] at hT
    exact tile_value hb.g2 (by decide) (by decide) (by decide) _ _ ⟨q.val, hq⟩ (column_apply (hW := by decide) ..) hT
      (fun i k l => (weightsB_apply m o 0 q i k l).trans (dif_pos hq)) (fun p i t k => frames_apply m 0 p i t k _ hX) (fun l => (congrFun hB _).trans (bias_apply m 0 l)) p l t
  · rename_i hq
    rw [dif_neg hq] at hT
    exact tile_value hb.g3 (by decide) (by decide) (by decide) _ _ ⟨q.val - 7, by omega⟩ (column_apply (hW := by decide) ..) hT
      (fun i k l => (weightsB_apply m o 0 q i k l).trans (dif_neg hq)) (fun p i t k => frames_apply m 0 p i t k _ hX) (fun l => (congrFun hB _).trans (bias_apply m 0 l)) p l t

theorem result_eq : (V25 m (outs m h) 0 main_v158 : FVec Ideal S8x128x256x64 .f32)
    = Cert.ReferenceIdeal.Read.val_main_v167 (F := Ideal) (arg m 0 main_arg0) (arg m 0 main_arg1) (arg m 0 main_arg2) (arg m 0 main_arg3) (arg m 0 main_arg4)
      (arg m 0 main_arg5) (arg m 0 main_arg6) (arg m 0 main_arg7) (arg m 0 main_arg8) (arg m 0 main_arg9) (arg m 0 main_arg10) (arg m 0 main_arg11) (arg m 0 main_arg12)
      (arg m 0 main_arg13) (arg m 0 main_arg14) (arg m 0 main_arg15) (arg m 0 main_arg16) (arg m 0 main_arg17) (arg m 0 main_arg18) (arg m 0 main_arg19) := by
  funext y
  obtain ⟨p, l, t, q, rfl⟩ : ∃ (p : Fin 8) (l : Fin 128) (t : Fin 256) (q : Fin 64), y = ix4 p l t q := ⟨y 0, y 1, y 2, y 3, eq_ix4 y⟩
  rw [result_apply, Cert.ReferenceIdeal.Band.result_apply (h0 := hb.g0.number) (h1 := hb.g1.number) (h2 := hb.g2.number) (h3 := hb.g3.number)]
  by_cases h3 : 59 ≤ q.val
  · rw [dif_neg (by omega), dif_pos ⟨h3, by omega⟩]
    refine (second_bands m hb p l t _ ⟨q.val - 52, by omega⟩).trans ((dif_neg (by show ¬ q.val - 52 < 7; omega)).trans ?_)
    exact congrArg _ (congrArg (ix4 p l t) (Fin.ext (by show q.val - 52 - 7 = q.val - 59; omega)))
  by_cases h2 : 52 ≤ q.val
  · rw [dif_neg (by omega), dif_neg (by omega), dif_pos ⟨h2, by omega⟩]
    exact (second_bands m hb p l t _ ⟨q.val - 52, by omega⟩).trans (dif_pos (by show q.val - 52 < 7; omega))
  by_cases h1 : 42 ≤ q.val
  · rw [dif_pos (by omega), dif_neg (by omega), dif_neg (by omega), dif_pos ⟨h1, by omega⟩]
    exact (first_bands m hb p l t ⟨q.val, by omega⟩).trans (dif_neg (by show ¬ q.val < 42; omega))
  · rw [dif_pos (by omega), dif_neg (by omega), dif_neg (by omega), dif_neg (by omega), dif_pos ⟨by omega, by omega⟩]
    exact (first_bands m hb p l t ⟨q.val, by omega⟩).trans (dif_pos (by show q.val < 42; omega))

end Cert.KernelIdeal.Band

end
-- ==== Proof.Algebraic.lean ====
/-
  The two programs' runs from one launch of arguments end with one result.
-/
module

public import proofs.«01_k».proof.Proof.Value
public import proofs.«01_k».proof.Proof.Gen.ReferenceIdeal.Run

@[expose] public section

noncomputable section

namespace Cert.Bands

open Idealize.ShloMosaic

theorem algebraic_kernelIdeal_referenceIdeal : Cert.algebraic_KernelIdeal_ReferenceIdeal := fun m g m' g' hp hm => by
  have hb : Cert.KernelIdeal.Band.Built m := allBuilt_of _ _ _ _ _ _ _ _ _ _ _ _ _ _ _ _ _ _ _ _ (hp 0)
  have ht := Cert.KernelIdeal.Band.tablesBelow_of m hb
  refine ⟨fun c => Cert.KernelIdeal.Gen.V25 m (Cert.KernelIdeal.Band.outs m ht) c (Proc.devRef .tc Cert.KernelIdeal.main_v158),
    (θ_run Cert.KernelIdeal.defs _ _).mono (fun _ h => h.1) (Cert.KernelIdeal.Band.runs_args m ht g),
    (θ_run Cert.ReferenceIdeal.defs _ _).mono (fun _ h c => ⟨(h c).1.trans ?_, (h c).2⟩) (Cert.ReferenceIdeal.Value.run (F := Ideal) m' g')⟩
  rename_i c
  have hc : c = 0 := Cert.KernelIdeal.Band.dev_eq c
  subst hc
  obtain ⟨e0, e1, e2, e3, e4, e5, e6, e7, e8, e9, e10, e11, e12, e13, e14, e15, e16, e17, e18, e19⟩ := hm 0
  refine (Cert.ReferenceIdeal.Read.val_main_v167_eq _).trans (Eq.trans ?_ (Cert.KernelIdeal.Band.result_eq m ht hb).symm)
  simp only [Cert.KernelIdeal.Band.arg, ← e0, ← e1, ← e2, ← e3, ← e4, ← e5, ← e6, ← e7, ← e8, ← e9, ← e10, ← e11, ← e12, ← e13, ← e14, ← e15, ← e16, ← e17, ← e18, ← e19]

end Cert.Bands

end
-- ==== Proof.lean ====
/-
  The claims, each from the module that proves it.
-/
module

public import proofs.«01_k».proof.Defs
public import proofs.«01_k».proof.Proof.Frames
public import proofs.«01_k».proof.Proof.Algebraic
public import proofs.«01_k».proof.Proof.Gen.ReferenceIdeal.Read

@[expose] public section

noncomputable section

namespace Cert.Proof

open Cert.Bands

theorem claim : Cert.Claim :=
  ⟨Cert.Kernel.Gen.facts, Cert.KernelIdeal.Gen.facts, Cert.ReferenceIdeal.Gen.facts, Cert.Pre_bands_as_built.Gen.facts,
    frame_kernel, frame_kernelIdeal, frame_referenceIdeal, frame_referenceIdeal_pre, trivial,
    algebraic_kernelIdeal_referenceIdeal⟩

end Cert.Proof

end
